-- ==== Defs.lean ====
def Pre_Dsa (m : (ℓ : Loc Cert.Dsa.nD Cert.Dsa.τ Cert.Dsa.sig) → Buf (Elt Bits) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbRefIdeal (m : (ℓ : Loc Cert.SbRefIdeal.nD Cert.SbRefIdeal.τ Cert.SbRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Dsa [hDsa : Cert.Dsa.Facts] : Prop :=
  ∀ (m : (ℓ : Loc Cert.Dsa.nD Cert.Dsa.τ Cert.Dsa.sig) → Buf (Elt Bits) ℓ) (g : Dev Cert.Dsa.nD → PrngReg), Pre_Dsa m →
    θ_run (Cert.Dsa.defs (F := Bits)) (onTc (τ := Cert.Dsa.τ) (Cert.Dsa.main (F := Bits))) ⟨m, fun _ => 0, g⟩ (fun r => (∀ c : Dev Cert.Dsa.nD,
      r.2.mem ((c.tc : Thread Cert.Dsa.nD Cert.Dsa.τ).loc Cert.Dsa.main_arg0) = m ((c.tc : Thread Cert.Dsa.nD Cert.Dsa.τ).loc Cert.Dsa.main_arg0)
      ∧ r.2.mem ((c.tc : Thread Cert.Dsa.nD Cert.Dsa.τ).loc Cert.Dsa.main_arg1) = m ((c.tc : Thread Cert.Dsa.nD Cert.Dsa.τ).loc Cert.Dsa.main_arg1)
      ∧ r.2.mem ((c.tc : Thread Cert.Dsa.nD Cert.Dsa.τ).loc Cert.Dsa.main_arg2) = m ((c.tc : Thread Cert.Dsa.nD Cert.Dsa.τ).loc Cert.Dsa.main_arg2)
      ∧ r.2.mem ((c.tc : Thread Cert.Dsa.nD Cert.Dsa.τ).loc Cert.Dsa.main_arg3) = m ((c.tc : Thread Cert.Dsa.nD Cert.Dsa.τ).loc Cert.Dsa.main_arg3)
      ∧ r.2.mem ((c.tc : Thread Cert.Dsa.nD Cert.Dsa.τ).loc Cert.Dsa.main_arg4) = m ((c.tc : Thread Cert.Dsa.nD Cert.Dsa.τ).loc Cert.Dsa.main_arg4)
      ∧ r.2.mem ((c.tc : Thread Cert.Dsa.nD Cert.Dsa.τ).loc Cert.Dsa.main_arg5) = m ((c.tc : Thread Cert.Dsa.nD Cert.Dsa.τ).loc Cert.Dsa.main_arg5)
      ∧ r.2.mem ((c.tc : Thread Cert.Dsa.nD Cert.Dsa.τ).loc Cert.Dsa.main_arg6) = m ((c.tc : Thread Cert.Dsa.nD Cert.Dsa.τ).loc Cert.Dsa.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v11)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v25) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v13)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v43) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Sb_SbIdeal : Prop :=
  IdealRules.named_const.Statement Cert.SbIdeal.κ "neg_log2e" .f32 0xBFB8AA3B#32 ((-((Real.log 2)⁻¹) : ℝ) : EReal)
  ∧ IdealRules.named_const.Statement Cert.SbIdeal.κ "log2e" .f32 0x3FB8AA3B#32 (((Real.log 2)⁻¹ : ℝ) : EReal)

def algebraic_SbIdeal_SbRefIdeal [hSbIdeal : Cert.SbIdeal.Facts] [hSbRefIdeal : Cert.SbRefIdeal.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)
      ∧ m' ((c.tc : Thread Cert.SbRefIdeal.nD Cert.SbRefIdeal.τ).loc Cert.SbRefIdeal.main_arg2) = m ((c.tc : Thread Cert.SbIdeal.nD Cert.SbIdeal.τ).loc Cert.SbIdeal.main_arg2)) →
    ∃ (v0 : (c : Dev Cert.SbIdeal.nD) → Buf (Elt Ideal) ((c.tc : Thread Cert.SbIdeal.nD Cert.SbIdeal.τ).loc Cert.SbIdeal.main_v7)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v7) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v25) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v47_6)) (v1 : (c : Dev Cert.ProjIdeal.nD) → Buf (Elt Ideal) ((c.tc : Thread Cert.ProjIdeal.nD Cert.ProjIdeal.τ).loc Cert.ProjIdeal.main_v47_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v47_6) = v0 c
          ∧ r.2.mem ((c.tc : Thread Cert.ProjIdeal.nD Cert.ProjIdeal.τ).loc Cert.ProjIdeal.main_v47_7) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v22) = v0 c
          ∧ r.2.mem ((c.tc : Thread Cert.ProjRefIdeal.nD Cert.ProjRefIdeal.τ).loc Cert.ProjRefIdeal.main_v24) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8))

def Claim : Prop :=
  ∃ (hDsa : Cert.Dsa.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hSb : Cert.Sb.Facts) (hSbIdeal : Cert.SbIdeal.Facts) (hSbRefIdeal : Cert.SbRefIdeal.Facts) (hProj : Cert.Proj.Facts) (hProjIdeal : Cert.ProjIdeal.Facts) (hProjRefIdeal : Cert.ProjRefIdeal.Facts),
    quiescent_Dsa (hDsa := hDsa)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Sb (hSb := hSb)
    ∧ quiescent_SbIdeal (hSbIdeal := hSbIdeal)
    ∧ quiescent_SbRefIdeal (hSbRefIdeal := hSbRefIdeal)
    ∧ quiescent_Proj (hProj := hProj)
    ∧ quiescent_ProjIdeal (hProjIdeal := hProjIdeal)
    ∧ quiescent_ProjRefIdeal (hProjRefIdeal := hProjRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Sb_SbIdeal
    ∧ algebraic_SbIdeal_SbRefIdeal (hSbIdeal := hSbIdeal) (hSbRefIdeal := hSbRefIdeal)
    ∧ preserves_Proj_ProjIdeal
    ∧ algebraic_ProjIdeal_ProjRefIdeal (hProjIdeal := hProjIdeal) (hProjRefIdeal := hProjRefIdeal)
-- ==== Dsa.lean ====
abbrev S512x32768 : Shape := ⟨2, ![512, 32768]⟩
abbrev S128x32768 : Shape := ⟨2, ![128, 32768]⟩
abbrev S32768x128 : Shape := ⟨2, ![32768, 128]⟩
abbrev S144x32768 : Shape := ⟨2, ![144, 32768]⟩
abbrev S1x8x128x64 : Shape := ⟨4, ![1, 8, 128, 64]⟩
abbrev S8x128x64 : Shape := ⟨3, ![8, 128, 64]⟩
abbrev S8x64x128 : Shape := ⟨3, ![8, 64, 128]⟩
abbrev S8x4096x512 : Shape := ⟨3, ![8, 4096, 512]⟩
abbrev S512x256 : Shape := ⟨2, ![512, 256]⟩
abbrev S128x256 : Shape := ⟨2, ![128, 256]⟩
abbrev S4096x128 : Shape := ⟨2, ![4096, 128]⟩
abbrev S144x4096 : Shape := ⟨2, ![144, 4096]⟩
abbrev S1x256x512 : Shape := ⟨3, ![1, 256, 512]⟩
abbrev S4096x256 : Shape := ⟨2, ![4096, 256]⟩
abbrev S128x2048 : Shape := ⟨2, ![128, 2048]⟩
abbrev S144x2048 : Shape := ⟨2, ![144, 2048]⟩
abbrev S8x256 : Shape := ⟨2, ![8, 256]⟩
abbrev S1x256 : Shape := ⟨2, ![1, 256]⟩
abbrev S256x128 : Shape := ⟨2, ![256, 128]⟩
abbrev S256x2048 : Shape := ⟨2, ![256, 2048]⟩
abbrev S256x256 : Shape := ⟨2, ![256, 256]⟩
abbrev S256x1 : Shape := ⟨2, ![256, 1]⟩
abbrev S32x16x256 : Shape := ⟨3, ![32, 16, 256]⟩
abbrev S1x16x256 : Shape := ⟨3, ![1, 16, 256]⟩
abbrev S16x256 : Shape := ⟨2, ![16, 256]⟩
abbrev S256 : Shape := ⟨1, ![256]⟩
abbrev S8x8x8x256 : Shape := ⟨4, ![8, 8, 8, 256]⟩
abbrev S8x8x256 : Shape := ⟨3, ![8, 8, 256]⟩
abbrev S1x1x256 : Shape := ⟨3, ![1, 1, 256]⟩
abbrev S1 : Shape := ⟨1, ![1]⟩
abbrev S1x1x1 : Shape := ⟨3, ![1, 1, 1]⟩
abbrev S512x1 : Shape := ⟨2, ![512, 1]⟩
abbrev S1x2048 : Shape := ⟨2, ![1, 2048]⟩
abbrev S512x128 : Shape := ⟨2, ![512, 128]⟩
abbrev S512x2048 : Shape := ⟨2, ![512, 2048]⟩
abbrev S2048 : Shape := ⟨1, ![2048]⟩
abbrev S144x512 : Shape := ⟨2, ![144, 512]⟩
abbrev S1x64x128 : Shape := ⟨3, ![1, 64, 128]⟩
abbrev S64x128 : Shape := ⟨2, ![64, 128]⟩
abbrev S64x256 : Shape := ⟨2, ![64, 256]⟩
abbrev S256x512 : Shape := ⟨2, ![256, 512]⟩

abbrev nBuf : Space → Nat
  | .hbm => 11
  | .vmem => 22
  | .smem => 0
  | _ => 0

abbrev bufTy : (tb : Table) → Fin (tcTables nBuf tb) → BufTy
  | .hbm, ⟨0, _⟩ => ⟨S512x32768, .bf16⟩
  | .hbm, ⟨1, _⟩ => ⟨S128x32768, .f32⟩
  | .hbm, ⟨2, _⟩ => ⟨S512x32768, .bf16⟩
  | .hbm, ⟨3, _⟩ => ⟨S32768x128, .bf16⟩
  | .hbm, ⟨4, _⟩ => ⟨S32768x128, .bf16⟩
  | .hbm, ⟨5, _⟩ => ⟨S144x32768, .bf16⟩
  | .hbm, ⟨6, _⟩ => ⟨S1x8x128x64, .f32⟩
  | .hbm, ⟨7, _⟩ => ⟨S8x128x64, .f32⟩
  | .hbm, ⟨8, _⟩ => ⟨S8x64x128, .f32⟩
  | .hbm, ⟨9, _⟩ => ⟨S8x64x128, .bf16⟩
  | .hbm, ⟨10, _⟩ => ⟨S8x4096x512, .bf16⟩
  | .local _ .vmem, ⟨0, _⟩ => ⟨S512x256, .bf16⟩
  | .local _ .vmem, ⟨1, _⟩ => ⟨S512x256, .bf16⟩
  | .local _ .vmem, ⟨2, _⟩ => ⟨S128x256, .f32⟩
  | .local _ .vmem, ⟨3, _⟩ => ⟨S128x256, .f32⟩
  | .local _ .vmem, ⟨4, _⟩ => ⟨S512x256, .bf16⟩
  | .local _ .vmem, ⟨5, _⟩ => ⟨S512x256, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S144x4096, .bf16⟩
  | .local _ .vmem, ⟨11, _⟩ => ⟨S144x4096, .bf16⟩
  | .local _ .vmem, ⟨12, _⟩ => ⟨S8x64x128, .bf16⟩
  | .local _ .vmem, ⟨13, _⟩ => ⟨S1x256x512, .bf16⟩
  | .local _ .vmem, ⟨14, _⟩ => ⟨S1x256x512, .bf16⟩
  | .local _ .vmem, ⟨15, _⟩ => ⟨S4096x256, .i32⟩
  | .local _ .vmem, ⟨16, _⟩ => ⟨S128x2048, .bf16⟩
  | .local _ .vmem, ⟨17, _⟩ => ⟨S128x2048, .bf16⟩
  | .local _ .vmem, ⟨18, _⟩ => ⟨S144x2048, .f32⟩
  | .local _ .vmem, ⟨19, _⟩ => ⟨S4096x256, .bf16⟩
  | .local _ .vmem, ⟨20, _⟩ => ⟨S8x256, .i32⟩
  | .local _ .vmem, ⟨21, _⟩ => ⟨S8x256, .f32⟩
  | _, _ => ⟨S512x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨2, ![8, 16], ![false, false]⟩

@[reducible] def k0_t1_loop (i : grid0.Coords) : Scf.Loop 32 :=
  let c0_i32_81 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v131 : BitVec 32 := Scalar.subi v20 c0_i32_81
  let c1_i32_82 : BitVec 32 := 1#32
  let v133 : BitVec 32 := Scalar.divsi v131 c1_i32_82
  let v134 : BitVec 32 := Scalar.muli v133 c1_i32_82
  let v135 : BitVec 32 := Scalar.addi c0_i32_81 v134
  let c1_i32_83 : BitVec 32 := 1#32
  ⟨c0_i32_81, v135, c1_i32_83⟩
def k0_mult1 (i : grid0.Coords) (k0_t1 : Fin (k0_t1_loop i).trips) : BitVec 32 :=
  let c2_i32 : BitVec 32 := 2#32
  let c0_i32_81 : BitVec 32 := 0#32
  let c1_i32_83 : BitVec 32 := 1#32
  let arg17 : BitVec 32 := Scf.iv c0_i32_81 c1_i32_83 k0_t1
  let v204 : BitVec 32 := Scalar.muli c2_i32 arg17
  let c256_i32_135 : BitVec 32 := 256#32
  let v205 : BitVec 32 := Scalar.muli v204 c256_i32_135
  v205
def k0_off1 (i : grid0.Coords) (k0_t1 : Fin (k0_t1_loop i).trips) : Fin 2 → Nat :=
  let c2_i32 : BitVec 32 := 2#32
  let c0_i32_81 : BitVec 32 := 0#32
  let c1_i32_83 : BitVec 32 := 1#32
  let arg17 : BitVec 32 := Scf.iv c0_i32_81 c1_i32_83 k0_t1
  let v204 : BitVec 32 := Scalar.muli c2_i32 arg17
  let c256_i32_135 : BitVec 32 := 256#32
  let v205 : BitVec 32 := Scalar.muli v204 c256_i32_135
  let v206 : BitVec 32 := v205
  let v207 : Index := Scalar.indexCast v206
  let c0_136 : Index := 0#32
  ![v207.toNat, 0]
def k0_mult2 (i : grid0.Coords) (k0_t1 : Fin (k0_t1_loop i).trips) : BitVec 32 :=
  let c2_i32 : BitVec 32 := 2#32
  let c0_i32_81 : BitVec 32 := 0#32
  let c1_i32_83 : BitVec 32 := 1#32
  let arg17 : BitVec 32 := Scf.iv c0_i32_81 c1_i32_83 k0_t1
  let v204 : BitVec 32 := Scalar.muli c2_i32 arg17
  let c256_i32_168 : BitVec 32 := 256#32
  let v288 : BitVec 32 := Scalar.muli v204 c256_i32_168
  v288
def k0_off2 (i : grid0.Coords) (k0_t1 : Fin (k0_t1_loop i).trips) : Fin 2 → Nat :=
  let c2_i32 : BitVec 32 := 2#32
  let c0_i32_81 : BitVec 32 := 0#32
  let c1_i32_83 : BitVec 32 := 1#32
  let arg17 : BitVec 32 := Scf.iv c0_i32_81 c1_i32_83 k0_t1
  let v204 : BitVec 32 := Scalar.muli c2_i32 arg17
  let c256_i32_168 : BitVec 32 := 256#32
  let v288 : BitVec 32 := Scalar.muli v204 c256_i32_168
  let v289 : BitVec 32 := v288
  let v290 : Index := Scalar.indexCast v289
  let c0_169 : Index := 0#32
  ![v290.toNat, 0]
def k0_mult3 (i : grid0.Coords) (k0_t1 : Fin (k0_t1_loop i).trips) : BitVec 32 :=
  let c2_i32 : BitVec 32 := 2#32
  let c0_i32_81 : BitVec 32 := 0#32
  let c1_i32_83 : BitVec 32 := 1#32
  let arg17 : BitVec 32 := Scf.iv c0_i32_81 c1_i32_83 k0_t1
  let v204 : BitVec 32 := Scalar.muli c2_i32 arg17
  let c256_i32_171 : BitVec 32 := 256#32
  let v300 : BitVec 32 := Scalar.muli v204 c256_i32_171
  v300
def k0_mult4 (i : grid0.Coords) (k0_t1 : Fin (k0_t1_loop i).trips) : BitVec 32 :=
  let c2_i32_173 : BitVec 32 := 2#32
  let c0_i32_81 : BitVec 32 := 0#32
  let c1_i32_83 : BitVec 32 := 1#32
  let arg17 : BitVec 32 := Scf.iv c0_i32_81 c1_i32_83 k0_t1
  let v306 : BitVec 32 := Scalar.muli c2_i32_173 arg17
  let c1_i32_174 : BitVec 32 := 1#32
  let v307 : BitVec 32 := Scalar.addi v306 c1_i32_174
  let c256_i32_175 : BitVec 32 := 256#32
  let v308 : BitVec 32 := Scalar.muli v307 c256_i32_175
  v308
def k0_off3 (i : grid0.Coords) (k0_t1 : Fin (k0_t1_loop i).trips) : Fin 2 → Nat :=
  let c2_i32_173 : BitVec 32 := 2#32
  let c0_i32_81 : BitVec 32 := 0#32
  let c1_i32_83 : BitVec 32 := 1#32
  let arg17 : BitVec 32 := Scf.iv c0_i32_81 c1_i32_83 k0_t1
  let v306 : BitVec 32 := Scalar.muli c2_i32_173 arg17
  let c1_i32_174 : BitVec 32 := 1#32
  let v307 : BitVec 32 := Scalar.addi v306 c1_i32_174
  let c256_i32_175 : BitVec 32 := 256#32
  let v308 : BitVec 32 := Scalar.muli v307 c256_i32_175
  let v309 : BitVec 32 := v308
  let v310 : Index := Scalar.indexCast v309
  let c0_176 : Index := 0#32
  ![v310.toNat, 0]
def k0_mult5 (i : grid0.Coords) (k0_t1 : Fin (k0_t1_loop i).trips) : BitVec 32 :=
  let c2_i32_173 : BitVec 32 := 2#32
  let c0_i32_81 : BitVec 32 := 0#32
  let c1_i32_83 : BitVec 32 := 1#32
  let arg17 : BitVec 32 := Scf.iv c0_i32_81 c1_i32_83 k0_t1
  let v306 : BitVec 32 := Scalar.muli c2_i32_173 arg17
  let c1_i32_174 : BitVec 32 := 1#32
  let v307 : BitVec 32 := Scalar.addi v306 c1_i32_174
  let c256_i32_211 : BitVec 32 := 256#32
  let v391 : BitVec 32 := Scalar.muli v307 c256_i32_211
  v391
def k0_off4 (i : grid0.Coords) (k0_t1 : Fin (k0_t1_loop i).trips) : Fin 2 → Nat :=
  let c2_i32_173 : BitVec 32 := 2#32
  let c0_i32_81 : BitVec 32 := 0#32
  let c1_i32_83 : BitVec 32 := 1#32
  let arg17 : BitVec 32 := Scf.iv c0_i32_81 c1_i32_83 k0_t1
  let v306 : BitVec 32 := Scalar.muli c2_i32_173 arg17
  let c1_i32_174 : BitVec 32 := 1#32
  let v307 : BitVec 32 := Scalar.addi v306 c1_i32_174
  let c256_i32_211 : BitVec 32 := 256#32
  let v391 : BitVec 32 := Scalar.muli v307 c256_i32_211
  let v392 : BitVec 32 := v391
  let v393 : Index := Scalar.indexCast v392
  let c0_212 : Index := 0#32
  ![v393.toNat, 0]
def k0_mult6 (i : grid0.Coords) (k0_t1 : Fin (k0_t1_loop i).trips) : BitVec 32 :=
  let c2_i32_173 : BitVec 32 := 2#32
  let c0_i32_81 : BitVec 32 := 0#32
  let c1_i32_83 : BitVec 32 := 1#32
  let arg17 : BitVec 32 := Scf.iv c0_i32_81 c1_i32_83 k0_t1
  let v306 : BitVec 32 := Scalar.muli c2_i32_173 arg17
  let c1_i32_174 : BitVec 32 := 1#32
  let v307 : BitVec 32 := Scalar.addi v306 c1_i32_174
  let c256_i32_215 : BitVec 32 := 256#32
  let v403 : BitVec 32 := Scalar.muli v307 c256_i32_215
  v403
@[reducible] def k0_t2_loop (i : grid0.Coords) : Scf.Loop 32 :=
  let c0_i32_81 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v131 : BitVec 32 := Scalar.subi v20 c0_i32_81
  let c1_i32_82 : BitVec 32 := 1#32
  let v133 : BitVec 32 := Scalar.divsi v131 c1_i32_82
  let v134 : BitVec 32 := Scalar.muli v133 c1_i32_82
  let v135 : BitVec 32 := Scalar.addi c0_i32_81 v134
  let v132 : BitVec 32 := Scalar.addi c0_i32_81 v131
  let c1_i32_84 : BitVec 32 := 1#32
  ⟨v135, v132, c1_i32_84⟩
def k0_mult7 (i : grid0.Coords) (k0_t2 : Fin (k0_t2_loop i).trips) : BitVec 32 :=
  let c2_i32 : BitVec 32 := 2#32
  let c0_i32_81 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v131 : BitVec 32 := Scalar.subi v20 c0_i32_81
  let c1_i32_82 : BitVec 32 := 1#32
  let v133 : BitVec 32 := Scalar.divsi v131 c1_i32_82
  let v134 : BitVec 32 := Scalar.muli v133 c1_i32_82
  let v135 : BitVec 32 := Scalar.addi c0_i32_81 v134
  let c1_i32_84 : BitVec 32 := 1#32
  let arg17 : BitVec 32 := Scf.iv v135 c1_i32_84 k0_t2
  let v204 : BitVec 32 := Scalar.muli c2_i32 arg17
  let c256_i32_135 : BitVec 32 := 256#32
  let v205 : BitVec 32 := Scalar.muli v204 c256_i32_135
  v205
def k0_off5 (i : grid0.Coords) (k0_t2 : Fin (k0_t2_loop i).trips) : Fin 2 → Nat :=
  let c2_i32 : BitVec 32 := 2#32
  let c0_i32_81 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v131 : BitVec 32 := Scalar.subi v20 c0_i32_81
  let c1_i32_82 : BitVec 32 := 1#32
  let v133 : BitVec 32 := Scalar.divsi v131 c1_i32_82
  let v134 : BitVec 32 := Scalar.muli v133 c1_i32_82
  let v135 : BitVec 32 := Scalar.addi c0_i32_81 v134
  let c1_i32_84 : BitVec 32 := 1#32
  let arg17 : BitVec 32 := Scf.iv v135 c1_i32_84 k0_t2
  let v204 : BitVec 32 := Scalar.muli c2_i32 arg17
  let c256_i32_135 : BitVec 32 := 256#32
  let v205 : BitVec 32 := Scalar.muli v204 c256_i32_135
  let v206 : BitVec 32 := v205
  let v207 : Index := Scalar.indexCast v206
  let c0_136 : Index := 0#32
  ![v207.toNat, 0]
def k0_mult8 (i : grid0.Coords) (k0_t2 : Fin (k0_t2_loop i).trips) : BitVec 32 :=
  let c2_i32 : BitVec 32 := 2#32
  let c0_i32_81 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v131 : BitVec 32 := Scalar.subi v20 c0_i32_81
  let c1_i32_82 : BitVec 32 := 1#32
  let v133 : BitVec 32 := Scalar.divsi v131 c1_i32_82
  let v134 : BitVec 32 := Scalar.muli v133 c1_i32_82
  let v135 : BitVec 32 := Scalar.addi c0_i32_81 v134
  let c1_i32_84 : BitVec 32 := 1#32
  let arg17 : BitVec 32 := Scf.iv v135 c1_i32_84 k0_t2
  let v204 : BitVec 32 := Scalar.muli c2_i32 arg17
  let c256_i32_168 : BitVec 32 := 256#32
  let v288 : BitVec 32 := Scalar.muli v204 c256_i32_168
  v288
def k0_off6 (i : grid0.Coords) (k0_t2 : Fin (k0_t2_loop i).trips) : Fin 2 → Nat :=
  let c2_i32 : BitVec 32 := 2#32
  let c0_i32_81 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v131 : BitVec 32 := Scalar.subi v20 c0_i32_81
  let c1_i32_82 : BitVec 32 := 1#32
  let v133 : BitVec 32 := Scalar.divsi v131 c1_i32_82
  let v134 : BitVec 32 := Scalar.muli v133 c1_i32_82
  let v135 : BitVec 32 := Scalar.addi c0_i32_81 v134
  let c1_i32_84 : BitVec 32 := 1#32
  let arg17 : BitVec 32 := Scf.iv v135 c1_i32_84 k0_t2
  let v204 : BitVec 32 := Scalar.muli c2_i32 arg17
  let c256_i32_168 : BitVec 32 := 256#32
  let v288 : BitVec 32 := Scalar.muli v204 c256_i32_168
  let v289 : BitVec 32 := v288
  let v290 : Index := Scalar.indexCast v289
  let c0_169 : Index := 0#32
  ![v290.toNat, 0]
def k0_mult9 (i : grid0.Coords) (k0_t2 : Fin (k0_t2_loop i).trips) : BitVec 32 :=
  let c2_i32 : BitVec 32 := 2#32
  let c0_i32_81 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v131 : BitVec 32 := Scalar.subi v20 c0_i32_81
  let c1_i32_82 : BitVec 32 := 1#32
  let v133 : BitVec 32 := Scalar.divsi v131 c1_i32_82
  let v134 : BitVec 32 := Scalar.muli v133 c1_i32_82
  let v135 : BitVec 32 := Scalar.addi c0_i32_81 v134
  let c1_i32_84 : BitVec 32 := 1#32
  let arg17 : BitVec 32 := Scf.iv v135 c1_i32_84 k0_t2
  let v204 : BitVec 32 := Scalar.muli c2_i32 arg17
  let c256_i32_171 : BitVec 32 := 256#32
  let v300 : BitVec 32 := Scalar.muli v204 c256_i32_171
  v300
def k0_mult10 (i : grid0.Coords) (k0_t2 : Fin (k0_t2_loop i).trips) : BitVec 32 :=
  let c2_i32_173 : BitVec 32 := 2#32
  let c0_i32_81 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v131 : BitVec 32 := Scalar.subi v20 c0_i32_81
  let c1_i32_82 : BitVec 32 := 1#32
  let v133 : BitVec 32 := Scalar.divsi v131 c1_i32_82
  let v134 : BitVec 32 := Scalar.muli v133 c1_i32_82
  let v135 : BitVec 32 := Scalar.addi c0_i32_81 v134
  let c1_i32_84 : BitVec 32 := 1#32
  let arg17 : BitVec 32 := Scf.iv v135 c1_i32_84 k0_t2
  let v306 : BitVec 32 := Scalar.muli c2_i32_173 arg17
  let c1_i32_174 : BitVec 32 := 1#32
  let v307 : BitVec 32 := Scalar.addi v306 c1_i32_174
  let c256_i32_175 : BitVec 32 := 256#32
  let v308 : BitVec 32 := Scalar.muli v307 c256_i32_175
  v308
def k0_off7 (i : grid0.Coords) (k0_t2 : Fin (k0_t2_loop i).trips) : Fin 2 → Nat :=
  let c2_i32_173 : BitVec 32 := 2#32
  let c0_i32_81 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v131 : BitVec 32 := Scalar.subi v20 c0_i32_81
  let c1_i32_82 : BitVec 32 := 1#32
  let v133 : BitVec 32 := Scalar.divsi v131 c1_i32_82
  let v134 : BitVec 32 := Scalar.muli v133 c1_i32_82
  let v135 : BitVec 32 := Scalar.addi c0_i32_81 v134
  let c1_i32_84 : BitVec 32 := 1#32
  let arg17 : BitVec 32 := Scf.iv v135 c1_i32_84 k0_t2
  let v306 : BitVec 32 := Scalar.muli c2_i32_173 arg17
  let c1_i32_174 : BitVec 32 := 1#32
  let v307 : BitVec 32 := Scalar.addi v306 c1_i32_174
  let c256_i32_175 : BitVec 32 := 256#32
  let v308 : BitVec 32 := Scalar.muli v307 c256_i32_175
  let v309 : BitVec 32 := v308
  let v310 : Index := Scalar.indexCast v309
  let c0_176 : Index := 0#32
  ![v310.toNat, 0]
def k0_mult11 (i : grid0.Coords) (k0_t2 : Fin (k0_t2_loop i).trips) : BitVec 32 :=
  let c2_i32_173 : BitVec 32 := 2#32
  let c0_i32_81 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v131 : BitVec 32 := Scalar.subi v20 c0_i32_81
  let c1_i32_82 : BitVec 32 := 1#32
  let v133 : BitVec 32 := Scalar.divsi v131 c1_i32_82
  let v134 : BitVec 32 := Scalar.muli v133 c1_i32_82
  let v135 : BitVec 32 := Scalar.addi c0_i32_81 v134
  let c1_i32_84 : BitVec 32 := 1#32
  let arg17 : BitVec 32 := Scf.iv v135 c1_i32_84 k0_t2
  let v306 : BitVec 32 := Scalar.muli c2_i32_173 arg17
  let c1_i32_174 : BitVec 32 := 1#32
  let v307 : BitVec 32 := Scalar.addi v306 c1_i32_174
  let c256_i32_211 : BitVec 32 := 256#32
  let v391 : BitVec 32 := Scalar.muli v307 c256_i32_211
  v391
def k0_off8 (i : grid0.Coords) (k0_t2 : Fin (k0_t2_loop i).trips) : Fin 2 → Nat :=
  let c2_i32_173 : BitVec 32 := 2#32
  let c0_i32_81 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v131 : BitVec 32 := Scalar.subi v20 c0_i32_81
  let c1_i32_82 : BitVec 32 := 1#32
  let v133 : BitVec 32 := Scalar.divsi v131 c1_i32_82
  let v134 : BitVec 32 := Scalar.muli v133 c1_i32_82
  let v135 : BitVec 32 := Scalar.addi c0_i32_81 v134
  let c1_i32_84 : BitVec 32 := 1#32
  let arg17 : BitVec 32 := Scf.iv v135 c1_i32_84 k0_t2
  let v306 : BitVec 32 := Scalar.muli c2_i32_173 arg17
  let c1_i32_174 : BitVec 32 := 1#32
  let v307 : BitVec 32 := Scalar.addi v306 c1_i32_174
  let c256_i32_211 : BitVec 32 := 256#32
  let v391 : BitVec 32 := Scalar.muli v307 c256_i32_211
  let v392 : BitVec 32 := v391
  let v393 : Index := Scalar.indexCast v392
  let c0_212 : Index := 0#32
  ![v393.toNat, 0]
def k0_mult12 (i : grid0.Coords) (k0_t2 : Fin (k0_t2_loop i).trips) : BitVec 32 :=
  let c2_i32_173 : BitVec 32 := 2#32
  let c0_i32_81 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v131 : BitVec 32 := Scalar.subi v20 c0_i32_81
  let c1_i32_82 : BitVec 32 := 1#32
  let v133 : BitVec 32 := Scalar.divsi v131 c1_i32_82
  let v134 : BitVec 32 := Scalar.muli v133 c1_i32_82
  let v135 : BitVec 32 := Scalar.addi c0_i32_81 v134
  let c1_i32_84 : BitVec 32 := 1#32
  let arg17 : BitVec 32 := Scf.iv v135 c1_i32_84 k0_t2
  let v306 : BitVec 32 := Scalar.muli c2_i32_173 arg17
  let c1_i32_174 : BitVec 32 := 1#32
  let v307 : BitVec 32 := Scalar.addi v306 c1_i32_174
  let c256_i32_215 : BitVec 32 := 256#32
  let v403 : BitVec 32 := Scalar.muli v307 c256_i32_215
  v403
def k0_cond1 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_85 : BitVec 32 := 1#32
  let v136 : BitVec 32 := Scalar.subi v20 c1_i32_85
  let c0_i32_86 : BitVec 32 := 0#32
  let v137 : BitVec 32 := Scalar.maxsi v136 c0_i32_86
  let c7_i32 : BitVec 32 := 7#32
  let v138 : BitVec 32 := Scalar.minsi v137 c7_i32
  let c0_i32_87 : BitVec 32 := 0#32
  let v139 : BitVec 1 := Scalar.cmpi .ne v138 c0_i32_87
  v139

def k0_cond2 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_85 : BitVec 32 := 1#32
  let v136 : BitVec 32 := Scalar.subi v20 c1_i32_85
  let c0_i32_86 : BitVec 32 := 0#32
  let v137 : BitVec 32 := Scalar.maxsi v136 c0_i32_86
  let c7_i32 : BitVec 32 := 7#32
  let v138 : BitVec 32 := Scalar.minsi v137 c7_i32
  let c1_i32_135 : BitVec 32 := 1#32
  let v204 : BitVec 32 := Scalar.subi v138 c1_i32_135
  let c0_i32_136 : BitVec 32 := 0#32
  let v205 : BitVec 1 := Scalar.cmpi .ne v204 c0_i32_136
  v205

def k0_cond3 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_85 : BitVec 32 := 1#32
  let v136 : BitVec 32 := Scalar.subi v20 c1_i32_85
  let c0_i32_86 : BitVec 32 := 0#32
  let v137 : BitVec 32 := Scalar.maxsi v136 c0_i32_86
  let c7_i32 : BitVec 32 := 7#32
  let v138 : BitVec 32 := Scalar.minsi v137 c7_i32
  let c1_i32_135 : BitVec 32 := 1#32
  let v204 : BitVec 32 := Scalar.subi v138 c1_i32_135
  let c1_i32_137 : BitVec 32 := 1#32
  let v206 : BitVec 32 := Scalar.subi v204 c1_i32_137
  let c0_i32_138 : BitVec 32 := 0#32
  let v207 : BitVec 1 := Scalar.cmpi .ne v206 c0_i32_138
  v207

def k0_cond4 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_85 : BitVec 32 := 1#32
  let v136 : BitVec 32 := Scalar.subi v20 c1_i32_85
  let c0_i32_86 : BitVec 32 := 0#32
  let v137 : BitVec 32 := Scalar.maxsi v136 c0_i32_86
  let c7_i32 : BitVec 32 := 7#32
  let v138 : BitVec 32 := Scalar.minsi v137 c7_i32
  let c1_i32_135 : BitVec 32 := 1#32
  let v204 : BitVec 32 := Scalar.subi v138 c1_i32_135
  let c1_i32_137 : BitVec 32 := 1#32
  let v206 : BitVec 32 := Scalar.subi v204 c1_i32_137
  let c1_i32_139 : BitVec 32 := 1#32
  let v208 : BitVec 32 := Scalar.subi v206 c1_i32_139
  let c0_i32_140 : BitVec 32 := 0#32
  let v209 : BitVec 1 := Scalar.cmpi .ne v208 c0_i32_140
  v209

def k0_cond5 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_85 : BitVec 32 := 1#32
  let v136 : BitVec 32 := Scalar.subi v20 c1_i32_85
  let c0_i32_86 : BitVec 32 := 0#32
  let v137 : BitVec 32 := Scalar.maxsi v136 c0_i32_86
  let c7_i32 : BitVec 32 := 7#32
  let v138 : BitVec 32 := Scalar.minsi v137 c7_i32
  let c1_i32_135 : BitVec 32 := 1#32
  let v204 : BitVec 32 := Scalar.subi v138 c1_i32_135
  let c1_i32_137 : BitVec 32 := 1#32
  let v206 : BitVec 32 := Scalar.subi v204 c1_i32_137
  let c1_i32_139 : BitVec 32 := 1#32
  let v208 : BitVec 32 := Scalar.subi v206 c1_i32_139
  let c1_i32_141 : BitVec 32 := 1#32
  let v210 : BitVec 32 := Scalar.subi v208 c1_i32_141
  let c0_i32_142 : BitVec 32 := 0#32
  let v211 : BitVec 1 := Scalar.cmpi .ne v210 c0_i32_142
  v211

def k0_cond6 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_85 : BitVec 32 := 1#32
  let v136 : BitVec 32 := Scalar.subi v20 c1_i32_85
  let c0_i32_86 : BitVec 32 := 0#32
  let v137 : BitVec 32 := Scalar.maxsi v136 c0_i32_86
  let c7_i32 : BitVec 32 := 7#32
  let v138 : BitVec 32 := Scalar.minsi v137 c7_i32
  let c1_i32_135 : BitVec 32 := 1#32
  let v204 : BitVec 32 := Scalar.subi v138 c1_i32_135
  let c1_i32_137 : BitVec 32 := 1#32
  let v206 : BitVec 32 := Scalar.subi v204 c1_i32_137
  let c1_i32_139 : BitVec 32 := 1#32
  let v208 : BitVec 32 := Scalar.subi v206 c1_i32_139
  let c1_i32_141 : BitVec 32 := 1#32
  let v210 : BitVec 32 := Scalar.subi v208 c1_i32_141
  let c1_i32_143 : BitVec 32 := 1#32
  let v212 : BitVec 32 := Scalar.subi v210 c1_i32_143
  let c0_i32_144 : BitVec 32 := 0#32
  let v213 : BitVec 1 := Scalar.cmpi .ne v212 c0_i32_144
  v213

def k0_cond7 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_85 : BitVec 32 := 1#32
  let v136 : BitVec 32 := Scalar.subi v20 c1_i32_85
  let c0_i32_86 : BitVec 32 := 0#32
  let v137 : BitVec 32 := Scalar.maxsi v136 c0_i32_86
  let c7_i32 : BitVec 32 := 7#32
  let v138 : BitVec 32 := Scalar.minsi v137 c7_i32
  let c1_i32_135 : BitVec 32 := 1#32
  let v204 : BitVec 32 := Scalar.subi v138 c1_i32_135
  let c1_i32_137 : BitVec 32 := 1#32
  let v206 : BitVec 32 := Scalar.subi v204 c1_i32_137
  let c1_i32_139 : BitVec 32 := 1#32
  let v208 : BitVec 32 := Scalar.subi v206 c1_i32_139
  let c1_i32_141 : BitVec 32 := 1#32
  let v210 : BitVec 32 := Scalar.subi v208 c1_i32_141
  let c1_i32_143 : BitVec 32 := 1#32
  let v212 : BitVec 32 := Scalar.subi v210 c1_i32_143
  let c1_i32_145 : BitVec 32 := 1#32
  let v214 : BitVec 32 := Scalar.subi v212 c1_i32_145
  let c0_i32_146 : BitVec 32 := 0#32
  let v215 : BitVec 1 := Scalar.cmpi .ne v214 c0_i32_146
  v215

@[reducible] def k0_t3_loop : Scf.Loop 32 :=
  let c0_i32_148 : BitVec 32 := 0#32
  let c16_i32 : BitVec 32 := 16#32
  let v217 : BitVec 32 := Scalar.addi c0_i32_148 c16_i32
  let c1_i32_149 : BitVec 32 := 1#32
  ⟨c0_i32_148, v217, c1_i32_149⟩
@[reducible] def k0_t4_loop : Scf.Loop 32 :=
  let c16_i32_151 : BitVec 32 := 16#32
  let c16_i32_152 : BitVec 32 := 16#32
  let v219 : BitVec 32 := Scalar.addi c16_i32_151 c16_i32_152
  let c1_i32_153 : BitVec 32 := 1#32
  ⟨c16_i32_151, v219, c1_i32_153⟩
@[reducible] def k0_t5_loop : Scf.Loop 32 :=
  let c0_i32_148 : BitVec 32 := 0#32
  let c16_i32 : BitVec 32 := 16#32
  let v217 : BitVec 32 := Scalar.addi c0_i32_148 c16_i32
  let c1_i32_149 : BitVec 32 := 1#32
  ⟨c0_i32_148, v217, c1_i32_149⟩
@[reducible] def k0_t6_loop : Scf.Loop 32 :=
  let c16_i32_151 : BitVec 32 := 16#32
  let c16_i32_152 : BitVec 32 := 16#32
  let v219 : BitVec 32 := Scalar.addi c16_i32_151 c16_i32_152
  let c1_i32_153 : BitVec 32 := 1#32
  ⟨c16_i32_151, v219, c1_i32_153⟩
@[reducible] def k0_t7_loop : Scf.Loop 32 :=
  let c0_i32_146 : BitVec 32 := 0#32
  let c16_i32 : BitVec 32 := 16#32
  let v215 : BitVec 32 := Scalar.addi c0_i32_146 c16_i32
  let c1_i32_147 : BitVec 32 := 1#32
  ⟨c0_i32_146, v215, c1_i32_147⟩
@[reducible] def k0_t8_loop : Scf.Loop 32 :=
  let c16_i32_149 : BitVec 32 := 16#32
  let c16_i32_150 : BitVec 32 := 16#32
  let v217 : BitVec 32 := Scalar.addi c16_i32_149 c16_i32_150
  let c1_i32_151 : BitVec 32 := 1#32
  ⟨c16_i32_149, v217, c1_i32_151⟩
@[reducible] def k0_t9_loop : Scf.Loop 32 :=
  let c0_i32_144 : BitVec 32 := 0#32
  let c16_i32 : BitVec 32 := 16#32
  let v213 : BitVec 32 := Scalar.addi c0_i32_144 c16_i32
  let c1_i32_145 : BitVec 32 := 1#32
  ⟨c0_i32_144, v213, c1_i32_145⟩
@[reducible] def k0_t10_loop : Scf.Loop 32 :=
  let c16_i32_147 : BitVec 32 := 16#32
  let c16_i32_148 : BitVec 32 := 16#32
  let v215 : BitVec 32 := Scalar.addi c16_i32_147 c16_i32_148
  let c1_i32_149 : BitVec 32 := 1#32
  ⟨c16_i32_147, v215, c1_i32_149⟩
@[reducible] def k0_t11_loop : Scf.Loop 32 :=
  let c0_i32_142 : BitVec 32 := 0#32
  let c16_i32 : BitVec 32 := 16#32
  let v211 : BitVec 32 := Scalar.addi c0_i32_142 c16_i32
  let c1_i32_143 : BitVec 32 := 1#32
  ⟨c0_i32_142, v211, c1_i32_143⟩
@[reducible] def k0_t12_loop : Scf.Loop 32 :=
  let c16_i32_145 : BitVec 32 := 16#32
  let c16_i32_146 : BitVec 32 := 16#32
  let v213 : BitVec 32 := Scalar.addi c16_i32_145 c16_i32_146
  let c1_i32_147 : BitVec 32 := 1#32
  ⟨c16_i32_145, v213, c1_i32_147⟩
@[reducible] def k0_t13_loop : Scf.Loop 32 :=
  let c0_i32_140 : BitVec 32 := 0#32
  let c16_i32 : BitVec 32 := 16#32
  let v209 : BitVec 32 := Scalar.addi c0_i32_140 c16_i32
  let c1_i32_141 : BitVec 32 := 1#32
  ⟨c0_i32_140, v209, c1_i32_141⟩
@[reducible] def k0_t14_loop : Scf.Loop 32 :=
  let c16_i32_143 : BitVec 32 := 16#32
  let c16_i32_144 : BitVec 32 := 16#32
  let v211 : BitVec 32 := Scalar.addi c16_i32_143 c16_i32_144
  let c1_i32_145 : BitVec 32 := 1#32
  ⟨c16_i32_143, v211, c1_i32_145⟩
@[reducible] def k0_t15_loop : Scf.Loop 32 :=
  let c0_i32_138 : BitVec 32 := 0#32
  let c16_i32 : BitVec 32 := 16#32
  let v207 : BitVec 32 := Scalar.addi c0_i32_138 c16_i32
  let c1_i32_139 : BitVec 32 := 1#32
  ⟨c0_i32_138, v207, c1_i32_139⟩
@[reducible] def k0_t16_loop : Scf.Loop 32 :=
  let c16_i32_141 : BitVec 32 := 16#32
  let c16_i32_142 : BitVec 32 := 16#32
  let v209 : BitVec 32 := Scalar.addi c16_i32_141 c16_i32_142
  let c1_i32_143 : BitVec 32 := 1#32
  ⟨c16_i32_141, v209, c1_i32_143⟩
@[reducible] def k0_t17_loop : Scf.Loop 32 :=
  let c0_i32_136 : BitVec 32 := 0#32
  let c16_i32 : BitVec 32 := 16#32
  let v205 : BitVec 32 := Scalar.addi c0_i32_136 c16_i32
  let c1_i32_137 : BitVec 32 := 1#32
  ⟨c0_i32_136, v205, c1_i32_137⟩
@[reducible] def k0_t18_loop : Scf.Loop 32 :=
  let c16_i32_139 : BitVec 32 := 16#32
  let c16_i32_140 : BitVec 32 := 16#32
  let v207 : BitVec 32 := Scalar.addi c16_i32_139 c16_i32_140
  let c1_i32_141 : BitVec 32 := 1#32
  ⟨c16_i32_139, v207, c1_i32_141⟩
@[reducible] def k0_t19_loop (i : grid0.Coords) : Scf.Loop 32 :=
  let c0_i32_137 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v207 : BitVec 32 := Scalar.subi v20 c0_i32_137
  let c1_i32_138 : BitVec 32 := 1#32
  let v209 : BitVec 32 := Scalar.divsi v207 c1_i32_138
  let v210 : BitVec 32 := Scalar.muli v209 c1_i32_138
  let v211 : BitVec 32 := Scalar.addi c0_i32_137 v210
  let c1_i32_139 : BitVec 32 := 1#32
  ⟨c0_i32_137, v211, c1_i32_139⟩
def k0_mult13 (i : grid0.Coords) (k0_t19 : Fin (k0_t19_loop i).trips) : BitVec 32 :=
  let c0_i32_137 : BitVec 32 := 0#32
  let c1_i32_139 : BitVec 32 := 1#32
  let arg17 : BitVec 32 := Scf.iv c0_i32_137 c1_i32_139 k0_t19
  let c512_i32_152 : BitVec 32 := 512#32
  let v229 : BitVec 32 := Scalar.muli arg17 c512_i32_152
  v229
def k0_off9 (i : grid0.Coords) (k0_t19 : Fin (k0_t19_loop i).trips) : Fin 2 → Nat :=
  let c0_i32_137 : BitVec 32 := 0#32
  let c1_i32_139 : BitVec 32 := 1#32
  let arg17 : BitVec 32 := Scf.iv c0_i32_137 c1_i32_139 k0_t19
  let c512_i32_152 : BitVec 32 := 512#32
  let v229 : BitVec 32 := Scalar.muli arg17 c512_i32_152
  let v230 : BitVec 32 := v229
  let v231 : Index := Scalar.indexCast v230
  let c0_153 : Index := 0#32
  ![v231.toNat, 0]
@[reducible] def k0_t20_loop (i : grid0.Coords) : Scf.Loop 32 :=
  let c0_i32_137 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v207 : BitVec 32 := Scalar.subi v20 c0_i32_137
  let c1_i32_138 : BitVec 32 := 1#32
  let v209 : BitVec 32 := Scalar.divsi v207 c1_i32_138
  let v210 : BitVec 32 := Scalar.muli v209 c1_i32_138
  let v211 : BitVec 32 := Scalar.addi c0_i32_137 v210
  let v208 : BitVec 32 := Scalar.addi c0_i32_137 v207
  let c1_i32_140 : BitVec 32 := 1#32
  ⟨v211, v208, c1_i32_140⟩
def k0_mult14 (i : grid0.Coords) (k0_t20 : Fin (k0_t20_loop i).trips) : BitVec 32 :=
  let c0_i32_137 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v207 : BitVec 32 := Scalar.subi v20 c0_i32_137
  let c1_i32_138 : BitVec 32 := 1#32
  let v209 : BitVec 32 := Scalar.divsi v207 c1_i32_138
  let v210 : BitVec 32 := Scalar.muli v209 c1_i32_138
  let v211 : BitVec 32 := Scalar.addi c0_i32_137 v210
  let c1_i32_140 : BitVec 32 := 1#32
  let arg17 : BitVec 32 := Scf.iv v211 c1_i32_140 k0_t20
  let c512_i32_152 : BitVec 32 := 512#32
  let v229 : BitVec 32 := Scalar.muli arg17 c512_i32_152
  v229
def k0_off10 (i : grid0.Coords) (k0_t20 : Fin (k0_t20_loop i).trips) : Fin 2 → Nat :=
  let c0_i32_137 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v207 : BitVec 32 := Scalar.subi v20 c0_i32_137
  let c1_i32_138 : BitVec 32 := 1#32
  let v209 : BitVec 32 := Scalar.divsi v207 c1_i32_138
  let v210 : BitVec 32 := Scalar.muli v209 c1_i32_138
  let v211 : BitVec 32 := Scalar.addi c0_i32_137 v210
  let c1_i32_140 : BitVec 32 := 1#32
  let arg17 : BitVec 32 := Scf.iv v211 c1_i32_140 k0_t20
  let c512_i32_152 : BitVec 32 := 512#32
  let v229 : BitVec 32 := Scalar.muli arg17 c512_i32_152
  let v230 : BitVec 32 := v229
  let v231 : Index := Scalar.indexCast v230
  let c0_153 : Index := 0#32
  ![v231.toNat, 0]
@[reducible] def k0_t21_loop : Scf.Loop 32 :=
  let c0_i32_143 : BitVec 32 := 0#32
  let c13_i32 : BitVec 32 := 13#32
  let v218 : BitVec 32 := Scalar.addi c0_i32_143 c13_i32
  let c1_i32_144 : BitVec 32 := 1#32
  ⟨c0_i32_143, v218, c1_i32_144⟩
@[reducible] def k0_t22_loop (i : grid0.Coords) : Scf.Loop 32 :=
  let c0_i32_153 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v230 : BitVec 32 := Scalar.subi v20 c0_i32_153
  let c1_i32_154 : BitVec 32 := 1#32
  let v232 : BitVec 32 := Scalar.divsi v230 c1_i32_154
  let v233 : BitVec 32 := Scalar.muli v232 c1_i32_154
  let v234 : BitVec 32 := Scalar.addi c0_i32_153 v233
  let c1_i32_155 : BitVec 32 := 1#32
  ⟨c0_i32_153, v234, c1_i32_155⟩
def k0_mult15 (i : grid0.Coords) (k0_t22 : Fin (k0_t22_loop i).trips) : BitVec 32 :=
  let c0_i32_153 : BitVec 32 := 0#32
  let c1_i32_155 : BitVec 32 := 1#32
  let arg19 : BitVec 32 := Scf.iv c0_i32_153 c1_i32_155 k0_t22
  let c512_i32_159 : BitVec 32 := 512#32
  let v245 : BitVec 32 := Scalar.muli arg19 c512_i32_159
  v245
def k0_off11 (i : grid0.Coords) (k0_t22 : Fin (k0_t22_loop i).trips) : Fin 2 → Nat :=
  let c0_i32_153 : BitVec 32 := 0#32
  let c1_i32_155 : BitVec 32 := 1#32
  let arg19 : BitVec 32 := Scf.iv c0_i32_153 c1_i32_155 k0_t22
  let c512_i32_159 : BitVec 32 := 512#32
  let v245 : BitVec 32 := Scalar.muli arg19 c512_i32_159
  let v246 : BitVec 32 := v245
  let v247 : Index := Scalar.indexCast v246
  let c0_160 : Index := 0#32
  ![v247.toNat, 0]
@[reducible] def k0_t23_loop (i : grid0.Coords) : Scf.Loop 32 :=
  let c0_i32_153 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v230 : BitVec 32 := Scalar.subi v20 c0_i32_153
  let c1_i32_154 : BitVec 32 := 1#32
  let v232 : BitVec 32 := Scalar.divsi v230 c1_i32_154
  let v233 : BitVec 32 := Scalar.muli v232 c1_i32_154
  let v234 : BitVec 32 := Scalar.addi c0_i32_153 v233
  let v231 : BitVec 32 := Scalar.addi c0_i32_153 v230
  let c1_i32_156 : BitVec 32 := 1#32
  ⟨v234, v231, c1_i32_156⟩
def k0_mult16 (i : grid0.Coords) (k0_t23 : Fin (k0_t23_loop i).trips) : BitVec 32 :=
  let c0_i32_153 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v230 : BitVec 32 := Scalar.subi v20 c0_i32_153
  let c1_i32_154 : BitVec 32 := 1#32
  let v232 : BitVec 32 := Scalar.divsi v230 c1_i32_154
  let v233 : BitVec 32 := Scalar.muli v232 c1_i32_154
  let v234 : BitVec 32 := Scalar.addi c0_i32_153 v233
  let c1_i32_156 : BitVec 32 := 1#32
  let arg19 : BitVec 32 := Scf.iv v234 c1_i32_156 k0_t23
  let c512_i32_159 : BitVec 32 := 512#32
  let v245 : BitVec 32 := Scalar.muli arg19 c512_i32_159
  v245
def k0_off12 (i : grid0.Coords) (k0_t23 : Fin (k0_t23_loop i).trips) : Fin 2 → Nat :=
  let c0_i32_153 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v230 : BitVec 32 := Scalar.subi v20 c0_i32_153
  let c1_i32_154 : BitVec 32 := 1#32
  let v232 : BitVec 32 := Scalar.divsi v230 c1_i32_154
  let v233 : BitVec 32 := Scalar.muli v232 c1_i32_154
  let v234 : BitVec 32 := Scalar.addi c0_i32_153 v233
  let c1_i32_156 : BitVec 32 := 1#32
  let arg19 : BitVec 32 := Scf.iv v234 c1_i32_156 k0_t23
  let c512_i32_159 : BitVec 32 := 512#32
  let v245 : BitVec 32 := Scalar.muli arg19 c512_i32_159
  let v246 : BitVec 32 := v245
  let v247 : Index := Scalar.indexCast v246
  let c0_160 : Index := 0#32
  ![v247.toNat, 0]
@[reducible] def k0_t24_loop (i : grid0.Coords) : Scf.Loop 32 :=
  let c0_i32_147 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v220 : BitVec 32 := Scalar.subi v20 c0_i32_147
  let c1_i32_148 : BitVec 32 := 1#32
  let v222 : BitVec 32 := Scalar.divsi v220 c1_i32_148
  let v223 : BitVec 32 := Scalar.muli v222 c1_i32_148
  let v224 : BitVec 32 := Scalar.addi c0_i32_147 v223
  let c1_i32_149 : BitVec 32 := 1#32
  ⟨c0_i32_147, v224, c1_i32_149⟩
def k0_mult17 (i : grid0.Coords) (k0_t24 : Fin (k0_t24_loop i).trips) : BitVec 32 :=
  let c0_i32_147 : BitVec 32 := 0#32
  let c1_i32_149 : BitVec 32 := 1#32
  let arg17 : BitVec 32 := Scf.iv c0_i32_147 c1_i32_149 k0_t24
  let c512_i32_152 : BitVec 32 := 512#32
  let v229 : BitVec 32 := Scalar.muli arg17 c512_i32_152
  v229
def k0_off13 (i : grid0.Coords) (k0_t24 : Fin (k0_t24_loop i).trips) : Fin 2 → Nat :=
  let c0_i32_147 : BitVec 32 := 0#32
  let c1_i32_149 : BitVec 32 := 1#32
  let arg17 : BitVec 32 := Scf.iv c0_i32_147 c1_i32_149 k0_t24
  let c512_i32_152 : BitVec 32 := 512#32
  let v229 : BitVec 32 := Scalar.muli arg17 c512_i32_152
  let v230 : BitVec 32 := v229
  let v231 : Index := Scalar.indexCast v230
  let c0_153 : Index := 0#32
  ![v231.toNat, 0]
def k0_mult18 (i : grid0.Coords) (k0_t24 : Fin (k0_t24_loop i).trips) : BitVec 32 :=
  let c0_i32_147 : BitVec 32 := 0#32
  let c1_i32_149 : BitVec 32 := 1#32
  let arg17 : BitVec 32 := Scf.iv c0_i32_147 c1_i32_149 k0_t24
  let c512_i32_154 : BitVec 32 := 512#32
  let v241 : BitVec 32 := Scalar.muli arg17 c512_i32_154
  v241
@[reducible] def k0_t25_loop (i : grid0.Coords) : Scf.Loop 32 :=
  let c0_i32_147 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v220 : BitVec 32 := Scalar.subi v20 c0_i32_147
  let c1_i32_148 : BitVec 32 := 1#32
  let v222 : BitVec 32 := Scalar.divsi v220 c1_i32_148
  let v223 : BitVec 32 := Scalar.muli v222 c1_i32_148
  let v224 : BitVec 32 := Scalar.addi c0_i32_147 v223
  let v221 : BitVec 32 := Scalar.addi c0_i32_147 v220
  let c1_i32_150 : BitVec 32 := 1#32
  ⟨v224, v221, c1_i32_150⟩
def k0_mult19 (i : grid0.Coords) (k0_t25 : Fin (k0_t25_loop i).trips) : BitVec 32 :=
  let c0_i32_147 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v220 : BitVec 32 := Scalar.subi v20 c0_i32_147
  let c1_i32_148 : BitVec 32 := 1#32
  let v222 : BitVec 32 := Scalar.divsi v220 c1_i32_148
  let v223 : BitVec 32 := Scalar.muli v222 c1_i32_148
  let v224 : BitVec 32 := Scalar.addi c0_i32_147 v223
  let c1_i32_150 : BitVec 32 := 1#32
  let arg17 : BitVec 32 := Scf.iv v224 c1_i32_150 k0_t25
  let c512_i32_152 : BitVec 32 := 512#32
  let v229 : BitVec 32 := Scalar.muli arg17 c512_i32_152
  v229
def k0_off14 (i : grid0.Coords) (k0_t25 : Fin (k0_t25_loop i).trips) : Fin 2 → Nat :=
  let c0_i32_147 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v220 : BitVec 32 := Scalar.subi v20 c0_i32_147
  let c1_i32_148 : BitVec 32 := 1#32
  let v222 : BitVec 32 := Scalar.divsi v220 c1_i32_148
  let v223 : BitVec 32 := Scalar.muli v222 c1_i32_148
  let v224 : BitVec 32 := Scalar.addi c0_i32_147 v223
  let c1_i32_150 : BitVec 32 := 1#32
  let arg17 : BitVec 32 := Scf.iv v224 c1_i32_150 k0_t25
  let c512_i32_152 : BitVec 32 := 512#32
  let v229 : BitVec 32 := Scalar.muli arg17 c512_i32_152
  let v230 : BitVec 32 := v229
  let v231 : Index := Scalar.indexCast v230
  let c0_153 : Index := 0#32
  ![v231.toNat, 0]
def k0_mult20 (i : grid0.Coords) (k0_t25 : Fin (k0_t25_loop i).trips) : BitVec 32 :=
  let c0_i32_147 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v220 : BitVec 32 := Scalar.subi v20 c0_i32_147
  let c1_i32_148 : BitVec 32 := 1#32
  let v222 : BitVec 32 := Scalar.divsi v220 c1_i32_148
  let v223 : BitVec 32 := Scalar.muli v222 c1_i32_148
  let v224 : BitVec 32 := Scalar.addi c0_i32_147 v223
  let c1_i32_150 : BitVec 32 := 1#32
  let arg17 : BitVec 32 := Scf.iv v224 c1_i32_150 k0_t25
  let c512_i32_154 : BitVec 32 := 512#32
  let v241 : BitVec 32 := Scalar.muli arg17 c512_i32_154
  v241
@[reducible] def k0_t26_loop (i : grid0.Coords) : Scf.Loop 32 :=
  let c0_i32_99 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v154 : BitVec 32 := Scalar.subi v20 c0_i32_99
  let c1_i32_100 : BitVec 32 := 1#32
  let v156 : BitVec 32 := Scalar.divsi v154 c1_i32_100
  let v157 : BitVec 32 := Scalar.muli v156 c1_i32_100
  let v158 : BitVec 32 := Scalar.addi c0_i32_99 v157
  let c1_i32_101 : BitVec 32 := 1#32
  ⟨c0_i32_99, v158, c1_i32_101⟩
def k0_mult21 (i : grid0.Coords) (k0_t26 : Fin (k0_t26_loop i).trips) : BitVec 32 :=
  let c0_i32_99 : BitVec 32 := 0#32
  let c1_i32_101 : BitVec 32 := 1#32
  let arg17 : BitVec 32 := Scf.iv c0_i32_99 c1_i32_101 k0_t26
  let c512_i32_135 : BitVec 32 := 512#32
  let v204 : BitVec 32 := Scalar.muli arg17 c512_i32_135
  v204
def k0_off15 (i : grid0.Coords) (k0_t26 : Fin (k0_t26_loop i).trips) : Fin 2 → Nat :=
  let c0_i32_99 : BitVec 32 := 0#32
  let c1_i32_101 : BitVec 32 := 1#32
  let arg17 : BitVec 32 := Scf.iv c0_i32_99 c1_i32_101 k0_t26
  let c512_i32_135 : BitVec 32 := 512#32
  let v204 : BitVec 32 := Scalar.muli arg17 c512_i32_135
  let v205 : BitVec 32 := v204
  let v206 : Index := Scalar.indexCast v205
  let c0_136 : Index := 0#32
  ![v206.toNat, 0]
def k0_mult22 (i : grid0.Coords) (k0_t26 : Fin (k0_t26_loop i).trips) : BitVec 32 :=
  let c0_i32_99 : BitVec 32 := 0#32
  let c1_i32_101 : BitVec 32 := 1#32
  let arg17 : BitVec 32 := Scf.iv c0_i32_99 c1_i32_101 k0_t26
  let c512_i32_140 : BitVec 32 := 512#32
  let v210 : BitVec 32 := Scalar.muli arg17 c512_i32_140
  v210
def k0_off16 (i : grid0.Coords) (k0_t26 : Fin (k0_t26_loop i).trips) : Fin 2 → Nat :=
  let c0_i32_99 : BitVec 32 := 0#32
  let c1_i32_101 : BitVec 32 := 1#32
  let arg17 : BitVec 32 := Scf.iv c0_i32_99 c1_i32_101 k0_t26
  let c512_i32_140 : BitVec 32 := 512#32
  let v210 : BitVec 32 := Scalar.muli arg17 c512_i32_140
  let v211 : BitVec 32 := v210
  let v212 : Index := Scalar.indexCast v211
  let c0_141 : Index := 0#32
  ![v212.toNat, 0]
def k0_mult23 (i : grid0.Coords) (k0_t26 : Fin (k0_t26_loop i).trips) : BitVec 32 :=
  let c0_i32_99 : BitVec 32 := 0#32
  let c1_i32_101 : BitVec 32 := 1#32
  let arg17 : BitVec 32 := Scf.iv c0_i32_99 c1_i32_101 k0_t26
  let c512_i32_147 : BitVec 32 := 512#32
  let v232 : BitVec 32 := Scalar.muli arg17 c512_i32_147
  v232
def k0_off17 (i : grid0.Coords) (k0_t26 : Fin (k0_t26_loop i).trips) : Fin 2 → Nat :=
  let c0_148 : Index := 0#32
  let c0_i32_99 : BitVec 32 := 0#32
  let c1_i32_101 : BitVec 32 := 1#32
  let arg17 : BitVec 32 := Scf.iv c0_i32_99 c1_i32_101 k0_t26
  let c512_i32_147 : BitVec 32 := 512#32
  let v232 : BitVec 32 := Scalar.muli arg17 c512_i32_147
  let v233 : BitVec 32 := v232
  let v234 : Index := Scalar.indexCast v233
  ![0, v234.toNat]
@[reducible] def k0_t27_loop (i : grid0.Coords) : Scf.Loop 32 :=
  let c0_i32_99 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v154 : BitVec 32 := Scalar.subi v20 c0_i32_99
  let c1_i32_100 : BitVec 32 := 1#32
  let v156 : BitVec 32 := Scalar.divsi v154 c1_i32_100
  let v157 : BitVec 32 := Scalar.muli v156 c1_i32_100
  let v158 : BitVec 32 := Scalar.addi c0_i32_99 v157
  let v155 : BitVec 32 := Scalar.addi c0_i32_99 v154
  let c1_i32_102 : BitVec 32 := 1#32
  ⟨v158, v155, c1_i32_102⟩
def k0_mult24 (i : grid0.Coords) (k0_t27 : Fin (k0_t27_loop i).trips) : BitVec 32 :=
  let c0_i32_99 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v154 : BitVec 32 := Scalar.subi v20 c0_i32_99
  let c1_i32_100 : BitVec 32 := 1#32
  let v156 : BitVec 32 := Scalar.divsi v154 c1_i32_100
  let v157 : BitVec 32 := Scalar.muli v156 c1_i32_100
  let v158 : BitVec 32 := Scalar.addi c0_i32_99 v157
  let c1_i32_102 : BitVec 32 := 1#32
  let arg17 : BitVec 32 := Scf.iv v158 c1_i32_102 k0_t27
  let c512_i32_135 : BitVec 32 := 512#32
  let v204 : BitVec 32 := Scalar.muli arg17 c512_i32_135
  v204
def k0_off18 (i : grid0.Coords) (k0_t27 : Fin (k0_t27_loop i).trips) : Fin 2 → Nat :=
  let c0_i32_99 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v154 : BitVec 32 := Scalar.subi v20 c0_i32_99
  let c1_i32_100 : BitVec 32 := 1#32
  let v156 : BitVec 32 := Scalar.divsi v154 c1_i32_100
  let v157 : BitVec 32 := Scalar.muli v156 c1_i32_100
  let v158 : BitVec 32 := Scalar.addi c0_i32_99 v157
  let c1_i32_102 : BitVec 32 := 1#32
  let arg17 : BitVec 32 := Scf.iv v158 c1_i32_102 k0_t27
  let c512_i32_135 : BitVec 32 := 512#32
  let v204 : BitVec 32 := Scalar.muli arg17 c512_i32_135
  let v205 : BitVec 32 := v204
  let v206 : Index := Scalar.indexCast v205
  let c0_136 : Index := 0#32
  ![v206.toNat, 0]
def k0_mult25 (i : grid0.Coords) (k0_t27 : Fin (k0_t27_loop i).trips) : BitVec 32 :=
  let c0_i32_99 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v154 : BitVec 32 := Scalar.subi v20 c0_i32_99
  let c1_i32_100 : BitVec 32 := 1#32
  let v156 : BitVec 32 := Scalar.divsi v154 c1_i32_100
  let v157 : BitVec 32 := Scalar.muli v156 c1_i32_100
  let v158 : BitVec 32 := Scalar.addi c0_i32_99 v157
  let c1_i32_102 : BitVec 32 := 1#32
  let arg17 : BitVec 32 := Scf.iv v158 c1_i32_102 k0_t27
  let c512_i32_140 : BitVec 32 := 512#32
  let v210 : BitVec 32 := Scalar.muli arg17 c512_i32_140
  v210
def k0_off19 (i : grid0.Coords) (k0_t27 : Fin (k0_t27_loop i).trips) : Fin 2 → Nat :=
  let c0_i32_99 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v154 : BitVec 32 := Scalar.subi v20 c0_i32_99
  let c1_i32_100 : BitVec 32 := 1#32
  let v156 : BitVec 32 := Scalar.divsi v154 c1_i32_100
  let v157 : BitVec 32 := Scalar.muli v156 c1_i32_100
  let v158 : BitVec 32 := Scalar.addi c0_i32_99 v157
  let c1_i32_102 : BitVec 32 := 1#32
  let arg17 : BitVec 32 := Scf.iv v158 c1_i32_102 k0_t27
  let c512_i32_140 : BitVec 32 := 512#32
  let v210 : BitVec 32 := Scalar.muli arg17 c512_i32_140
  let v211 : BitVec 32 := v210
  let v212 : Index := Scalar.indexCast v211
  let c0_141 : Index := 0#32
  ![v212.toNat, 0]
def k0_mult26 (i : grid0.Coords) (k0_t27 : Fin (k0_t27_loop i).trips) : BitVec 32 :=
  let c0_i32_99 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v154 : BitVec 32 := Scalar.subi v20 c0_i32_99
  let c1_i32_100 : BitVec 32 := 1#32
  let v156 : BitVec 32 := Scalar.divsi v154 c1_i32_100
  let v157 : BitVec 32 := Scalar.muli v156 c1_i32_100
  let v158 : BitVec 32 := Scalar.addi c0_i32_99 v157
  let c1_i32_102 : BitVec 32 := 1#32
  let arg17 : BitVec 32 := Scf.iv v158 c1_i32_102 k0_t27
  let c512_i32_147 : BitVec 32 := 512#32
  let v232 : BitVec 32 := Scalar.muli arg17 c512_i32_147
  v232
def k0_off20 (i : grid0.Coords) (k0_t27 : Fin (k0_t27_loop i).trips) : Fin 2 → Nat :=
  let c0_148 : Index := 0#32
  let c0_i32_99 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v154 : BitVec 32 := Scalar.subi v20 c0_i32_99
  let c1_i32_100 : BitVec 32 := 1#32
  let v156 : BitVec 32 := Scalar.divsi v154 c1_i32_100
  let v157 : BitVec 32 := Scalar.muli v156 c1_i32_100
  let v158 : BitVec 32 := Scalar.addi c0_i32_99 v157
  let c1_i32_102 : BitVec 32 := 1#32
  let arg17 : BitVec 32 := Scf.iv v158 c1_i32_102 k0_t27
  let c512_i32_147 : BitVec 32 := 512#32
  let v232 : BitVec 32 := Scalar.muli arg17 c512_i32_147
  let v233 : BitVec 32 := v232
  let v234 : Index := Scalar.indexCast v233
  ![0, v234.toNat]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S144x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x64x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Ffn.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2048x1024 : Shape := ⟨2, ![2048, 1024]⟩
abbrev S1024x256 : Shape := ⟨2, ![1024, 256]⟩
abbrev S256x1024 : Shape := ⟨2, ![256, 1024]⟩
abbrev S2048 : Shape := ⟨1, ![2048]⟩
abbrev S2048x1 : Shape := ⟨2, ![2048, 1]⟩
abbrev S2048x256 : Shape := ⟨2, ![2048, 256]⟩

abbrev nBuf : Space → Nat
  | .hbm => 18
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S32768x1024, .f32⟩
  | .hbm, ⟨6, _⟩ => ⟨S1024, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S_, .f32⟩
  | .hbm, ⟨13, _⟩ => ⟨S2816x1024, .f32⟩
  | .hbm, ⟨14, _⟩ => ⟨S2816x1024, .f32⟩
  | .hbm, ⟨15, _⟩ => ⟨S2816x1024, .bf16⟩
  | .hbm, ⟨16, _⟩ => ⟨S1x1024, .f32⟩
  | .hbm, ⟨17, _⟩ => ⟨S32768x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S256x1024, .bf16⟩
  | .local _ .vmem, ⟨8, _⟩ => ⟨S256x1024, .bf16⟩
  | .local _ .vmem, ⟨9, _⟩ => ⟨S2048x1024, .f32⟩
  | .local _ .vmem, ⟨10, _⟩ => ⟨S2048x1024, .f32⟩
  | .local _ .vmem, ⟨11, _⟩ => ⟨S2048x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x2816 : Shape := ⟨2, ![1024, 2816]⟩
abbrev S2816x1024 : Shape := ⟨2, ![2816, 1024]⟩
abbrev S32768x2816 : Shape := ⟨2, ![32768, 2816]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S32768x1024, .f32⟩
  | .hbm, ⟨6, _⟩ => ⟨S1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S32768x2816, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x1024, .f32⟩
  | .hbm, ⟨39, _⟩ => ⟨S_, .f32⟩
  | .hbm, ⟨40, _⟩ => ⟨S32768x1024, .f32⟩
  | .hbm, ⟨41, _⟩ => ⟨S32768x1024, .f32⟩
  | .hbm, ⟨42, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Merge.lean ====
abbrev S32768x1024 : Shape := ⟨2, ![32768, 1024]⟩
abbrev S8x4096x512 : Shape := ⟨3, ![8, 4096, 512]⟩
abbrev S1x1024 : Shape := ⟨2, ![1, 1024]⟩
abbrev S1x1024x4104 : Shape := ⟨3, ![1, 1024, 4104]⟩
abbrev S1x512x1024 : Shape := ⟨3, ![1, 512, 1024]⟩
abbrev S1x1024x1024 : Shape := ⟨3, ![1, 1024, 1024]⟩
abbrev S1024x4104 : Shape := ⟨2, ![1024, 4104]⟩
abbrev S1024x2048 : Shape := ⟨2, ![1024, 2048]⟩
abbrev S32768x512 : Shape := ⟨2, ![32768, 512]⟩
abbrev S1024 : Shape := ⟨1, ![1024]⟩
abbrev S512x1024 : Shape := ⟨2, ![512, 1024]⟩
abbrev S1024x1024 : Shape := ⟨2, ![1024, 1024]⟩
abbrev S1024x512 : Shape := ⟨2, ![1024, 512]⟩
abbrev S1024x1 : Shape := ⟨2, ![1024, 1]⟩

abbrev nBuf : Space → Nat
  | .hbm => 22
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S8x4096x512, .bf16⟩
  | .hbm, ⟨2, _⟩ => ⟨S8x4096x512, .bf16⟩
  | .hbm, ⟨3, _⟩ => ⟨S1x1024, .f32⟩
  | .hbm, ⟨4, _⟩ => ⟨S1x1024x4104, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1024x4104, .f32⟩
  | .hbm, ⟨9, _⟩ => ⟨S1024x2048, .f32⟩
  | .hbm, ⟨10, _⟩ => ⟨S1024x2048, .bf16⟩
  | .hbm, ⟨11, _⟩ => ⟨S32768x512, .bf16⟩
  | .hbm, ⟨12, _⟩ => ⟨S32768x512, .bf16⟩
  | .hbm, ⟨13, _⟩ => ⟨S1024, .f32⟩
  | .hbm, ⟨14, _⟩ => ⟨S512x1024, .f32⟩
  | .hbm, ⟨15, _⟩ => ⟨S512x1024, .bf16⟩
  | .hbm, ⟨16, _⟩ => ⟨S512x1024, .f32⟩
  | .hbm, ⟨17, _⟩ => ⟨S512x1024, .bf16⟩
  | .hbm, ⟨18, _⟩ => ⟨S1024x1024, .f32⟩
  | .hbm, ⟨19, _⟩ => ⟨S1024x1024, .bf16⟩
  | .hbm, ⟨20, _⟩ => ⟨S1x1024, .f32⟩
  | .hbm, ⟨21, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024, .f32⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S32768x1024 : Shape := ⟨2, ![32768, 1024]⟩
abbrev S8x4096x512 : Shape := ⟨3, ![8, 4096, 512]⟩
abbrev S1x1024 : Shape := ⟨2, ![1, 1024]⟩
abbrev S1x1024x4104 : Shape := ⟨3, ![1, 1024, 4104]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S32768x512 : Shape := ⟨2, ![32768, 512]⟩
abbrev S1024x4104 : Shape := ⟨2, ![1024, 4104]⟩
abbrev S32768x4104 : Shape := ⟨2, ![32768, 4104]⟩
abbrev S512x1024 : Shape := ⟨2, ![512, 1024]⟩
abbrev S1024x1024 : Shape := ⟨2, ![1024, 1024]⟩

abbrev nBuf : Space → Nat
  | .hbm => 59
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x4096x512, .bf16⟩
  | .hbm, ⟨2, _⟩ => ⟨S8x4096x512, .bf16⟩
  | .hbm, ⟨3, _⟩ => ⟨S1x1024, .f32⟩
  | .hbm, ⟨4, _⟩ => ⟨S1x1024x4104, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1024, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S1x1024, .f32⟩
  | .hbm, ⟨23, _⟩ => ⟨S32768x1024, .f32⟩
  | .hbm, ⟨24, _⟩ => ⟨S32768x1024, .f32⟩
  | .hbm, ⟨25, _⟩ => ⟨S8x4096x512, .f32⟩
  | .hbm, ⟨26, _⟩ => ⟨S32768x512, .f32⟩
  | .hbm, ⟨27, _⟩ => ⟨S8x4096x512, .f32⟩
  | .hbm, ⟨28, _⟩ => ⟨S32768x512, .f32⟩
  | .hbm, ⟨29, _⟩ => ⟨S1024x4104, .f32⟩
  | .hbm, ⟨30, _⟩ => ⟨S32768x4104, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S_, .f32⟩
  | .hbm, ⟨39, _⟩ => ⟨S32768x1024, .f32⟩
  | .hbm, ⟨40, _⟩ => ⟨S32768x1024, .f32⟩
  | .hbm, ⟨41, _⟩ => ⟨S512x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768x1024, .f32⟩
  | .hbm, ⟨51, _⟩ => ⟨S32768x1024, .f32⟩
  | .hbm, ⟨52, _⟩ => ⟨S512x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S1024x1024, .f32⟩
  | .hbm, ⟨57, _⟩ => ⟨S32768x1024, .f32⟩
  | .hbm, ⟨58, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Sb.lean ====
abbrev S8x4096x512 : Shape := ⟨3, ![8, 4096, 512]⟩
abbrev S_ : Shape := ⟨0, ![]⟩
abbrev S8x4096x1024 : Shape := ⟨3, ![8, 4096, 1024]⟩
abbrev S32768x512 : Shape := ⟨2, ![32768, 512]⟩
abbrev S512x32768 : Shape := ⟨2, ![512, 32768]⟩
abbrev S1x256x512 : Shape := ⟨3, ![1, 256, 512]⟩
abbrev S512x4096 : Shape := ⟨2, ![512, 4096]⟩
abbrev S1x4096x512 : Shape := ⟨3, ![1, 4096, 512]⟩
abbrev S2048x128 : Shape := ⟨2, ![2048, 128]⟩
abbrev S256x256 : Shape := ⟨2, ![256, 256]⟩
abbrev S8x256x128 : Shape := ⟨3, ![8, 256, 128]⟩
abbrev S256x128 : Shape := ⟨2, ![256, 128]⟩
abbrev S1x256x128 : Shape := ⟨3, ![1, 256, 128]⟩
abbrev S256x1 : Shape := ⟨2, ![256, 1]⟩
abbrev S128x256 : Shape := ⟨2, ![128, 256]⟩

abbrev nBuf : Space → Nat
  | .hbm => 12
  | .vmem => 11
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S_, .f32⟩
  | .hbm, ⟨4, _⟩ => ⟨S8x4096x512, .f32⟩
  | .hbm, ⟨5, _⟩ => ⟨S8x4096x512, .f32⟩
  | .hbm, ⟨6, _⟩ => ⟨S8x4096x1024, .f32⟩
  | .hbm, ⟨7, _⟩ => ⟨S8x4096x1024, .bf16⟩
  | .hbm, ⟨8, _⟩ => ⟨S32768x512, .f32⟩
  | .hbm, ⟨9, _⟩ => ⟨S512x32768, .f32⟩
  | .hbm, ⟨10, _⟩ => ⟨S512x32768, .bf16⟩
  | .hbm, ⟨11, _⟩ => ⟨S8x4096x512, .bf16⟩
  | .local _ .vmem, ⟨0, _⟩ => ⟨S1x256x512, .bf16⟩
  | .local _ .vmem, ⟨1, _⟩ => ⟨S1x256x512, .bf16⟩
  | .local _ .vmem, ⟨2, _⟩ => ⟨S512x4096, .bf16⟩
  | .local _ .vmem, ⟨3, _⟩ => ⟨S512x4096, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x256x512, .bf16⟩
  | .local _ .vmem, ⟨7, _⟩ => ⟨S1x256x512, .bf16⟩
  | .local _ .vmem, ⟨8, _⟩ => ⟨S2048x128, .bf16⟩
  | .local _ .vmem, ⟨9, _⟩ => ⟨S256x256, .bf16⟩
  | .local _ .vmem, ⟨10, _⟩ => ⟨S8x256x128, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c256_i32 : BitVec 32 := 256#32
  let v84 : BitVec 32 := Scalar.muli arg1 c256_i32
  v84
def k0_off1 (i : grid0.Coords) : Fin 2 → Nat :=
  let c0_58 : Index := 0#32
  let arg1 : BitVec 32 := BitVec.ofNat 32 (i 1).val
  let c256_i32 : BitVec 32 := 256#32
  let v84 : BitVec 32 := Scalar.muli arg1 c256_i32
  let v85 : BitVec 32 := v84
  let v88 : Index := Scalar.indexCast v85
  ![0, v88.toNat]
def k0_off2 (i : grid0.Coords) : Fin 2 → Nat :=
  let c128_71 : Index := 128#32
  let arg1 : BitVec 32 := BitVec.ofNat 32 (i 1).val
  let c256_i32 : BitVec 32 := 256#32
  let v84 : BitVec 32 := Scalar.muli arg1 c256_i32
  let v85 : BitVec 32 := v84
  let v112 : Index := Scalar.indexCast v85
  ![128, v112.toNat]
def k0_off3 (i : grid0.Coords) : Fin 3 → Nat :=
  let c0_83 : Index := 0#32
  let arg1 : BitVec 32 := BitVec.ofNat 32 (i 1).val
  let c256_i32 : BitVec 32 := 256#32
  let v84 : BitVec 32 := Scalar.muli arg1 c256_i32
  let v85 : BitVec 32 := v84
  let v141 : Index := Scalar.indexCast v85
  let c0_84 : Index := 0#32
  ![0, v141.toNat, 0]
def k0_off4 (i : grid0.Coords) : Fin 2 → Nat :=
  let c256_110 : Index := 256#32
  let arg1 : BitVec 32 := BitVec.ofNat 32 (i 1).val
  let c256_i32 : BitVec 32 := 256#32
  let v84 : BitVec 32 := Scalar.muli arg1 c256_i32
  let v85 : BitVec 32 := v84
  let v192 : Index := Scalar.indexCast v85
  ![256, v192.toNat]
def k0_off5 (i : grid0.Coords) : Fin 3 → Nat :=
  let c0_121 : Index := 0#32
  let arg1 : BitVec 32 := BitVec.ofNat 32 (i 1).val
  let c256_i32 : BitVec 32 := 256#32
  let v84 : BitVec 32 := Scalar.muli arg1 c256_i32
  let v85 : BitVec 32 := v84
  let v221 : Index := Scalar.indexCast v85
  let c128_122 : Index := 128#32
  ![0, v221.toNat, 128]
def k0_off6 (i : grid0.Coords) : Fin 2 → Nat :=
  let c384_148 : Index := 384#32
  let arg1 : BitVec 32 := BitVec.ofNat 32 (i 1).val
  let c256_i32 : BitVec 32 := 256#32
  let v84 : BitVec 32 := Scalar.muli arg1 c256_i32
  let v85 : BitVec 32 := v84
  let v272 : Index := Scalar.indexCast v85
  ![384, v272.toNat]
def k0_off7 (i : grid0.Coords) : Fin 3 → Nat :=
  let c0_159 : Index := 0#32
  let arg1 : BitVec 32 := BitVec.ofNat 32 (i 1).val
  let c256_i32 : BitVec 32 := 256#32
  let v84 : BitVec 32 := Scalar.muli arg1 c256_i32
  let v85 : BitVec 32 := v84
  let v301 : Index := Scalar.indexCast v85
  let c256_160 : Index := 256#32
  ![0, v301.toNat, 256]
def k0_off8 (i : grid0.Coords) : Fin 3 → Nat :=
  let c0_193 : Index := 0#32
  let arg1 : BitVec 32 := BitVec.ofNat 32 (i 1).val
  let c256_i32 : BitVec 32 := 256#32
  let v84 : BitVec 32 := Scalar.muli arg1 c256_i32
  let v85 : BitVec 32 := v84
  let v376 : Index := Scalar.indexCast v85
  let c384_194 : Index := 384#32
  ![0, v376.toNat, 384]
@[reducible] def k0_t1_loop (i : grid0.Coords) : Scf.Loop 32 :=
  let c0_i32 : BitVec 32 := 0#32
  let arg1 : BitVec 32 := BitVec.ofNat 32 (i 1).val
  let v407 : BitVec 32 := Scalar.subi arg1 c0_i32
  let c1_i32 : BitVec 32 := 1#32
  let v409 : BitVec 32 := Scalar.divsi v407 c1_i32
  let v410 : BitVec 32 := Scalar.muli v409 c1_i32
  let v411 : BitVec 32 := Scalar.addi c0_i32 v410
  let c1_i32_209 : BitVec 32 := 1#32
  ⟨c0_i32, v411, c1_i32_209⟩
def k0_mult2 (i : grid0.Coords) (k0_t1 : Fin (k0_t1_loop i).trips) : BitVec 32 :=
  let arg1 : BitVec 32 := BitVec.ofNat 32 (i 1).val
  let c1_i32_251 : BitVec 32 := 1#32
  let v459 : BitVec 32 := Scalar.subi arg1 c1_i32_251
  let c0_i32 : BitVec 32 := 0#32
  let c1_i32_209 : BitVec 32 := 1#32
  let arg9 : BitVec 32 := Scf.iv c0_i32 c1_i32_209 k0_t1
  let v460 : BitVec 32 := Scalar.subi v459 arg9
  let c256_i32_252 : BitVec 32 := 256#32
  let v461 : BitVec 32 := Scalar.muli v460 c256_i32_252
  v461
def k0_off9 (i : grid0.Coords) (k0_t1 : Fin (k0_t1_loop i).trips) : Fin 2 → Nat :=
  let c0_257 : Index := 0#32
  let arg1 : BitVec 32 := BitVec.ofNat 32 (i 1).val
  let c1_i32_251 : BitVec 32 := 1#32
  let v459 : BitVec 32 := Scalar.subi arg1 c1_i32_251
  let c0_i32 : BitVec 32 := 0#32
  let c1_i32_209 : BitVec 32 := 1#32
  let arg9 : BitVec 32 := Scf.iv c0_i32 c1_i32_209 k0_t1
  let v460 : BitVec 32 := Scalar.subi v459 arg9
  let c256_i32_252 : BitVec 32 := 256#32
  let v461 : BitVec 32 := Scalar.muli v460 c256_i32_252
  let v462 : BitVec 32 := v461
  let v465 : Index := Scalar.indexCast v462
  ![0, v465.toNat]
def k0_off10 (i : grid0.Coords) (k0_t1 : Fin (k0_t1_loop i).trips) : Fin 2 → Nat :=
  let c128_269 : Index := 128#32
  let arg1 : BitVec 32 := BitVec.ofNat 32 (i 1).val
  let c1_i32_251 : BitVec 32 := 1#32
  let v459 : BitVec 32 := Scalar.subi arg1 c1_i32_251
  let c0_i32 : BitVec 32 := 0#32
  let c1_i32_209 : BitVec 32 := 1#32
  let arg9 : BitVec 32 := Scf.iv c0_i32 c1_i32_209 k0_t1
  let v460 : BitVec 32 := Scalar.subi v459 arg9
  let c256_i32_252 : BitVec 32 := 256#32
  let v461 : BitVec 32 := Scalar.muli v460 c256_i32_252
  let v462 : BitVec 32 := v461
  let v487 : Index := Scalar.indexCast v462
  ![128, v487.toNat]
def k0_off11 (i : grid0.Coords) (k0_t1 : Fin (k0_t1_loop i).trips) : Fin 3 → Nat :=
  let c0_279 : Index := 0#32
  let arg1 : BitVec 32 := BitVec.ofNat 32 (i 1).val
  let c1_i32_251 : BitVec 32 := 1#32
  let v459 : BitVec 32 := Scalar.subi arg1 c1_i32_251
  let c0_i32 : BitVec 32 := 0#32
  let c1_i32_209 : BitVec 32 := 1#32
  let arg9 : BitVec 32 := Scf.iv c0_i32 c1_i32_209 k0_t1
  let v460 : BitVec 32 := Scalar.subi v459 arg9
  let c256_i32_252 : BitVec 32 := 256#32
  let v461 : BitVec 32 := Scalar.muli v460 c256_i32_252
  let v462 : BitVec 32 := v461
  let v512 : Index := Scalar.indexCast v462
  let c0_280 : Index := 0#32
  ![0, v512.toNat, 0]
def k0_off12 (i : grid0.Coords) (k0_t1 : Fin (k0_t1_loop i).trips) : Fin 2 → Nat :=
  let c256_305 : Index := 256#32
  let arg1 : BitVec 32 := BitVec.ofNat 32 (i 1).val
  let c1_i32_251 : BitVec 32 := 1#32
  let v459 : BitVec 32 := Scalar.subi arg1 c1_i32_251
  let c0_i32 : BitVec 32 := 0#32
  let c1_i32_209 : BitVec 32 := 1#32
  let arg9 : BitVec 32 := Scf.iv c0_i32 c1_i32_209 k0_t1
  let v460 : BitVec 32 := Scalar.subi v459 arg9
  let c256_i32_252 : BitVec 32 := 256#32
  let v461 : BitVec 32 := Scalar.muli v460 c256_i32_252
  let v462 : BitVec 32 := v461
  let v559 : Index := Scalar.indexCast v462
  ![256, v559.toNat]
def k0_off13 (i : grid0.Coords) (k0_t1 : Fin (k0_t1_loop i).trips) : Fin 3 → Nat :=
  let c0_315 : Index := 0#32
  let arg1 : BitVec 32 := BitVec.ofNat 32 (i 1).val
  let c1_i32_251 : BitVec 32 := 1#32
  let v459 : BitVec 32 := Scalar.subi arg1 c1_i32_251
  let c0_i32 : BitVec 32 := 0#32
  let c1_i32_209 : BitVec 32 := 1#32
  let arg9 : BitVec 32 := Scf.iv c0_i32 c1_i32_209 k0_t1
  let v460 : BitVec 32 := Scalar.subi v459 arg9
  let c256_i32_252 : BitVec 32 := 256#32
  let v461 : BitVec 32 := Scalar.muli v460 c256_i32_252
  let v462 : BitVec 32 := v461
  let v584 : Index := Scalar.indexCast v462
  let c128_316 : Index := 128#32
  ![0, v584.toNat, 128]
def k0_off14 (i : grid0.Coords) (k0_t1 : Fin (k0_t1_loop i).trips) : Fin 2 → Nat :=
  let c384_341 : Index := 384#32
  let arg1 : BitVec 32 := BitVec.ofNat 32 (i 1).val
  let c1_i32_251 : BitVec 32 := 1#32
  let v459 : BitVec 32 := Scalar.subi arg1 c1_i32_251
  let c0_i32 : BitVec 32 := 0#32
  let c1_i32_209 : BitVec 32 := 1#32
  let arg9 : BitVec 32 := Scf.iv c0_i32 c1_i32_209 k0_t1
  let v460 : BitVec 32 := Scalar.subi v459 arg9
  let c256_i32_252 : BitVec 32 := 256#32
  let v461 : BitVec 32 := Scalar.muli v460 c256_i32_252
  let v462 : BitVec 32 := v461
  let v631 : Index := Scalar.indexCast v462
  ![384, v631.toNat]
def k0_off15 (i : grid0.Coords) (k0_t1 : Fin (k0_t1_loop i).trips) : Fin 3 → Nat :=
  let c0_351 : Index := 0#32
  let arg1 : BitVec 32 := BitVec.ofNat 32 (i 1).val
  let c1_i32_251 : BitVec 32 := 1#32
  let v459 : BitVec 32 := Scalar.subi arg1 c1_i32_251
  let c0_i32 : BitVec 32 := 0#32
  let c1_i32_209 : BitVec 32 := 1#32
  let arg9 : BitVec 32 := Scf.iv c0_i32 c1_i32_209 k0_t1
  let v460 : BitVec 32 := Scalar.subi v459 arg9
  let c256_i32_252 : BitVec 32 := 256#32
  let v461 : BitVec 32 := Scalar.muli v460 c256_i32_252
  let v462 : BitVec 32 := v461
  let v656 : Index := Scalar.indexCast v462
  let c256_352 : Index := 256#32
  ![0, v656.toNat, 256]
def k0_off16 (i : grid0.Coords) (k0_t1 : Fin (k0_t1_loop i).trips) : Fin 3 → Nat :=
  let c0_383 : Index := 0#32
  let arg1 : BitVec 32 := BitVec.ofNat 32 (i 1).val
  let c1_i32_251 : BitVec 32 := 1#32
  let v459 : BitVec 32 := Scalar.subi arg1 c1_i32_251
  let c0_i32 : BitVec 32 := 0#32
  let c1_i32_209 : BitVec 32 := 1#32
  let arg9 : BitVec 32 := Scf.iv c0_i32 c1_i32_209 k0_t1
  let v460 : BitVec 32 := Scalar.subi v459 arg9
  let c256_i32_252 : BitVec 32 := 256#32
  let v461 : BitVec 32 := Scalar.muli v460 c256_i32_252
  let v462 : BitVec 32 := v461
  let v723 : Index := Scalar.indexCast v462
  let c384_384 : Index := 384#32
  ![0, v723.toNat, 384]
@[reducible] def k0_t2_loop (i : grid0.Coords) : Scf.Loop 32 :=
  let c0_i32 : BitVec 32 := 0#32
  let arg1 : BitVec 32 := BitVec.ofNat 32 (i 1).val
  let v407 : BitVec 32 := Scalar.subi arg1 c0_i32
  let c1_i32 : BitVec 32 := 1#32
  let v409 : BitVec 32 := Scalar.divsi v407 c1_i32
  let v410 : BitVec 32 := Scalar.muli v409 c1_i32
  let v411 : BitVec 32 := Scalar.addi c0_i32 v410
  let v408 : BitVec 32 := Scalar.addi c0_i32 v407
  let c1_i32_210 : BitVec 32 := 1#32
  ⟨v411, v408, c1_i32_210⟩
def k0_mult3 (i : grid0.Coords) (k0_t2 : Fin (k0_t2_loop i).trips) : BitVec 32 :=
  let arg1 : BitVec 32 := BitVec.ofNat 32 (i 1).val
  let c1_i32_251 : BitVec 32 := 1#32
  let v459 : BitVec 32 := Scalar.subi arg1 c1_i32_251
  let c0_i32 : BitVec 32 := 0#32
  let v407 : BitVec 32 := Scalar.subi arg1 c0_i32
  let c1_i32 : BitVec 32 := 1#32
  let v409 : BitVec 32 := Scalar.divsi v407 c1_i32
  let v410 : BitVec 32 := Scalar.muli v409 c1_i32
  let v411 : BitVec 32 := Scalar.addi c0_i32 v410
  let c1_i32_210 : BitVec 32 := 1#32
  let arg9 : BitVec 32 := Scf.iv v411 c1_i32_210 k0_t2
  let v460 : BitVec 32 := Scalar.subi v459 arg9
  let c256_i32_252 : BitVec 32 := 256#32
  let v461 : BitVec 32 := Scalar.muli v460 c256_i32_252
  v461
def k0_off17 (i : grid0.Coords) (k0_t2 : Fin (k0_t2_loop i).trips) : Fin 2 → Nat :=
  let c0_257 : Index := 0#32
  let arg1 : BitVec 32 := BitVec.ofNat 32 (i 1).val
  let c1_i32_251 : BitVec 32 := 1#32
  let v459 : BitVec 32 := Scalar.subi arg1 c1_i32_251
  let c0_i32 : BitVec 32 := 0#32
  let v407 : BitVec 32 := Scalar.subi arg1 c0_i32
  let c1_i32 : BitVec 32 := 1#32
  let v409 : BitVec 32 := Scalar.divsi v407 c1_i32
  let v410 : BitVec 32 := Scalar.muli v409 c1_i32
  let v411 : BitVec 32 := Scalar.addi c0_i32 v410
  let c1_i32_210 : BitVec 32 := 1#32
  let arg9 : BitVec 32 := Scf.iv v411 c1_i32_210 k0_t2
  let v460 : BitVec 32 := Scalar.subi v459 arg9
  let c256_i32_252 : BitVec 32 := 256#32
  let v461 : BitVec 32 := Scalar.muli v460 c256_i32_252
  let v462 : BitVec 32 := v461
  let v465 : Index := Scalar.indexCast v462
  ![0, v465.toNat]
def k0_off18 (i : grid0.Coords) (k0_t2 : Fin (k0_t2_loop i).trips) : Fin 2 → Nat :=
  let c128_269 : Index := 128#32
  let arg1 : BitVec 32 := BitVec.ofNat 32 (i 1).val
  let c1_i32_251 : BitVec 32 := 1#32
  let v459 : BitVec 32 := Scalar.subi arg1 c1_i32_251
  let c0_i32 : BitVec 32 := 0#32
  let v407 : BitVec 32 := Scalar.subi arg1 c0_i32
  let c1_i32 : BitVec 32 := 1#32
  let v409 : BitVec 32 := Scalar.divsi v407 c1_i32
  let v410 : BitVec 32 := Scalar.muli v409 c1_i32
  let v411 : BitVec 32 := Scalar.addi c0_i32 v410
  let c1_i32_210 : BitVec 32 := 1#32
  let arg9 : BitVec 32 := Scf.iv v411 c1_i32_210 k0_t2
  let v460 : BitVec 32 := Scalar.subi v459 arg9
  let c256_i32_252 : BitVec 32 := 256#32
  let v461 : BitVec 32 := Scalar.muli v460 c256_i32_252
  let v462 : BitVec 32 := v461
  let v487 : Index := Scalar.indexCast v462
  ![128, v487.toNat]
def k0_off19 (i : grid0.Coords) (k0_t2 : Fin (k0_t2_loop i).trips) : Fin 3 → Nat :=
  let c0_279 : Index := 0#32
  let arg1 : BitVec 32 := BitVec.ofNat 32 (i 1).val
  let c1_i32_251 : BitVec 32 := 1#32
  let v459 : BitVec 32 := Scalar.subi arg1 c1_i32_251
  let c0_i32 : BitVec 32 := 0#32
  let v407 : BitVec 32 := Scalar.subi arg1 c0_i32
  let c1_i32 : BitVec 32 := 1#32
  let v409 : BitVec 32 := Scalar.divsi v407 c1_i32
  let v410 : BitVec 32 := Scalar.muli v409 c1_i32
  let v411 : BitVec 32 := Scalar.addi c0_i32 v410
  let c1_i32_210 : BitVec 32 := 1#32
  let arg9 : BitVec 32 := Scf.iv v411 c1_i32_210 k0_t2
  let v460 : BitVec 32 := Scalar.subi v459 arg9
  let c256_i32_252 : BitVec 32 := 256#32
  let v461 : BitVec 32 := Scalar.muli v460 c256_i32_252
  let v462 : BitVec 32 := v461
  let v512 : Index := Scalar.indexCast v462
  let c0_280 : Index := 0#32
  ![0, v512.toNat, 0]
def k0_off20 (i : grid0.Coords) (k0_t2 : Fin (k0_t2_loop i).trips) : Fin 2 → Nat :=
  let c256_305 : Index := 256#32
  let arg1 : BitVec 32 := BitVec.ofNat 32 (i 1).val
  let c1_i32_251 : BitVec 32 := 1#32
  let v459 : BitVec 32 := Scalar.subi arg1 c1_i32_251
  let c0_i32 : BitVec 32 := 0#32
  let v407 : BitVec 32 := Scalar.subi arg1 c0_i32
  let c1_i32 : BitVec 32 := 1#32
  let v409 : BitVec 32 := Scalar.divsi v407 c1_i32
  let v410 : BitVec 32 := Scalar.muli v409 c1_i32
  let v411 : BitVec 32 := Scalar.addi c0_i32 v410
  let c1_i32_210 : BitVec 32 := 1#32
  let arg9 : BitVec 32 := Scf.iv v411 c1_i32_210 k0_t2
  let v460 : BitVec 32 := Scalar.subi v459 arg9
  let c256_i32_252 : BitVec 32 := 256#32
  let v461 : BitVec 32 := Scalar.muli v460 c256_i32_252
  let v462 : BitVec 32 := v461
  let v559 : Index := Scalar.indexCast v462
  ![256, v559.toNat]
def k0_off21 (i : grid0.Coords) (k0_t2 : Fin (k0_t2_loop i).trips) : Fin 3 → Nat :=
  let c0_315 : Index := 0#32
  let arg1 : BitVec 32 := BitVec.ofNat 32 (i 1).val
  let c1_i32_251 : BitVec 32 := 1#32
  let v459 : BitVec 32 := Scalar.subi arg1 c1_i32_251
  let c0_i32 : BitVec 32 := 0#32
  let v407 : BitVec 32 := Scalar.subi arg1 c0_i32
  let c1_i32 : BitVec 32 := 1#32
  let v409 : BitVec 32 := Scalar.divsi v407 c1_i32
  let v410 : BitVec 32 := Scalar.muli v409 c1_i32
  let v411 : BitVec 32 := Scalar.addi c0_i32 v410
  let c1_i32_210 : BitVec 32 := 1#32
  let arg9 : BitVec 32 := Scf.iv v411 c1_i32_210 k0_t2
  let v460 : BitVec 32 := Scalar.subi v459 arg9
  let c256_i32_252 : BitVec 32 := 256#32
  let v461 : BitVec 32 := Scalar.muli v460 c256_i32_252
  let v462 : BitVec 32 := v461
  let v584 : Index := Scalar.indexCast v462
  let c128_316 : Index := 128#32
  ![0, v584.toNat, 128]
def k0_off22 (i : grid0.Coords) (k0_t2 : Fin (k0_t2_loop i).trips) : Fin 2 → Nat :=
  let c384_341 : Index := 384#32
  let arg1 : BitVec 32 := BitVec.ofNat 32 (i 1).val
  let c1_i32_251 : BitVec 32 := 1#32
  let v459 : BitVec 32 := Scalar.subi arg1 c1_i32_251
  let c0_i32 : BitVec 32 := 0#32
  let v407 : BitVec 32 := Scalar.subi arg1 c0_i32
  let c1_i32 : BitVec 32 := 1#32
  let v409 : BitVec 32 := Scalar.divsi v407 c1_i32
  let v410 : BitVec 32 := Scalar.muli v409 c1_i32
  let v411 : BitVec 32 := Scalar.addi c0_i32 v410
  let c1_i32_210 : BitVec 32 := 1#32
  let arg9 : BitVec 32 := Scf.iv v411 c1_i32_210 k0_t2
  let v460 : BitVec 32 := Scalar.subi v459 arg9
  let c256_i32_252 : BitVec 32 := 256#32
  let v461 : BitVec 32 := Scalar.muli v460 c256_i32_252
  let v462 : BitVec 32 := v461
  let v631 : Index := Scalar.indexCast v462
  ![384, v631.toNat]
def k0_off23 (i : grid0.Coords) (k0_t2 : Fin (k0_t2_loop i).trips) : Fin 3 → Nat :=
  let c0_351 : Index := 0#32
  let arg1 : BitVec 32 := BitVec.ofNat 32 (i 1).val
  let c1_i32_251 : BitVec 32 := 1#32
  let v459 : BitVec 32 := Scalar.subi arg1 c1_i32_251
  let c0_i32 : BitVec 32 := 0#32
  let v407 : BitVec 32 := Scalar.subi arg1 c0_i32
  let c1_i32 : BitVec 32 := 1#32
  let v409 : BitVec 32 := Scalar.divsi v407 c1_i32
  let v410 : BitVec 32 := Scalar.muli v409 c1_i32
  let v411 : BitVec 32 := Scalar.addi c0_i32 v410
  let c1_i32_210 : BitVec 32 := 1#32
  let arg9 : BitVec 32 := Scf.iv v411 c1_i32_210 k0_t2
  let v460 : BitVec 32 := Scalar.subi v459 arg9
  let c256_i32_252 : BitVec 32 := 256#32
  let v461 : BitVec 32 := Scalar.muli v460 c256_i32_252
  let v462 : BitVec 32 := v461
  let v656 : Index := Scalar.indexCast v462
  let c256_352 : Index := 256#32
  ![0, v656.toNat, 256]
def k0_off24 (i : grid0.Coords) (k0_t2 : Fin (k0_t2_loop i).trips) : Fin 3 → Nat :=
  let c0_383 : Index := 0#32
  let arg1 : BitVec 32 := BitVec.ofNat 32 (i 1).val
  let c1_i32_251 : BitVec 32 := 1#32
  let v459 : BitVec 32 := Scalar.subi arg1 c1_i32_251
  let c0_i32 : BitVec 32 := 0#32
  let v407 : BitVec 32 := Scalar.subi arg1 c0_i32
  let c1_i32 : BitVec 32 := 1#32
  let v409 : BitVec 32 := Scalar.divsi v407 c1_i32
  let v410 : BitVec 32 := Scalar.muli v409 c1_i32
  let v411 : BitVec 32 := Scalar.addi c0_i32 v410
  let c1_i32_210 : BitVec 32 := 1#32
  let arg9 : BitVec 32 := Scf.iv v411 c1_i32_210 k0_t2
  let v460 : BitVec 32 := Scalar.subi v459 arg9
  let c256_i32_252 : BitVec 32 := 256#32
  let v461 : BitVec 32 := Scalar.muli v460 c256_i32_252
  let v462 : BitVec 32 := v461
  let v723 : Index := Scalar.indexCast v462
  let c384_384 : Index := 384#32
  ![0, v723.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SbIdeal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | _ => none
-- ==== SbRefIdeal.lean ====
abbrev S8x4096x512 : Shape := ⟨3, ![8, 4096, 512]⟩
abbrev S8x4096x8x64 : Shape := ⟨4, ![8, 4096, 8, 64]⟩
abbrev S4096 : Shape := ⟨1, ![4096]⟩
abbrev S8x8x4096x4096 : Shape := ⟨4, ![8, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S8x8x64x4096 : Shape := ⟨4, ![8, 8, 64, 4096]⟩

abbrev nBuf : Space → Nat
  | .hbm => 70
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x4096x8x64, .f32⟩
  | .hbm, ⟨4, _⟩ => ⟨S8x4096x8x64, .f32⟩
  | .hbm, ⟨5, _⟩ => ⟨S8x4096x8x64, .f32⟩
  | .hbm, ⟨6, _⟩ => ⟨S4096, .i32⟩
  | .hbm, ⟨7, _⟩ => ⟨S8x8x4096x4096, .f32⟩
  | .hbm, ⟨8, _⟩ => ⟨S_, .f32⟩
  | .hbm, ⟨9, _⟩ => ⟨S8x8x4096x4096, .f32⟩
  | .hbm, ⟨10, _⟩ => ⟨S8x8x4096x4096, .f32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S1x1x4096x4096, .i1⟩
  | .hbm, ⟨17, _⟩ => ⟨S8x8x4096x4096, .f32⟩
  | .hbm, ⟨18, _⟩ => ⟨S8x8x4096x4096, .f32⟩
  | .hbm, ⟨19, _⟩ => ⟨S_, .f32⟩
  | .hbm, ⟨20, _⟩ => ⟨S8x8x4096x4096, .f32⟩
  | .hbm, ⟨21, _⟩ => ⟨S8x8x4096x4096, .f32⟩
  | .hbm, ⟨22, _⟩ => ⟨S8x8x4096x4096, .f32⟩
  | .hbm, ⟨23, _⟩ => ⟨S8x8x4096x4096, .f32⟩
  | .hbm, ⟨24, _⟩ => ⟨S8x8x4096x4096, .i1⟩
  | .hbm, ⟨25, _⟩ => ⟨S8x8x4096x4096, .f32⟩
  | .hbm, ⟨26, _⟩ => ⟨S8x8x4096x4096, .f32⟩
  | .hbm, ⟨27, _⟩ => ⟨S8x8x4096x4096, .f32⟩
  | .hbm, ⟨28, _⟩ => ⟨S8x8x4096x4096, .f32⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S8x8x4096x4096, .f32⟩
  | .hbm, ⟨33, _⟩ => ⟨S8x8x4096x4096, .f32⟩
  | .hbm, ⟨34, _⟩ => ⟨S_, .f32⟩
  | .hbm, ⟨35, _⟩ => ⟨S_, .f32⟩
  | .hbm, ⟨36, _⟩ => ⟨S8x8x4096x4096, .i1⟩
  | .hbm, ⟨37, _⟩ => ⟨S8x8x4096x4096, .f32⟩
  | .hbm, ⟨38, _⟩ => ⟨S8x8x4096x4096, .f32⟩
  | .hbm, ⟨39, _⟩ => ⟨S_, .f32⟩
  | .hbm, ⟨40, _⟩ => ⟨S_, .f32⟩
  | .hbm, ⟨41, _⟩ => ⟨S8x8x4096x4096, .f32⟩
  | .hbm, ⟨42, _⟩ => ⟨S8x8x4096x4096, .f32⟩
  | .hbm, ⟨43, _⟩ => ⟨S8x8x4096x4096, .f32⟩
  | .hbm, ⟨44, _⟩ => ⟨S_, .f32⟩
  | .hbm, ⟨45, _⟩ => ⟨S8x8x4096x4096, .f32⟩
  | .hbm, ⟨46, _⟩ => ⟨S8x8x4096x4096, .f32⟩
  | .hbm, ⟨47, _⟩ => ⟨S8x8x4096x4096, .f32⟩
  | .hbm, ⟨48, _⟩ => ⟨S8x8x4096x4096, .f32⟩
  | .hbm, ⟨49, _⟩ => ⟨S8x8x4096x4096, .i1⟩
  | .hbm, ⟨50, _⟩ => ⟨S8x8x4096x4096, .f32⟩
  | .hbm, ⟨51, _⟩ => ⟨S8x8x4096x4096, .f32⟩
  | .hbm, ⟨52, _⟩ => ⟨S8x8x4096x4096, .f32⟩
  | .hbm, ⟨53, _⟩ => ⟨S8x8x4096x4096, .f32⟩
  | .hbm, ⟨54, _⟩ => ⟨S8x8x4096x4096, .f32⟩
  | .hbm, ⟨55, _⟩ => ⟨S8x8x4096x4096, .f32⟩
  | .hbm, ⟨56, _⟩ => ⟨S8x8x4096x4096, .f32⟩
  | .hbm, ⟨57, _⟩ => ⟨S8x8x4096x4096, .f32⟩
  | .hbm, ⟨58, _⟩ => ⟨S8x8x4096x4096, .f32⟩
  | .hbm, ⟨59, _⟩ => ⟨S8x8x4096x4096, .f32⟩
  | .hbm, ⟨60, _⟩ => ⟨S8x8x4096x4096, .f32⟩
  | .hbm, ⟨61, _⟩ => ⟨S_, .f32⟩
  | .hbm, ⟨62, _⟩ => ⟨S_, .f32⟩
  | .hbm, ⟨63, _⟩ => ⟨S8x8x4096x4096, .i1⟩
  | .hbm, ⟨64, _⟩ => ⟨S8x8x4096x4096, .f32⟩
  | .hbm, ⟨65, _⟩ => ⟨S8x8x4096x4096, .f32⟩
  | .hbm, ⟨66, _⟩ => ⟨S8x8x64x4096, .f32⟩
  | .hbm, ⟨67, _⟩ => ⟨S8x4096x8x64, .f32⟩
  | .hbm, ⟨68, _⟩ => ⟨S8x4096x512, .f32⟩
  | .hbm, ⟨69, _⟩ => ⟨S8x4096x512, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_call2_cst : Ref sig .tc := ⟨.hbm, 39, rfl⟩
abbrev main_call2_v0 : Ref sig .tc := ⟨.hbm, 40, rfl⟩
abbrev main_v16 : Ref sig .tc := ⟨.hbm, 41, rfl⟩
abbrev main_v17 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩

abbrev nD : Nat := 1
abbrev τ : Topo := Topo.v7x

variable {F : FTy → Type} [FloatOps F]
-- ==== Proj.lean ====
abbrev S32768x1024 : Shape := ⟨2, ![32768, 1024]⟩
abbrev S8x4096 : Shape := ⟨2, ![8, 4096]⟩
abbrev S1x1024 : Shape := ⟨2, ![1, 1024]⟩
abbrev S1x1024x4104 : Shape := ⟨3, ![1, 1024, 4104]⟩
abbrev S1x256 : Shape := ⟨2, ![1, 256]⟩
abbrev S1x256x512 : Shape := ⟨3, ![1, 256, 512]⟩
abbrev S1x64 : Shape := ⟨2, ![1, 64]⟩
abbrev S128 : Shape := ⟨1, ![128]⟩
abbrev S1024x4104 : Shape := ⟨2, ![1024, 4104]⟩
abbrev S1024x256 : Shape := ⟨2, ![1024, 256]⟩
abbrev S1024x64 : Shape := ⟨2, ![1024, 64]⟩
abbrev S1024x128 : Shape := ⟨2, ![1024, 128]⟩
abbrev S1024x512 : Shape := ⟨2, ![1024, 512]⟩
abbrev S1024x8 : Shape := ⟨2, ![1024, 8]⟩
abbrev S_ : Shape := ⟨0, ![]⟩
abbrev S1024x1024 : Shape := ⟨2, ![1024, 1024]⟩
abbrev S1024x1536 : Shape := ⟨2, ![1024, 1536]⟩
abbrev S32768x1 : Shape := ⟨2, ![32768, 1]⟩
abbrev S1024 : Shape := ⟨1, ![1024]⟩
abbrev S256 : Shape := ⟨1, ![256]⟩
abbrev S256x512 : Shape := ⟨2, ![256, 512]⟩
abbrev S64 : Shape := ⟨1, ![64]⟩
abbrev S1x128 : Shape := ⟨2, ![1, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8x64 : Shape := ⟨2, ![8, 64]⟩
abbrev S2x64 : Shape := ⟨2, ![2, 64]⟩
abbrev S512x32768 : Shape := ⟨2, ![512, 32768]⟩
abbrev S32768x128 : Shape := ⟨2, ![32768, 128]⟩
abbrev S144x32768 : Shape := ⟨2, ![144, 32768]⟩
abbrev S128x32768 : Shape := ⟨2, ![128, 32768]⟩
abbrev S1024x1 : Shape := ⟨2, ![1024, 1]⟩
abbrev S512x1024 : Shape := ⟨2, ![512, 1024]⟩
abbrev S144x1024 : Shape := ⟨2, ![144, 1024]⟩
abbrev S128x1024 : Shape := ⟨2, ![128, 1024]⟩
abbrev S16x1024 : Shape := ⟨2, ![16, 1024]⟩

abbrev nBuf : Space → Nat
  | .hbm => 86
  | .vmem => 31
  | .smem => 0
  | _ => 0

abbrev bufTy : (tb : Table) → Fin (tcTables nBuf tb) → BufTy
  | .hbm, ⟨0, _⟩ => ⟨S32768x1024, .f32⟩
  | .hbm, ⟨1, _⟩ => ⟨S8x4096, .i32⟩
  | .hbm, ⟨2, _⟩ => ⟨S1x1024, .f32⟩
  | .hbm, ⟨3, _⟩ => ⟨S1x1024x4104, .f32⟩
  | .hbm, ⟨4, _⟩ => ⟨S1x256, .f32⟩
  | .hbm, ⟨5, _⟩ => ⟨S1x256x512, .f32⟩
  | .hbm, ⟨6, _⟩ => ⟨S1x256x512, .f32⟩
  | .hbm, ⟨7, _⟩ => ⟨S1x64, .f32⟩
  | .hbm, ⟨8, _⟩ => ⟨S1x64, .f32⟩
  | .hbm, ⟨9, _⟩ => ⟨S128, .f32⟩
  | .hbm, ⟨10, _⟩ => ⟨S1024x4104, .f32⟩
  | .hbm, ⟨11, _⟩ => ⟨S1024x256, .f32⟩
  | .hbm, ⟨12, _⟩ => ⟨S1024x64, .f32⟩
  | .hbm, ⟨13, _⟩ => ⟨S1024x64, .f32⟩
  | .hbm, ⟨14, _⟩ => ⟨S1024x128, .f32⟩
  | .hbm, ⟨15, _⟩ => ⟨S1024x512, .f32⟩
  | .hbm, ⟨16, _⟩ => ⟨S1024x512, .bf16⟩
  | .hbm, ⟨17, _⟩ => ⟨S1024x8, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1024x128, .bf16⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S1024x1024, .f32⟩
  | .hbm, ⟨27, _⟩ => ⟨S1024x1536, .f32⟩
  | .hbm, ⟨28, _⟩ => ⟨S1024x1536, .bf16⟩
  | .hbm, ⟨29, _⟩ => ⟨S32768x1, .i32⟩
  | .hbm, ⟨30, _⟩ => ⟨S1024, .f32⟩
  | .hbm, ⟨31, _⟩ => ⟨S256, .f32⟩
  | .hbm, ⟨32, _⟩ => ⟨S256x512, .f32⟩
  | .hbm, ⟨33, _⟩ => ⟨S256x512, .bf16⟩
  | .hbm, ⟨34, _⟩ => ⟨S256x512, .f32⟩
  | .hbm, ⟨35, _⟩ => ⟨S256x512, .bf16⟩
  | .hbm, ⟨36, _⟩ => ⟨S64, .f32⟩
  | .hbm, ⟨37, _⟩ => ⟨S64, .f32⟩
  | .hbm, ⟨38, _⟩ => ⟨S1x128, .f32⟩
  | .hbm, ⟨39, _⟩ => ⟨S512, .i32⟩
  | .hbm, ⟨40, _⟩ => ⟨S_, .i32⟩
  | .hbm, ⟨41, _⟩ => ⟨S_, .i32⟩
  | .hbm, ⟨42, _⟩ => ⟨S512, .i32⟩
  | .hbm, ⟨43, _⟩ => ⟨S512, .i32⟩
  | .hbm, ⟨44, _⟩ => ⟨S512, .i32⟩
  | .hbm, ⟨45, _⟩ => ⟨S_, .i32⟩
  | .hbm, ⟨46, _⟩ => ⟨S512, .i32⟩
  | .hbm, ⟨47, _⟩ => ⟨S512, .i1⟩
  | .hbm, ⟨48, _⟩ => ⟨S512, .i32⟩
  | .hbm, ⟨49, _⟩ => ⟨S512, .i32⟩
  | .hbm, ⟨50, _⟩ => ⟨S_, .i32⟩
  | .hbm, ⟨51, _⟩ => ⟨S512, .i32⟩
  | .hbm, ⟨52, _⟩ => ⟨S512, .i1⟩
  | .hbm, ⟨53, _⟩ => ⟨S512, .i1⟩
  | .hbm, ⟨54, _⟩ => ⟨S_, .i32⟩
  | .hbm, ⟨55, _⟩ => ⟨S512, .i32⟩
  | .hbm, ⟨56, _⟩ => ⟨S512, .i32⟩
  | .hbm, ⟨57, _⟩ => ⟨S512, .i32⟩
  | .hbm, ⟨58, _⟩ => ⟨S512x1, .i32⟩
  | .hbm, ⟨59, _⟩ => ⟨S1x512, .i32⟩
  | .hbm, ⟨60, _⟩ => ⟨S512x512, .i32⟩
  | .hbm, ⟨61, _⟩ => ⟨S512x512, .i32⟩
  | .hbm, ⟨62, _⟩ => ⟨S512x512, .i1⟩
  | .hbm, ⟨63, _⟩ => ⟨S512x512, .f32⟩
  | .hbm, ⟨64, _⟩ => ⟨S_, .f32⟩
  | .hbm, ⟨65, _⟩ => ⟨S512x512, .f32⟩
  | .hbm, ⟨66, _⟩ => ⟨S512x512, .f32⟩
  | .hbm, ⟨67, _⟩ => ⟨S512x512, .bf16⟩
  | .hbm, ⟨68, _⟩ => ⟨S1x64, .f32⟩
  | .hbm, ⟨69, _⟩ => ⟨S8x64, .f32⟩
  | .hbm, ⟨70, _⟩ => ⟨S512, .f32⟩
  | .hbm, ⟨71, _⟩ => ⟨S1x512, .f32⟩
  | .hbm, ⟨72, _⟩ => ⟨S1x64, .f32⟩
  | .hbm, ⟨73, _⟩ => ⟨S2x64, .f32⟩
  | .hbm, ⟨74, _⟩ => ⟨S128, .f32⟩
  | .hbm, ⟨75, _⟩ => ⟨S1x128, .f32⟩
  | .hbm, ⟨76, _⟩ => ⟨S1x1024, .f32⟩
  | .hbm, ⟨77, _⟩ => ⟨S1x256, .f32⟩
  | .hbm, ⟨78, _⟩ => ⟨S512x32768, .bf16⟩
  | .hbm, ⟨79, _⟩ => ⟨S512x32768, .bf16⟩
  | .hbm, ⟨80, _⟩ => ⟨S32768x128, .bf16⟩
  | .hbm, ⟨81, _⟩ => ⟨S32768x128, .bf16⟩
  | .hbm, ⟨82, _⟩ => ⟨S144x32768, .bf16⟩
  | .hbm, ⟨83, _⟩ => ⟨S128x32768, .f32⟩
  | .hbm, ⟨84, _⟩ => ⟨S32768x1024, .bf16⟩
  | .hbm, ⟨85, _⟩ => ⟨S512x32768, .bf16⟩
  | .local _ .vmem, ⟨0, _⟩ => ⟨S1024x1024, .f32⟩
  | .local _ .vmem, ⟨1, _⟩ => ⟨S1024x1024, .f32⟩
  | .local _ .vmem, ⟨2, _⟩ => ⟨S1024x1, .i32⟩
  | .local _ .vmem, ⟨3, _⟩ => ⟨S1024x1, .i32⟩
  | .local _ .vmem, ⟨4, _⟩ => ⟨S1x1024, .f32⟩
  | .local _ .vmem, ⟨5, _⟩ => ⟨S1024x512, .bf16⟩
  | .local _ .vmem, ⟨6, _⟩ => ⟨S1024x128, .bf16⟩
  | .local _ .vmem, ⟨7, _⟩ => ⟨S1024x1536, .bf16⟩
  | .local _ .vmem, ⟨8, _⟩ => ⟨S1x256, .f32⟩
  | .local _ .vmem, ⟨9, _⟩ => ⟨S256x512, .bf16⟩
  | .local _ .vmem, ⟨10, _⟩ => ⟨S256x512, .bf16⟩
  | .local _ .vmem, ⟨11, _⟩ => ⟨S1x512, .f32⟩
  | .local _ .vmem, ⟨12, _⟩ => ⟨S1x128, .f32⟩
  | .local _ .vmem, ⟨13, _⟩ => ⟨S1x128, .f32⟩
  | .local _ .vmem, ⟨14, _⟩ => ⟨S512x512, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1024x128, .bf16⟩
  | .local _ .vmem, ⟨20, _⟩ => ⟨S1024x128, .bf16⟩
  | .local _ .vmem, ⟨21, _⟩ => ⟨S1024x128, .bf16⟩
  | .local _ .vmem, ⟨22, _⟩ => ⟨S1024x128, .bf16⟩
  | .local _ .vmem, ⟨23, _⟩ => ⟨S144x1024, .bf16⟩
  | .local _ .vmem, ⟨24, _⟩ => ⟨S144x1024, .bf16⟩
  | .local _ .vmem, ⟨25, _⟩ => ⟨S128x1024, .f32⟩
  | .local _ .vmem, ⟨26, _⟩ => ⟨S128x1024, .f32⟩
  | .local _ .vmem, ⟨27, _⟩ => ⟨S1024x1024, .bf16⟩
  | .local _ .vmem, ⟨28, _⟩ => ⟨S1024x1024, .bf16⟩
  | .local _ .vmem, ⟨29, _⟩ => ⟨S512x1024, .bf16⟩
  | .local _ .vmem, ⟨30, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_1 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_2 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47_0 : Ref sig .tc := ⟨.hbm, 78, rfl⟩
abbrev main_v47_1 : Ref sig .tc := ⟨.hbm, 79, rfl⟩
abbrev main_v47_2 : Ref sig .tc := ⟨.hbm, 80, rfl⟩
abbrev main_v47_3 : Ref sig .tc := ⟨.hbm, 81, rfl⟩
abbrev main_v47_4 : Ref sig .tc := ⟨.hbm, 82, rfl⟩
abbrev main_v47_5 : Ref sig .tc := ⟨.hbm, 83, rfl⟩
abbrev main_v47_6 : Ref sig .tc := ⟨.hbm, 84, rfl⟩
abbrev main_v47_7 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S144x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ProjRefIdeal.lean ====
abbrev S32768x1024 : Shape := ⟨2, ![32768, 1024]⟩
abbrev S8x4096 : Shape := ⟨2, ![8, 4096]⟩
abbrev S1x1024 : Shape := ⟨2, ![1, 1024]⟩
abbrev S1x1024x4104 : Shape := ⟨3, ![1, 1024, 4104]⟩
abbrev S1x256 : Shape := ⟨2, ![1, 256]⟩
abbrev S1x256x512 : Shape := ⟨3, ![1, 256, 512]⟩
abbrev S1x64 : Shape := ⟨2, ![1, 64]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x4104 : Shape := ⟨2, ![1024, 4104]⟩
abbrev S32768x4104 : Shape := ⟨2, ![32768, 4104]⟩
abbrev S32768x512 : Shape := ⟨2, ![32768, 512]⟩
abbrev S512x32768 : Shape := ⟨2, ![512, 32768]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x4096, .i32⟩
  | .hbm, ⟨2, _⟩ => ⟨S1x1024, .f32⟩
  | .hbm, ⟨3, _⟩ => ⟨S1x1024x4104, .f32⟩
  | .hbm, ⟨4, _⟩ => ⟨S1x256, .f32⟩
  | .hbm, ⟨5, _⟩ => ⟨S1x256x512, .f32⟩
  | .hbm, ⟨6, _⟩ => ⟨S1x256x512, .f32⟩
  | .hbm, ⟨7, _⟩ => ⟨S1x64, .f32⟩
  | .hbm, ⟨8, _⟩ => ⟨S1x64, .f32⟩
  | .hbm, ⟨9, _⟩ => ⟨S1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S1024x4104, .f32⟩
  | .hbm, ⟨27, _⟩ => ⟨S32768x4104, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S_, .f32⟩
  | .hbm, ⟨32, _⟩ => ⟨S32768x512, .f32⟩
  | .hbm, ⟨33, _⟩ => ⟨S32768x512, .f32⟩
  | .hbm, ⟨34, _⟩ => ⟨S32768x1024, .f32⟩
  | .hbm, ⟨35, _⟩ => ⟨S32768x1024, .bf16⟩
  | .hbm, ⟨36, _⟩ => ⟨S512x32768, .f32⟩
  | .hbm, ⟨37, _⟩ => ⟨S512x32768, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Proof.DsaLoop.lean ====
/- The counted loops of the top-k call: what each trip reads stays as it is, what it writes stays writable. Of
   the values that the loops carry nothing is said. -/
module

public import proofs.«01_k».proof.Proof.Gen.Dsa.Skeleton
public import proofs.«01_k».proof.Proof.Gen.Dsa.Frame

@[expose] public section

set_option warn.classDefReducibility false
set_option maxRecDepth 65536

noncomputable section

namespace Cert.Proof.Dsa

open Cert.Dsa Cert.Dsa.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (i : grid0.Coords)
  (arg2 : Memref sig .tc .vmem S512x256 .bf16) (harg2 : arg2.IsWhole)
  (arg3 : Memref sig .tc .vmem S128x256 .f32) (harg3 : arg3.IsWhole)
  (arg4 : Memref sig .tc .vmem S512x256 .bf16) (harg4 : arg4.IsWhole)
  (arg5 : Memref sig .tc .vmem S4096x128 .bf16) (harg5 : arg5.IsWhole)
  (arg6 : Memref sig .tc .vmem S4096x128 .bf16) (harg6 : arg6.IsWhole)
  (arg7 : Memref sig .tc .vmem S144x4096 .bf16) (harg7 : arg7.IsWhole)
  (arg8 : Memref sig .tc .vmem S8x64x128 .bf16) (harg8 : arg8.IsWhole)
  (arg9 : Memref sig .tc .vmem S1x256x512 .bf16) (harg9 : arg9.IsWhole)
  (arg10 : Memref sig .tc .vmem S4096x256 .i32) (harg10 : arg10.IsWhole)
  (arg11 : Memref sig .tc .vmem S128x2048 .bf16) (harg11 : arg11.IsWhole)
  (arg12 : Memref sig .tc .vmem S128x2048 .bf16) (harg12 : arg12.IsWhole)
  (arg13 : Memref sig .tc .vmem S144x2048 .f32) (harg13 : arg13.IsWhole)
  (arg14 : Memref sig .tc .vmem S4096x256 .bf16) (harg14 : arg14.IsWhole)
  (arg15 : Memref sig .tc .vmem S8x256 .i32) (harg15 : arg15.IsWhole)
  (arg16 : Memref sig .tc .vmem S8x256 .f32) (harg16 : arg16.IsWhole)

set_option maxHeartbeats 4000000 in
/-- Loop 1 of the body: it reads `arg3`, `arg5`, `arg11` and writes `arg10`, `arg14`, of whose contents nothing is said. -/
@[sl_loop] def loopInv_k0_t1 (𝒱 : Variants) (c : Dev nD) (bd : Option 𝒱.V) (E : Set ℕ) (X3 : BufTy.Contents (Elt F) arg3.view.ty) (X5 : BufTy.Contents (Elt F) arg5.view.ty) (X11 : BufTy.Contents (Elt F) arg11.view.ty) (v20 : BitVec 32) (v24 : IVec S1x256 32) (v127 : Vec F S128x256 .bf16) :
    Idealize.ShloMosaic.LoopInv (M := MT nD τ sig Unit (Elt F) ℕ (UR sig nD τ) ℕ) Idealize.ShloMosaic.frame (wpE (defs₀ (F := F)) 𝒱 (c : Thread nD τ) bd) E (k0_t1_loop i).lb (k0_t1_loop i).ub (k0_t1_loop i).st (k0_t1_ok i) () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v20 v24 v127) where
  inv := fun _ _ => iprop((arg3.view.loc (c : Thread nD τ) ↦[arg3.view.set]{fullShare} X3) ∗ (arg5.view.loc (c : Thread nD τ) ↦[arg5.view.set]{fullShare} X5) ∗ (arg11.view.loc (c : Thread nD τ) ↦[arg11.view.set]{fullShare} X11) ∗ (∃ f : BufTy.Contents (Elt F) arg10.view.ty, (arg10.view.loc (c : Thread nD τ) ↦[arg10.view.set]{fullShare} f)) ∗ (∃ f : BufTy.Contents (Elt F) arg14.view.ty, (arg14.view.loc (c : Thread nD τ) ↦[arg14.view.set]{fullShare} f)))
  step k acc := by
    iintro ⟨H3, H5, H11, ⟨%f10, H10⟩, ⟨%f14, H14⟩⟩
    unfold k0_t1_body
    sl_exec
    sl_step
    isplitl [H3]; · iexact H3
    isplitl [H5]; · iexact H5
    isplitl [H11]; · iexact H11
    isplitl [H10]; · iexists _; iexact H10
    iexists _; iexact H14

set_option maxHeartbeats 4000000 in
/-- Loop 2 of the body: it reads `arg3`, `arg5`, `arg11` and writes `arg10`, `arg14`, of whose contents nothing is said. -/
@[sl_loop] def loopInv_k0_t2 (𝒱 : Variants) (c : Dev nD) (bd : Option 𝒱.V) (E : Set ℕ) (X3 : BufTy.Contents (Elt F) arg3.view.ty) (X5 : BufTy.Contents (Elt F) arg5.view.ty) (X11 : BufTy.Contents (Elt F) arg11.view.ty) (v20 : BitVec 32) (v24 : IVec S1x256 32) (v127 : Vec F S128x256 .bf16) (v135 : BitVec 32) :
    Idealize.ShloMosaic.LoopInv (M := MT nD τ sig Unit (Elt F) ℕ (UR sig nD τ) ℕ) Idealize.ShloMosaic.frame (wpE (defs₀ (F := F)) 𝒱 (c : Thread nD τ) bd) E (k0_t2_loop i).lb (k0_t2_loop i).ub (k0_t2_loop i).st (k0_t2_ok i) () (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v20 v24 v127 v135) where
  inv := fun _ _ => iprop((arg3.view.loc (c : Thread nD τ) ↦[arg3.view.set]{fullShare} X3) ∗ (arg5.view.loc (c : Thread nD τ) ↦[arg5.view.set]{fullShare} X5) ∗ (arg11.view.loc (c : Thread nD τ) ↦[arg11.view.set]{fullShare} X11) ∗ (∃ f : BufTy.Contents (Elt F) arg10.view.ty, (arg10.view.loc (c : Thread nD τ) ↦[arg10.view.set]{fullShare} f)) ∗ (∃ f : BufTy.Contents (Elt F) arg14.view.ty, (arg14.view.loc (c : Thread nD τ) ↦[arg14.view.set]{fullShare} f)))
  step k acc := by
    iintro ⟨H3, H5, H11, ⟨%f10, H10⟩, ⟨%f14, H14⟩⟩
    unfold k0_t2_body
    sl_exec
    sl_step
    isplitl [H3]; · iexact H3
    isplitl [H5]; · iexact H5
    isplitl [H11]; · iexact H11
    isplitl [H10]; · iexists _; iexact H10
    iexists _; iexact H14

set_option maxHeartbeats 4000000 in
/-- Loop 3 of the body only reads `arg14`: nothing is said of what it carries. -/
@[sl_loop] def loopInv_k0_t3 (𝒱 : Variants) (c : Dev nD) (bd : Option 𝒱.V) (E : Set ℕ) (X : BufTy.Contents (Elt F) arg14.view.ty) (k0_h1 : k0_cond1 i = 1#1) (k0_h2 : k0_cond2 i = 1#1) (k0_h3 : k0_cond3 i = 1#1) (k0_h4 : k0_cond4 i = 1#1) (k0_h5 : k0_cond5 i = 1#1) (k0_h6 : k0_cond6 i = 1#1) (k0_h7 : k0_cond7 i = 1#1) (init : IVec S1x256 32) :
    Idealize.ShloMosaic.LoopInv (M := MT nD τ sig Unit (Elt F) ℕ (UR sig nD τ) ℕ) Idealize.ShloMosaic.frame (wpE (defs₀ (F := F)) 𝒱 (c : Thread nD τ) bd) E k0_t3_loop.lb k0_t3_loop.ub k0_t3_loop.st (k0_t3_ok i k0_h1 k0_h2 k0_h3 k0_h4 k0_h5 k0_h6 k0_h7) init (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k0_h2 k0_h3 k0_h4 k0_h5 k0_h6 k0_h7) where
  inv := fun _ _ => iprop((arg14.view.loc (c : Thread nD τ) ↦[arg14.view.set]{fullShare} X))
  step k acc := by
    iintro H
    unfold k0_t3_body
    sl_exec
    sl_step
    iexact H

set_option maxHeartbeats 4000000 in
/-- Loop 4 of the body only reads `arg10`: nothing is said of what it carries. -/
@[sl_loop] def loopInv_k0_t4 (𝒱 : Variants) (c : Dev nD) (bd : Option 𝒱.V) (E : Set ℕ) (X : BufTy.Contents (Elt F) arg10.view.ty) (k0_h1 : k0_cond1 i = 1#1) (k0_h2 : k0_cond2 i = 1#1) (k0_h3 : k0_cond3 i = 1#1) (k0_h4 : k0_cond4 i = 1#1) (k0_h5 : k0_cond5 i = 1#1) (k0_h6 : k0_cond6 i = 1#1) (k0_h7 : k0_cond7 i = 1#1) (init : IVec S1x256 32) :
    Idealize.ShloMosaic.LoopInv (M := MT nD τ sig Unit (Elt F) ℕ (UR sig nD τ) ℕ) Idealize.ShloMosaic.frame (wpE (defs₀ (F := F)) 𝒱 (c : Thread nD τ) bd) E k0_t4_loop.lb k0_t4_loop.ub k0_t4_loop.st (k0_t4_ok i k0_h1 k0_h2 k0_h3 k0_h4 k0_h5 k0_h6 k0_h7) init (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k0_h2 k0_h3 k0_h4 k0_h5 k0_h6 k0_h7) where
  inv := fun _ _ => iprop((arg10.view.loc (c : Thread nD τ) ↦[arg10.view.set]{fullShare} X))
  step k acc := by
    iintro H
    unfold k0_t4_body
    sl_exec
    sl_step
    iexact H

set_option maxHeartbeats 4000000 in
/-- Loop 5 of the body only reads `arg14`: nothing is said of what it carries. -/
@[sl_loop] def loopInv_k0_t5 (𝒱 : Variants) (c : Dev nD) (bd : Option 𝒱.V) (E : Set ℕ) (X : BufTy.Contents (Elt F) arg14.view.ty) (k0_h1 : k0_cond1 i = 1#1) (k0_h2 : k0_cond2 i = 1#1) (k0_h3 : k0_cond3 i = 1#1) (k0_h4 : k0_cond4 i = 1#1) (k0_h5 : k0_cond5 i = 1#1) (k0_h6 : k0_cond6 i = 1#1) (k0_h7 : ¬(k0_cond7 i = 1#1)) (init : IVec S1x256 32) :
    Idealize.ShloMosaic.LoopInv (M := MT nD τ sig Unit (Elt F) ℕ (UR sig nD τ) ℕ) Idealize.ShloMosaic.frame (wpE (defs₀ (F := F)) 𝒱 (c : Thread nD τ) bd) E k0_t5_loop.lb k0_t5_loop.ub k0_t5_loop.st (k0_t5_ok i k0_h1 k0_h2 k0_h3 k0_h4 k0_h5 k0_h6 k0_h7) init (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k0_h2 k0_h3 k0_h4 k0_h5 k0_h6 k0_h7) where
  inv := fun _ _ => iprop((arg14.view.loc (c : Thread nD τ) ↦[arg14.view.set]{fullShare} X))
  step k acc := by
    iintro H
    unfold k0_t5_body
    sl_exec
    sl_step
    iexact H

set_option maxHeartbeats 4000000 in
/-- Loop 6 of the body only reads `arg10`: nothing is said of what it carries. -/
@[sl_loop] def loopInv_k0_t6 (𝒱 : Variants) (c : Dev nD) (bd : Option 𝒱.V) (E : Set ℕ) (X : BufTy.Contents (Elt F) arg10.view.ty) (k0_h1 : k0_cond1 i = 1#1) (k0_h2 : k0_cond2 i = 1#1) (k0_h3 : k0_cond3 i = 1#1) (k0_h4 : k0_cond4 i = 1#1) (k0_h5 : k0_cond5 i = 1#1) (k0_h6 : k0_cond6 i = 1#1) (k0_h7 : ¬(k0_cond7 i = 1#1)) (init : IVec S1x256 32) :
    Idealize.ShloMosaic.LoopInv (M := MT nD τ sig Unit (Elt F) ℕ (UR sig nD τ) ℕ) Idealize.ShloMosaic.frame (wpE (defs₀ (F := F)) 𝒱 (c : Thread nD τ) bd) E k0_t6_loop.lb k0_t6_loop.ub k0_t6_loop.st (k0_t6_ok i k0_h1 k0_h2 k0_h3 k0_h4 k0_h5 k0_h6 k0_h7) init (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k0_h2 k0_h3 k0_h4 k0_h5 k0_h6 k0_h7) where
  inv := fun _ _ => iprop((arg10.view.loc (c : Thread nD τ) ↦[arg10.view.set]{fullShare} X))
  step k acc := by
    iintro H
    unfold k0_t6_body
    sl_exec
    sl_step
    iexact H

set_option maxHeartbeats 4000000 in
/-- Loop 7 of the body only reads `arg14`: nothing is said of what it carries. -/
@[sl_loop] def loopInv_k0_t7 (𝒱 : Variants) (c : Dev nD) (bd : Option 𝒱.V) (E : Set ℕ) (X : BufTy.Contents (Elt F) arg14.view.ty) (k0_h1 : k0_cond1 i = 1#1) (k0_h2 : k0_cond2 i = 1#1) (k0_h3 : k0_cond3 i = 1#1) (k0_h4 : k0_cond4 i = 1#1) (k0_h5 : k0_cond5 i = 1#1) (k0_h6 : ¬(k0_cond6 i = 1#1)) (init : IVec S1x256 32) :
    Idealize.ShloMosaic.LoopInv (M := MT nD τ sig Unit (Elt F) ℕ (UR sig nD τ) ℕ) Idealize.ShloMosaic.frame (wpE (defs₀ (F := F)) 𝒱 (c : Thread nD τ) bd) E k0_t7_loop.lb k0_t7_loop.ub k0_t7_loop.st (k0_t7_ok i k0_h1 k0_h2 k0_h3 k0_h4 k0_h5 k0_h6) init (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k0_h2 k0_h3 k0_h4 k0_h5 k0_h6) where
  inv := fun _ _ => iprop((arg14.view.loc (c : Thread nD τ) ↦[arg14.view.set]{fullShare} X))
  step k acc := by
    iintro H
    unfold k0_t7_body
    sl_exec
    sl_step
    iexact H

set_option maxHeartbeats 4000000 in
/-- Loop 8 of the body only reads `arg10`: nothing is said of what it carries. -/
@[sl_loop] def loopInv_k0_t8 (𝒱 : Variants) (c : Dev nD) (bd : Option 𝒱.V) (E : Set ℕ) (X : BufTy.Contents (Elt F) arg10.view.ty) (k0_h1 : k0_cond1 i = 1#1) (k0_h2 : k0_cond2 i = 1#1) (k0_h3 : k0_cond3 i = 1#1) (k0_h4 : k0_cond4 i = 1#1) (k0_h5 : k0_cond5 i = 1#1) (k0_h6 : ¬(k0_cond6 i = 1#1)) (init : IVec S1x256 32) :
    Idealize.ShloMosaic.LoopInv (M := MT nD τ sig Unit (Elt F) ℕ (UR sig nD τ) ℕ) Idealize.ShloMosaic.frame (wpE (defs₀ (F := F)) 𝒱 (c : Thread nD τ) bd) E k0_t8_loop.lb k0_t8_loop.ub k0_t8_loop.st (k0_t8_ok i k0_h1 k0_h2 k0_h3 k0_h4 k0_h5 k0_h6) init (k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k0_h2 k0_h3 k0_h4 k0_h5 k0_h6) where
  inv := fun _ _ => iprop((arg10.view.loc (c : Thread nD τ) ↦[arg10.view.set]{fullShare} X))
  step k acc := by
    iintro H
    unfold k0_t8_body
    sl_exec
    sl_step
    iexact H

set_option maxHeartbeats 4000000 in
/-- Loop 9 of the body only reads `arg14`: nothing is said of what it carries. -/
@[sl_loop] def loopInv_k0_t9 (𝒱 : Variants) (c : Dev nD) (bd : Option 𝒱.V) (E : Set ℕ) (X : BufTy.Contents (Elt F) arg14.view.ty) (k0_h1 : k0_cond1 i = 1#1) (k0_h2 : k0_cond2 i = 1#1) (k0_h3 : k0_cond3 i = 1#1) (k0_h4 : k0_cond4 i = 1#1) (k0_h5 : ¬(k0_cond5 i = 1#1)) (init : IVec S1x256 32) :
    Idealize.ShloMosaic.LoopInv (M := MT nD τ sig Unit (Elt F) ℕ (UR sig nD τ) ℕ) Idealize.ShloMosaic.frame (wpE (defs₀ (F := F)) 𝒱 (c : Thread nD τ) bd) E k0_t9_loop.lb k0_t9_loop.ub k0_t9_loop.st (k0_t9_ok i k0_h1 k0_h2 k0_h3 k0_h4 k0_h5) init (k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k0_h2 k0_h3 k0_h4 k0_h5) where
  inv := fun _ _ => iprop((arg14.view.loc (c : Thread nD τ) ↦[arg14.view.set]{fullShare} X))
  step k acc := by
    iintro H
    unfold k0_t9_body
    sl_exec
    sl_step
    iexact H

set_option maxHeartbeats 4000000 in
/-- Loop 10 of the body only reads `arg10`: nothing is said of what it carries. -/
@[sl_loop] def loopInv_k0_t10 (𝒱 : Variants) (c : Dev nD) (bd : Option 𝒱.V) (E : Set ℕ) (X : BufTy.Contents (Elt F) arg10.view.ty) (k0_h1 : k0_cond1 i = 1#1) (k0_h2 : k0_cond2 i = 1#1) (k0_h3 : k0_cond3 i = 1#1) (k0_h4 : k0_cond4 i = 1#1) (k0_h5 : ¬(k0_cond5 i = 1#1)) (init : IVec S1x256 32) :
    Idealize.ShloMosaic.LoopInv (M := MT nD τ sig Unit (Elt F) ℕ (UR sig nD τ) ℕ) Idealize.ShloMosaic.frame (wpE (defs₀ (F := F)) 𝒱 (c : Thread nD τ) bd) E k0_t10_loop.lb k0_t10_loop.ub k0_t10_loop.st (k0_t10_ok i k0_h1 k0_h2 k0_h3 k0_h4 k0_h5) init (k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k0_h2 k0_h3 k0_h4 k0_h5) where
  inv := fun _ _ => iprop((arg10.view.loc (c : Thread nD τ) ↦[arg10.view.set]{fullShare} X))
  step k acc := by
    iintro H
    unfold k0_t10_body
    sl_exec
    sl_step
    iexact H

set_option maxHeartbeats 4000000 in
/-- Loop 11 of the body only reads `arg14`: nothing is said of what it carries. -/
@[sl_loop] def loopInv_k0_t11 (𝒱 : Variants) (c : Dev nD) (bd : Option 𝒱.V) (E : Set ℕ) (X : BufTy.Contents (Elt F) arg14.view.ty) (k0_h1 : k0_cond1 i = 1#1) (k0_h2 : k0_cond2 i = 1#1) (k0_h3 : k0_cond3 i = 1#1) (k0_h4 : ¬(k0_cond4 i = 1#1)) (init : IVec S1x256 32) :
    Idealize.ShloMosaic.LoopInv (M := MT nD τ sig Unit (Elt F) ℕ (UR sig nD τ) ℕ) Idealize.ShloMosaic.frame (wpE (defs₀ (F := F)) 𝒱 (c : Thread nD τ) bd) E k0_t11_loop.lb k0_t11_loop.ub k0_t11_loop.st (k0_t11_ok i k0_h1 k0_h2 k0_h3 k0_h4) init (k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k0_h2 k0_h3 k0_h4) where
  inv := fun _ _ => iprop((arg14.view.loc (c : Thread nD τ) ↦[arg14.view.set]{fullShare} X))
  step k acc := by
    iintro H
    unfold k0_t11_body
    sl_exec
    sl_step
    iexact H

set_option maxHeartbeats 4000000 in
/-- Loop 12 of the body only reads `arg10`: nothing is said of what it carries. -/
@[sl_loop] def loopInv_k0_t12 (𝒱 : Variants) (c : Dev nD) (bd : Option 𝒱.V) (E : Set ℕ) (X : BufTy.Contents (Elt F) arg10.view.ty) (k0_h1 : k0_cond1 i = 1#1) (k0_h2 : k0_cond2 i = 1#1) (k0_h3 : k0_cond3 i = 1#1) (k0_h4 : ¬(k0_cond4 i = 1#1)) (init : IVec S1x256 32) :
    Idealize.ShloMosaic.LoopInv (M := MT nD τ sig Unit (Elt F) ℕ (UR sig nD τ) ℕ) Idealize.ShloMosaic.frame (wpE (defs₀ (F := F)) 𝒱 (c : Thread nD τ) bd) E k0_t12_loop.lb k0_t12_loop.ub k0_t12_loop.st (k0_t12_ok i k0_h1 k0_h2 k0_h3 k0_h4) init (k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k0_h2 k0_h3 k0_h4) where
  inv := fun _ _ => iprop((arg10.view.loc (c : Thread nD τ) ↦[arg10.view.set]{fullShare} X))
  step k acc := by
    iintro H
    unfold k0_t12_body
    sl_exec
    sl_step
    iexact H

set_option maxHeartbeats 4000000 in
/-- Loop 13 of the body only reads `arg14`: nothing is said of what it carries. -/
@[sl_loop] def loopInv_k0_t13 (𝒱 : Variants) (c : Dev nD) (bd : Option 𝒱.V) (E : Set ℕ) (X : BufTy.Contents (Elt F) arg14.view.ty) (k0_h1 : k0_cond1 i = 1#1) (k0_h2 : k0_cond2 i = 1#1) (k0_h3 : ¬(k0_cond3 i = 1#1)) (init : IVec S1x256 32) :
    Idealize.ShloMosaic.LoopInv (M := MT nD τ sig Unit (Elt F) ℕ (UR sig nD τ) ℕ) Idealize.ShloMosaic.frame (wpE (defs₀ (F := F)) 𝒱 (c : Thread nD τ) bd) E k0_t13_loop.lb k0_t13_loop.ub k0_t13_loop.st (k0_t13_ok i k0_h1 k0_h2 k0_h3) init (k0_t13_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k0_h2 k0_h3) where
  inv := fun _ _ => iprop((arg14.view.loc (c : Thread nD τ) ↦[arg14.view.set]{fullShare} X))
  step k acc := by
    iintro H
    unfold k0_t13_body
    sl_exec
    sl_step
    iexact H

set_option maxHeartbeats 4000000 in
/-- Loop 14 of the body only reads `arg10`: nothing is said of what it carries. -/
@[sl_loop] def loopInv_k0_t14 (𝒱 : Variants) (c : Dev nD) (bd : Option 𝒱.V) (E : Set ℕ) (X : BufTy.Contents (Elt F) arg10.view.ty) (k0_h1 : k0_cond1 i = 1#1) (k0_h2 : k0_cond2 i = 1#1) (k0_h3 : ¬(k0_cond3 i = 1#1)) (init : IVec S1x256 32) :
    Idealize.ShloMosaic.LoopInv (M := MT nD τ sig Unit (Elt F) ℕ (UR sig nD τ) ℕ) Idealize.ShloMosaic.frame (wpE (defs₀ (F := F)) 𝒱 (c : Thread nD τ) bd) E k0_t14_loop.lb k0_t14_loop.ub k0_t14_loop.st (k0_t14_ok i k0_h1 k0_h2 k0_h3) init (k0_t14_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k0_h2 k0_h3) where
  inv := fun _ _ => iprop((arg10.view.loc (c : Thread nD τ) ↦[arg10.view.set]{fullShare} X))
  step k acc := by
    iintro H
    unfold k0_t14_body
    sl_exec
    sl_step
    iexact H

set_option maxHeartbeats 4000000 in
/-- Loop 15 of the body only reads `arg14`: nothing is said of what it carries. -/
@[sl_loop] def loopInv_k0_t15 (𝒱 : Variants) (c : Dev nD) (bd : Option 𝒱.V) (E : Set ℕ) (X : BufTy.Contents (Elt F) arg14.view.ty) (k0_h1 : k0_cond1 i = 1#1) (k0_h2 : ¬(k0_cond2 i = 1#1)) (init : IVec S1x256 32) :
    Idealize.ShloMosaic.LoopInv (M := MT nD τ sig Unit (Elt F) ℕ (UR sig nD τ) ℕ) Idealize.ShloMosaic.frame (wpE (defs₀ (F := F)) 𝒱 (c : Thread nD τ) bd) E k0_t15_loop.lb k0_t15_loop.ub k0_t15_loop.st (k0_t15_ok i k0_h1 k0_h2) init (k0_t15_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k0_h2) where
  inv := fun _ _ => iprop((arg14.view.loc (c : Thread nD τ) ↦[arg14.view.set]{fullShare} X))
  step k acc := by
    iintro H
    unfold k0_t15_body
    sl_exec
    sl_step
    iexact H

set_option maxHeartbeats 4000000 in
/-- Loop 16 of the body only reads `arg10`: nothing is said of what it carries. -/
@[sl_loop] def loopInv_k0_t16 (𝒱 : Variants) (c : Dev nD) (bd : Option 𝒱.V) (E : Set ℕ) (X : BufTy.Contents (Elt F) arg10.view.ty) (k0_h1 : k0_cond1 i = 1#1) (k0_h2 : ¬(k0_cond2 i = 1#1)) (init : IVec S1x256 32) :
    Idealize.ShloMosaic.LoopInv (M := MT nD τ sig Unit (Elt F) ℕ (UR sig nD τ) ℕ) Idealize.ShloMosaic.frame (wpE (defs₀ (F := F)) 𝒱 (c : Thread nD τ) bd) E k0_t16_loop.lb k0_t16_loop.ub k0_t16_loop.st (k0_t16_ok i k0_h1 k0_h2) init (k0_t16_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k0_h2) where
  inv := fun _ _ => iprop((arg10.view.loc (c : Thread nD τ) ↦[arg10.view.set]{fullShare} X))
  step k acc := by
    iintro H
    unfold k0_t16_body
    sl_exec
    sl_step
    iexact H

set_option maxHeartbeats 4000000 in
/-- Loop 17 of the body only reads `arg14`: nothing is said of what it carries. -/
@[sl_loop] def loopInv_k0_t17 (𝒱 : Variants) (c : Dev nD) (bd : Option 𝒱.V) (E : Set ℕ) (X : BufTy.Contents (Elt F) arg14.view.ty) (v20 : BitVec 32) (v24 : IVec S1x256 32) (v127 : Vec F S128x256 .bf16) (k0_h1 : ¬k0_cond1 i = 1#1) (init : IVec S1x256 32) :
    Idealize.ShloMosaic.LoopInv (M := MT nD τ sig Unit (Elt F) ℕ (UR sig nD τ) ℕ) Idealize.ShloMosaic.frame (wpE (defs₀ (F := F)) 𝒱 (c : Thread nD τ) bd) E k0_t17_loop.lb k0_t17_loop.ub k0_t17_loop.st (k0_t17_ok i k0_h1) init (k0_t17_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v20 v24 v127 k0_h1) where
  inv := fun _ _ => iprop((arg14.view.loc (c : Thread nD τ) ↦[arg14.view.set]{fullShare} X))
  step k acc := by
    iintro H
    unfold k0_t17_body
    sl_exec
    sl_step
    iexact H

set_option maxHeartbeats 4000000 in
/-- Loop 18 of the body only reads `arg10`: nothing is said of what it carries. -/
@[sl_loop] def loopInv_k0_t18 (𝒱 : Variants) (c : Dev nD) (bd : Option 𝒱.V) (E : Set ℕ) (X : BufTy.Contents (Elt F) arg10.view.ty) (v20 : BitVec 32) (v24 : IVec S1x256 32) (v127 : Vec F S128x256 .bf16) (k0_h1 : ¬k0_cond1 i = 1#1) (init : IVec S1x256 32) :
    Idealize.ShloMosaic.LoopInv (M := MT nD τ sig Unit (Elt F) ℕ (UR sig nD τ) ℕ) Idealize.ShloMosaic.frame (wpE (defs₀ (F := F)) 𝒱 (c : Thread nD τ) bd) E k0_t18_loop.lb k0_t18_loop.ub k0_t18_loop.st (k0_t18_ok i k0_h1) init (k0_t18_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v20 v24 v127 k0_h1) where
  inv := fun _ _ => iprop((arg10.view.loc (c : Thread nD τ) ↦[arg10.view.set]{fullShare} X))
  step k acc := by
    iintro H
    unfold k0_t18_body
    sl_exec
    sl_step
    iexact H

set_option maxHeartbeats 4000000 in
/-- Loop 19 of the body only reads `arg10`: nothing is said of what it carries. -/
@[sl_loop] def loopInv_k0_t19 (𝒱 : Variants) (c : Dev nD) (bd : Option 𝒱.V) (E : Set ℕ) (X : BufTy.Contents (Elt F) arg10.view.ty) (v20 : BitVec 32) (v24 : IVec S1x256 32) (v127 : Vec F S128x256 .bf16) (v140 : Vec F S1x256 .i32) (init : FVec F S8x256 .f32) :
    Idealize.ShloMosaic.LoopInv (M := MT nD τ sig Unit (Elt F) ℕ (UR sig nD τ) ℕ) Idealize.ShloMosaic.frame (wpE (defs₀ (F := F)) 𝒱 (c : Thread nD τ) bd) E (k0_t19_loop i).lb (k0_t19_loop i).ub (k0_t19_loop i).st (k0_t19_ok i) init (k0_t19_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v20 v24 v127 v140) where
  inv := fun _ _ => iprop((arg10.view.loc (c : Thread nD τ) ↦[arg10.view.set]{fullShare} X))
  step k acc := by
    iintro H
    unfold k0_t19_body
    sl_exec
    sl_step
    iexact H

set_option maxHeartbeats 4000000 in
/-- Loop 20 of the body only reads `arg10`: nothing is said of what it carries. -/
@[sl_loop] def loopInv_k0_t20 (𝒱 : Variants) (c : Dev nD) (bd : Option 𝒱.V) (E : Set ℕ) (X : BufTy.Contents (Elt F) arg10.view.ty) (v20 : BitVec 32) (v24 : IVec S1x256 32) (v127 : Vec F S128x256 .bf16) (v140 : Vec F S1x256 .i32) (init : FVec F S8x256 .f32) :
    Idealize.ShloMosaic.LoopInv (M := MT nD τ sig Unit (Elt F) ℕ (UR sig nD τ) ℕ) Idealize.ShloMosaic.frame (wpE (defs₀ (F := F)) 𝒱 (c : Thread nD τ) bd) E (k0_t20_loop i).lb (k0_t20_loop i).ub (k0_t20_loop i).st (k0_t20_ok i) init (k0_t20_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v20 v24 v127 v140) where
  inv := fun _ _ => iprop((arg10.view.loc (c : Thread nD τ) ↦[arg10.view.set]{fullShare} X))
  step k acc := by
    iintro H
    unfold k0_t20_body
    sl_exec
    sl_step
    iexact H

set_option maxHeartbeats 4000000 in
/-- Loop 22 of the body only reads `arg10`: nothing is said of what it carries. -/
@[sl_loop] def loopInv_k0_t22 (𝒱 : Variants) (c : Dev nD) (bd : Option 𝒱.V) (E : Set ℕ) (X : BufTy.Contents (Elt F) arg10.view.ty) (v20 : BitVec 32) (v24 : IVec S1x256 32) (v127 : Vec F S128x256 .bf16) (v140 : Vec F S1x256 .i32) (k0_t21 : Fin k0_t21_loop.trips) (arg18 : IVec S1x256 32) (init : FVec F S8x256 .f32) :
    Idealize.ShloMosaic.LoopInv (M := MT nD τ sig Unit (Elt F) ℕ (UR sig nD τ) ℕ) Idealize.ShloMosaic.frame (wpE (defs₀ (F := F)) 𝒱 (c : Thread nD τ) bd) E (k0_t22_loop i).lb (k0_t22_loop i).ub (k0_t22_loop i).st (k0_t22_ok i) init (k0_t22_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v20 v24 v127 v140 k0_t21 arg18) where
  inv := fun _ _ => iprop((arg10.view.loc (c : Thread nD τ) ↦[arg10.view.set]{fullShare} X))
  step k acc := by
    iintro H
    unfold k0_t22_body
    sl_exec
    sl_step
    iexact H

set_option maxHeartbeats 4000000 in
/-- Loop 23 of the body only reads `arg10`: nothing is said of what it carries. -/
@[sl_loop] def loopInv_k0_t23 (𝒱 : Variants) (c : Dev nD) (bd : Option 𝒱.V) (E : Set ℕ) (X : BufTy.Contents (Elt F) arg10.view.ty) (v20 : BitVec 32) (v24 : IVec S1x256 32) (v127 : Vec F S128x256 .bf16) (v140 : Vec F S1x256 .i32) (k0_t21 : Fin k0_t21_loop.trips) (arg18 : IVec S1x256 32) (init : FVec F S8x256 .f32) :
    Idealize.ShloMosaic.LoopInv (M := MT nD τ sig Unit (Elt F) ℕ (UR sig nD τ) ℕ) Idealize.ShloMosaic.frame (wpE (defs₀ (F := F)) 𝒱 (c : Thread nD τ) bd) E (k0_t23_loop i).lb (k0_t23_loop i).ub (k0_t23_loop i).st (k0_t23_ok i) init (k0_t23_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v20 v24 v127 v140 k0_t21 arg18) where
  inv := fun _ _ => iprop((arg10.view.loc (c : Thread nD τ) ↦[arg10.view.set]{fullShare} X))
  step k acc := by
    iintro H
    unfold k0_t23_body
    sl_exec
    sl_step
    iexact H

set_option maxHeartbeats 4000000 in
/-- Loop 21 of the body only reads `arg10`: nothing is said of what it carries. -/
@[sl_loop] def loopInv_k0_t21 (𝒱 : Variants) (c : Dev nD) (bd : Option 𝒱.V) (E : Set ℕ) (X : BufTy.Contents (Elt F) arg10.view.ty) (v20 : BitVec 32) (v24 : IVec S1x256 32) (v127 : Vec F S128x256 .bf16) (v140 : Vec F S1x256 .i32) (v141 : Vec F S1x256 .f32) (v213 : FVec F S8x256 .f32) (init : IVec S1x256 32) :
    Idealize.ShloMosaic.LoopInv (M := MT nD τ sig Unit (Elt F) ℕ (UR sig nD τ) ℕ) Idealize.ShloMosaic.frame (wpE (defs₀ (F := F)) 𝒱 (c : Thread nD τ) bd) E k0_t21_loop.lb k0_t21_loop.ub k0_t21_loop.st k0_t21_ok init (k0_t21_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v20 v24 v127 v140 v141 v213) where
  inv := fun _ _ => iprop((arg10.view.loc (c : Thread nD τ) ↦[arg10.view.set]{fullShare} X))
  step k acc := by
    iintro H
    unfold k0_t21_body
    sl_exec
    sl_step
    iexact H

set_option maxHeartbeats 4000000 in
/-- Loop 24 of the body: it writes `arg10`, of whose contents nothing is said. -/
@[sl_loop] def loopInv_k0_t24 (𝒱 : Variants) (c : Dev nD) (bd : Option 𝒱.V) (E : Set ℕ)  (v20 : BitVec 32) (v24 : IVec S1x256 32) (v127 : Vec F S128x256 .bf16) (v140 : Vec F S1x256 .i32) (v219 : IVec S1x256 32) :
    Idealize.ShloMosaic.LoopInv (M := MT nD τ sig Unit (Elt F) ℕ (UR sig nD τ) ℕ) Idealize.ShloMosaic.frame (wpE (defs₀ (F := F)) 𝒱 (c : Thread nD τ) bd) E (k0_t24_loop i).lb (k0_t24_loop i).ub (k0_t24_loop i).st (k0_t24_ok i) () (k0_t24_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v20 v24 v127 v140 v219) where
  inv := fun _ _ => iprop((∃ f : BufTy.Contents (Elt F) arg10.view.ty, (arg10.view.loc (c : Thread nD τ) ↦[arg10.view.set]{fullShare} f)))
  step k acc := by
    iintro ⟨%f10, H10⟩
    unfold k0_t24_body
    sl_exec
    sl_step
    iexists _; iexact H10

set_option maxHeartbeats 4000000 in
/-- Loop 25 of the body: it writes `arg10`, of whose contents nothing is said. -/
@[sl_loop] def loopInv_k0_t25 (𝒱 : Variants) (c : Dev nD) (bd : Option 𝒱.V) (E : Set ℕ)  (v20 : BitVec 32) (v24 : IVec S1x256 32) (v127 : Vec F S128x256 .bf16) (v140 : Vec F S1x256 .i32) (v219 : IVec S1x256 32) :
    Idealize.ShloMosaic.LoopInv (M := MT nD τ sig Unit (Elt F) ℕ (UR sig nD τ) ℕ) Idealize.ShloMosaic.frame (wpE (defs₀ (F := F)) 𝒱 (c : Thread nD τ) bd) E (k0_t25_loop i).lb (k0_t25_loop i).ub (k0_t25_loop i).st (k0_t25_ok i) () (k0_t25_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v20 v24 v127 v140 v219) where
  inv := fun _ _ => iprop((∃ f : BufTy.Contents (Elt F) arg10.view.ty, (arg10.view.loc (c : Thread nD τ) ↦[arg10.view.set]{fullShare} f)))
  step k acc := by
    iintro ⟨%f10, H10⟩
    unfold k0_t25_body
    sl_exec
    sl_step
    iexists _; iexact H10

set_option maxHeartbeats 4000000 in
/-- Loop 26 of the body: it reads `arg6`, `arg7`, `arg10`, `arg12` and writes `arg13`, of whose contents nothing is said. -/
@[sl_loop] def loopInv_k0_t26 (𝒱 : Variants) (c : Dev nD) (bd : Option 𝒱.V) (E : Set ℕ) (X6 : BufTy.Contents (Elt F) arg6.view.ty) (X7 : BufTy.Contents (Elt F) arg7.view.ty) (X10 : BufTy.Contents (Elt F) arg10.view.ty) (X12 : BufTy.Contents (Elt F) arg12.view.ty) (v140 : Vec F S1x256 .i32) (v153 : FVec F S1x2048 .f32) (c0_i32_99 : BitVec 32) (v158 : BitVec 32) (init : FVec F S1x2048 .f32) :
    Idealize.ShloMosaic.LoopInv (M := MT nD τ sig Unit (Elt F) ℕ (UR sig nD τ) ℕ) Idealize.ShloMosaic.frame (wpE (defs₀ (F := F)) 𝒱 (c : Thread nD τ) bd) E (k0_t26_loop i).lb (k0_t26_loop i).ub (k0_t26_loop i).st (k0_t26_ok i) init (k0_t26_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v140 v153 c0_i32_99 v158) where
  inv := fun _ _ => iprop((arg6.view.loc (c : Thread nD τ) ↦[arg6.view.set]{fullShare} X6) ∗ (arg7.view.loc (c : Thread nD τ) ↦[arg7.view.set]{fullShare} X7) ∗ (arg10.view.loc (c : Thread nD τ) ↦[arg10.view.set]{fullShare} X10) ∗ (arg12.view.loc (c : Thread nD τ) ↦[arg12.view.set]{fullShare} X12) ∗ (∃ f : BufTy.Contents (Elt F) arg13.view.ty, (arg13.view.loc (c : Thread nD τ) ↦[arg13.view.set]{fullShare} f)))
  step k acc := by
    iintro ⟨H6, H7, H10, H12, ⟨%f13, H13⟩⟩
    unfold k0_t26_body
    sl_exec
    sl_step
    isplitl [H6]; · iexact H6
    isplitl [H7]; · iexact H7
    isplitl [H10]; · iexact H10
    isplitl [H12]; · iexact H12
    iexists _; iexact H13

set_option maxHeartbeats 4000000 in
/-- Loop 27 of the body: it reads `arg6`, `arg7`, `arg10`, `arg12` and writes `arg13`, of whose contents nothing is said. -/
@[sl_loop] def loopInv_k0_t27 (𝒱 : Variants) (c : Dev nD) (bd : Option 𝒱.V) (E : Set ℕ) (X6 : BufTy.Contents (Elt F) arg6.view.ty) (X7 : BufTy.Contents (Elt F) arg7.view.ty) (X10 : BufTy.Contents (Elt F) arg10.view.ty) (X12 : BufTy.Contents (Elt F) arg12.view.ty) (v140 : Vec F S1x256 .i32) (v153 : FVec F S1x2048 .f32) (c0_i32_99 : BitVec 32) (v158 : BitVec 32) (init : FVec F S1x2048 .f32) :
    Idealize.ShloMosaic.LoopInv (M := MT nD τ sig Unit (Elt F) ℕ (UR sig nD τ) ℕ) Idealize.ShloMosaic.frame (wpE (defs₀ (F := F)) 𝒱 (c : Thread nD τ) bd) E (k0_t27_loop i).lb (k0_t27_loop i).ub (k0_t27_loop i).st (k0_t27_ok i) init (k0_t27_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v140 v153 c0_i32_99 v158) where
  inv := fun _ _ => iprop((arg6.view.loc (c : Thread nD τ) ↦[arg6.view.set]{fullShare} X6) ∗ (arg7.view.loc (c : Thread nD τ) ↦[arg7.view.set]{fullShare} X7) ∗ (arg10.view.loc (c : Thread nD τ) ↦[arg10.view.set]{fullShare} X10) ∗ (arg12.view.loc (c : Thread nD τ) ↦[arg12.view.set]{fullShare} X12) ∗ (∃ f : BufTy.Contents (Elt F) arg13.view.ty, (arg13.view.loc (c : Thread nD τ) ↦[arg13.view.set]{fullShare} f)))
  step k acc := by
    iintro ⟨H6, H7, H10, H12, ⟨%f13, H13⟩⟩
    unfold k0_t27_body
    sl_exec
    sl_step
    isplitl [H6]; · iexact H6
    isplitl [H7]; · iexact H7
    isplitl [H10]; · iexact H10
    isplitl [H12]; · iexact H12
    iexists _; iexact H13

/-- What the body works on: the seven operands at given contents, the result's block and the seven scratch
    operands at some contents. -/
def Held (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) : sProp 𝕄 :=
  iprop((arg2.view.loc (c : Thread nD τ) ↦[arg2.view.set]{fullShare} X2)
      ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} X6)
      ∗ (arg7.view.loc (c : Thread nD τ) ↦[arg7.view.set]{fullShare} X7)
      ∗ (arg8.view.loc (c : Thread nD τ) ↦[arg8.view.set]{fullShare} X8)
      ∗ (∃ f : BufTy.Contents (Elt F) arg9.view.ty, (arg9.view.loc (c : Thread nD τ) ↦[arg9.view.set]{fullShare} f))
      ∗ (∃ f : BufTy.Contents (Elt F) arg10.view.ty, (arg10.view.loc (c : Thread nD τ) ↦[arg10.view.set]{fullShare} f))
      ∗ (∃ f : BufTy.Contents (Elt F) arg11.view.ty, (arg11.view.loc (c : Thread nD τ) ↦[arg11.view.set]{fullShare} f))
      ∗ (∃ f : BufTy.Contents (Elt F) arg12.view.ty, (arg12.view.loc (c : Thread nD τ) ↦[arg12.view.set]{fullShare} f))
      ∗ (∃ f : BufTy.Contents (Elt F) arg13.view.ty, (arg13.view.loc (c : Thread nD τ) ↦[arg13.view.set]{fullShare} f))
      ∗ (∃ f : BufTy.Contents (Elt F) arg14.view.ty, (arg14.view.loc (c : Thread nD τ) ↦[arg14.view.set]{fullShare} f))
      ∗ (∃ f : BufTy.Contents (Elt F) arg15.view.ty, (arg15.view.loc (c : Thread nD τ) ↦[arg15.view.set]{fullShare} f))
      ∗ (∃ f : BufTy.Contents (Elt F) arg16.view.ty, (arg16.view.loc (c : Thread nD τ) ↦[arg16.view.set]{fullShare} f)))

end Cert.Proof.Dsa

end
-- ==== Proof.DsaSwitch.lean ====
/- The branches of the top-k call's switch (a bit search over the prefix a block of queries sees, one per number of key chunks): each keeps hold of the operands and the scratch. -/
module

public import proofs.«01_k».proof.Proof.DsaLoop

@[expose] public section

set_option warn.classDefReducibility false
set_option maxRecDepth 65536

noncomputable section

namespace Cert.Proof.Dsa

open Cert.Dsa Cert.Dsa.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (i : grid0.Coords)
  (arg2 : Memref sig .tc .vmem S512x256 .bf16) (harg2 : arg2.IsWhole)
  (arg3 : Memref sig .tc .vmem S128x256 .f32) (harg3 : arg3.IsWhole)
  (arg4 : Memref sig .tc .vmem S512x256 .bf16) (harg4 : arg4.IsWhole)
  (arg5 : Memref sig .tc .vmem S4096x128 .bf16) (harg5 : arg5.IsWhole)
  (arg6 : Memref sig .tc .vmem S4096x128 .bf16) (harg6 : arg6.IsWhole)
  (arg7 : Memref sig .tc .vmem S144x4096 .bf16) (harg7 : arg7.IsWhole)
  (arg8 : Memref sig .tc .vmem S8x64x128 .bf16) (harg8 : arg8.IsWhole)
  (arg9 : Memref sig .tc .vmem S1x256x512 .bf16) (harg9 : arg9.IsWhole)
  (arg10 : Memref sig .tc .vmem S4096x256 .i32) (harg10 : arg10.IsWhole)
  (arg11 : Memref sig .tc .vmem S128x2048 .bf16) (harg11 : arg11.IsWhole)
  (arg12 : Memref sig .tc .vmem S128x2048 .bf16) (harg12 : arg12.IsWhole)
  (arg13 : Memref sig .tc .vmem S144x2048 .f32) (harg13 : arg13.IsWhole)
  (arg14 : Memref sig .tc .vmem S4096x256 .bf16) (harg14 : arg14.IsWhole)
  (arg15 : Memref sig .tc .vmem S8x256 .i32) (harg15 : arg15.IsWhole)
  (arg16 : Memref sig .tc .vmem S8x256 .f32) (harg16 : arg16.IsWhole)

set_option maxHeartbeats 4000000 in
/-- Part 28 of the body keeps hold of everything the body works on. -/
theorem part28 (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (k0_h1 : k0_cond1 i = 1#1) (k0_h2 : k0_cond2 i = 1#1) (k0_h3 : k0_cond3 i = 1#1) (k0_h4 : k0_cond4 i = 1#1) (k0_h5 : k0_cond5 i = 1#1) (k0_h6 : k0_cond6 i = 1#1) (k0_h7 : k0_cond7 i = 1#1) (E : Set ℕ) :
    Held (F := F) arg2 arg3 arg4 arg5 arg6 arg7 arg8 arg9 arg10 arg11 arg12 arg13 arg14 arg15 arg16 c X2 X3 X4 X5 X6 X7 X8 ⊢ wp frame (wpE (defs₀ (F := F)) Variants.none c none) E (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k0_h2 k0_h3 k0_h4 k0_h5 k0_h6 k0_h7) (fun _ => Held (F := F) arg2 arg3 arg4 arg5 arg6 arg7 arg8 arg9 arg10 arg11 arg12 arg13 arg14 arg15 arg16 c X2 X3 X4 X5 X6 X7 X8) := by
  simp only [k0_part28_eq_skeleton]; unfold k0_part28_skel
  unfold Held
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

set_option maxHeartbeats 4000000 in
/-- Part 29 of the body keeps hold of everything the body works on. -/
theorem part29 (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (v224 : IVec S1x256 32) (E : Set ℕ) :
    Held (F := F) arg2 arg3 arg4 arg5 arg6 arg7 arg8 arg9 arg10 arg11 arg12 arg13 arg14 arg15 arg16 c X2 X3 X4 X5 X6 X7 X8 ⊢ wp frame (wpE (defs₀ (F := F)) Variants.none c none) E (k0_part29 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v224) (fun _ => Held (F := F) arg2 arg3 arg4 arg5 arg6 arg7 arg8 arg9 arg10 arg11 arg12 arg13 arg14 arg15 arg16 c X2 X3 X4 X5 X6 X7 X8) := by
  simp only [k0_part29_eq_skeleton]; unfold k0_part29_skel
  unfold Held
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

set_option maxHeartbeats 4000000 in
/-- Part 45 of the body keeps hold of everything the body works on. -/
theorem part45 (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (k0_h1 : k0_cond1 i = 1#1) (k0_h2 : k0_cond2 i = 1#1) (k0_h3 : k0_cond3 i = 1#1) (k0_h4 : k0_cond4 i = 1#1) (k0_h5 : k0_cond5 i = 1#1) (k0_h6 : k0_cond6 i = 1#1) (k0_h7 : ¬(k0_cond7 i = 1#1)) (E : Set ℕ) :
    Held (F := F) arg2 arg3 arg4 arg5 arg6 arg7 arg8 arg9 arg10 arg11 arg12 arg13 arg14 arg15 arg16 c X2 X3 X4 X5 X6 X7 X8 ⊢ wp frame (wpE (defs₀ (F := F)) Variants.none c none) E (k0_part45 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k0_h2 k0_h3 k0_h4 k0_h5 k0_h6 k0_h7) (fun _ => Held (F := F) arg2 arg3 arg4 arg5 arg6 arg7 arg8 arg9 arg10 arg11 arg12 arg13 arg14 arg15 arg16 c X2 X3 X4 X5 X6 X7 X8) := by
  simp only [k0_part45_eq_skeleton]; unfold k0_part45_skel
  unfold Held
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

set_option maxHeartbeats 4000000 in
/-- Part 46 of the body keeps hold of everything the body works on. -/
theorem part46 (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (v224 : IVec S1x256 32) (E : Set ℕ) :
    Held (F := F) arg2 arg3 arg4 arg5 arg6 arg7 arg8 arg9 arg10 arg11 arg12 arg13 arg14 arg15 arg16 c X2 X3 X4 X5 X6 X7 X8 ⊢ wp frame (wpE (defs₀ (F := F)) Variants.none c none) E (k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v224) (fun _ => Held (F := F) arg2 arg3 arg4 arg5 arg6 arg7 arg8 arg9 arg10 arg11 arg12 arg13 arg14 arg15 arg16 c X2 X3 X4 X5 X6 X7 X8) := by
  simp only [k0_part46_eq_skeleton]; unfold k0_part46_skel
  unfold Held
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

set_option maxHeartbeats 4000000 in
/-- Part 59 of the body keeps hold of everything the body works on. -/
theorem part59 (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (k0_h1 : k0_cond1 i = 1#1) (k0_h2 : k0_cond2 i = 1#1) (k0_h3 : k0_cond3 i = 1#1) (k0_h4 : k0_cond4 i = 1#1) (k0_h5 : k0_cond5 i = 1#1) (k0_h6 : ¬(k0_cond6 i = 1#1)) (E : Set ℕ) :
    Held (F := F) arg2 arg3 arg4 arg5 arg6 arg7 arg8 arg9 arg10 arg11 arg12 arg13 arg14 arg15 arg16 c X2 X3 X4 X5 X6 X7 X8 ⊢ wp frame (wpE (defs₀ (F := F)) Variants.none c none) E (k0_part59 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k0_h2 k0_h3 k0_h4 k0_h5 k0_h6) (fun _ => Held (F := F) arg2 arg3 arg4 arg5 arg6 arg7 arg8 arg9 arg10 arg11 arg12 arg13 arg14 arg15 arg16 c X2 X3 X4 X5 X6 X7 X8) := by
  simp only [k0_part59_eq_skeleton]; unfold k0_part59_skel
  unfold Held
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

set_option maxHeartbeats 4000000 in
/-- Part 60 of the body keeps hold of everything the body works on. -/
theorem part60 (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (v222 : IVec S1x256 32) (v236 : FVec F S8x256 .f32) (v245 : FVec F S8x256 .f32) (E : Set ℕ) :
    Held (F := F) arg2 arg3 arg4 arg5 arg6 arg7 arg8 arg9 arg10 arg11 arg12 arg13 arg14 arg15 arg16 c X2 X3 X4 X5 X6 X7 X8 ⊢ wp frame (wpE (defs₀ (F := F)) Variants.none c none) E (k0_part60 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v222 v236 v245) (fun _ => Held (F := F) arg2 arg3 arg4 arg5 arg6 arg7 arg8 arg9 arg10 arg11 arg12 arg13 arg14 arg15 arg16 c X2 X3 X4 X5 X6 X7 X8) := by
  simp only [k0_part60_eq_skeleton]; unfold k0_part60_skel
  unfold Held
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

set_option maxHeartbeats 4000000 in
/-- Part 71 of the body keeps hold of everything the body works on. -/
theorem part71 (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (k0_h1 : k0_cond1 i = 1#1) (k0_h2 : k0_cond2 i = 1#1) (k0_h3 : k0_cond3 i = 1#1) (k0_h4 : k0_cond4 i = 1#1) (k0_h5 : ¬(k0_cond5 i = 1#1)) (E : Set ℕ) :
    Held (F := F) arg2 arg3 arg4 arg5 arg6 arg7 arg8 arg9 arg10 arg11 arg12 arg13 arg14 arg15 arg16 c X2 X3 X4 X5 X6 X7 X8 ⊢ wp frame (wpE (defs₀ (F := F)) Variants.none c none) E (k0_part71 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k0_h2 k0_h3 k0_h4 k0_h5) (fun _ => Held (F := F) arg2 arg3 arg4 arg5 arg6 arg7 arg8 arg9 arg10 arg11 arg12 arg13 arg14 arg15 arg16 c X2 X3 X4 X5 X6 X7 X8) := by
  simp only [k0_part71_eq_skeleton]; unfold k0_part71_skel
  unfold Held
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

set_option maxHeartbeats 4000000 in
/-- Part 72 of the body keeps hold of everything the body works on. -/
theorem part72 (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (v220 : IVec S1x256 32) (v234 : FVec F S8x256 .f32) (v243 : FVec F S8x256 .f32) (E : Set ℕ) :
    Held (F := F) arg2 arg3 arg4 arg5 arg6 arg7 arg8 arg9 arg10 arg11 arg12 arg13 arg14 arg15 arg16 c X2 X3 X4 X5 X6 X7 X8 ⊢ wp frame (wpE (defs₀ (F := F)) Variants.none c none) E (k0_part72 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v220 v234 v243) (fun _ => Held (F := F) arg2 arg3 arg4 arg5 arg6 arg7 arg8 arg9 arg10 arg11 arg12 arg13 arg14 arg15 arg16 c X2 X3 X4 X5 X6 X7 X8) := by
  simp only [k0_part72_eq_skeleton]; unfold k0_part72_skel
  unfold Held
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

set_option maxHeartbeats 4000000 in
/-- Part 82 of the body keeps hold of everything the body works on. -/
theorem part82 (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (k0_h1 : k0_cond1 i = 1#1) (k0_h2 : k0_cond2 i = 1#1) (k0_h3 : k0_cond3 i = 1#1) (k0_h4 : ¬(k0_cond4 i = 1#1)) (E : Set ℕ) :
    Held (F := F) arg2 arg3 arg4 arg5 arg6 arg7 arg8 arg9 arg10 arg11 arg12 arg13 arg14 arg15 arg16 c X2 X3 X4 X5 X6 X7 X8 ⊢ wp frame (wpE (defs₀ (F := F)) Variants.none c none) E (k0_part82 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k0_h2 k0_h3 k0_h4) (fun _ => Held (F := F) arg2 arg3 arg4 arg5 arg6 arg7 arg8 arg9 arg10 arg11 arg12 arg13 arg14 arg15 arg16 c X2 X3 X4 X5 X6 X7 X8) := by
  simp only [k0_part82_eq_skeleton]; unfold k0_part82_skel
  unfold Held
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

set_option maxHeartbeats 4000000 in
/-- Part 90 of the body keeps hold of everything the body works on. -/
theorem part90 (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (k0_h1 : k0_cond1 i = 1#1) (k0_h2 : k0_cond2 i = 1#1) (k0_h3 : ¬(k0_cond3 i = 1#1)) (E : Set ℕ) :
    Held (F := F) arg2 arg3 arg4 arg5 arg6 arg7 arg8 arg9 arg10 arg11 arg12 arg13 arg14 arg15 arg16 c X2 X3 X4 X5 X6 X7 X8 ⊢ wp frame (wpE (defs₀ (F := F)) Variants.none c none) E (k0_part90 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k0_h2 k0_h3) (fun _ => Held (F := F) arg2 arg3 arg4 arg5 arg6 arg7 arg8 arg9 arg10 arg11 arg12 arg13 arg14 arg15 arg16 c X2 X3 X4 X5 X6 X7 X8) := by
  simp only [k0_part90_eq_skeleton]; unfold k0_part90_skel
  unfold Held
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

set_option maxHeartbeats 4000000 in
/-- Part 95 of the body keeps hold of everything the body works on. -/
theorem part95 (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (k0_h1 : k0_cond1 i = 1#1) (k0_h2 : ¬(k0_cond2 i = 1#1)) (E : Set ℕ) :
    Held (F := F) arg2 arg3 arg4 arg5 arg6 arg7 arg8 arg9 arg10 arg11 arg12 arg13 arg14 arg15 arg16 c X2 X3 X4 X5 X6 X7 X8 ⊢ wp frame (wpE (defs₀ (F := F)) Variants.none c none) E (k0_part95 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 k0_h2) (fun _ => Held (F := F) arg2 arg3 arg4 arg5 arg6 arg7 arg8 arg9 arg10 arg11 arg12 arg13 arg14 arg15 arg16 c X2 X3 X4 X5 X6 X7 X8) := by
  simp only [k0_part95_eq_skeleton]; unfold k0_part95_skel
  unfold Held
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Cert.Proof.Dsa

end
-- ==== Proof.DsaTopk.lean ====
/- The selection of the top-k call: two passes over the keys, the switch, the tie-breaking. -/
module

public import proofs.«01_k».proof.Proof.DsaSwitch

@[expose] public section

set_option warn.classDefReducibility false
set_option maxRecDepth 65536

noncomputable section

namespace Cert.Proof.Dsa

open Cert.Dsa Cert.Dsa.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (i : grid0.Coords)
  (arg2 : Memref sig .tc .vmem S512x256 .bf16) (harg2 : arg2.IsWhole)
  (arg3 : Memref sig .tc .vmem S128x256 .f32) (harg3 : arg3.IsWhole)
  (arg4 : Memref sig .tc .vmem S512x256 .bf16) (harg4 : arg4.IsWhole)
  (arg5 : Memref sig .tc .vmem S4096x128 .bf16) (harg5 : arg5.IsWhole)
  (arg6 : Memref sig .tc .vmem S4096x128 .bf16) (harg6 : arg6.IsWhole)
  (arg7 : Memref sig .tc .vmem S144x4096 .bf16) (harg7 : arg7.IsWhole)
  (arg8 : Memref sig .tc .vmem S8x64x128 .bf16) (harg8 : arg8.IsWhole)
  (arg9 : Memref sig .tc .vmem S1x256x512 .bf16) (harg9 : arg9.IsWhole)
  (arg10 : Memref sig .tc .vmem S4096x256 .i32) (harg10 : arg10.IsWhole)
  (arg11 : Memref sig .tc .vmem S128x2048 .bf16) (harg11 : arg11.IsWhole)
  (arg12 : Memref sig .tc .vmem S128x2048 .bf16) (harg12 : arg12.IsWhole)
  (arg13 : Memref sig .tc .vmem S144x2048 .f32) (harg13 : arg13.IsWhole)
  (arg14 : Memref sig .tc .vmem S4096x256 .bf16) (harg14 : arg14.IsWhole)
  (arg15 : Memref sig .tc .vmem S8x256 .i32) (harg15 : arg15.IsWhole)
  (arg16 : Memref sig .tc .vmem S8x256 .f32) (harg16 : arg16.IsWhole)

/-- Two programs in sequence: what the first keeps hold of, the second starts from. -/
theorem held_bind (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (E : Set ℕ) {α β : Type} {Q : β → sProp 𝕄} {p : Prog (TpuEff nD τ sig (Elt F) Λ₀ .tc) α} {k : α → Prog (TpuEff nD τ sig (Elt F) Λ₀ .tc) β}
    (hp : Held (F := F) arg2 arg3 arg4 arg5 arg6 arg7 arg8 arg9 arg10 arg11 arg12 arg13 arg14 arg15 arg16 c X2 X3 X4 X5 X6 X7 X8 ⊢ wp frame (wpE (defs₀ (F := F)) Variants.none (c : Thread nD τ) none) E p (fun _ => Held (F := F) arg2 arg3 arg4 arg5 arg6 arg7 arg8 arg9 arg10 arg11 arg12 arg13 arg14 arg15 arg16 c X2 X3 X4 X5 X6 X7 X8)) (hk : ∀ a, Held (F := F) arg2 arg3 arg4 arg5 arg6 arg7 arg8 arg9 arg10 arg11 arg12 arg13 arg14 arg15 arg16 c X2 X3 X4 X5 X6 X7 X8 ⊢ wp frame (wpE (defs₀ (F := F)) Variants.none (c : Thread nD τ) none) E (k a) Q) :
    Held (F := F) arg2 arg3 arg4 arg5 arg6 arg7 arg8 arg9 arg10 arg11 arg12 arg13 arg14 arg15 arg16 c X2 X3 X4 X5 X6 X7 X8 ⊢ wp frame (wpE (defs₀ (F := F)) Variants.none (c : Thread nD τ) none) E (p >>= k) Q := by
  rw [wp_bind]
  exact hp.trans (wp_mono _ _ _ fun a => hk a)

/-- A branch on a condition: both sides keep hold. -/
theorem held_dite (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (E : Set ℕ) {α : Type} {Q : α → sProp 𝕄} {C : Prop} [Decidable C] {t : C → Prog (TpuEff nD τ sig (Elt F) Λ₀ .tc) α} {e : ¬C → Prog (TpuEff nD τ sig (Elt F) Λ₀ .tc) α}
    (ht : ∀ h, Held (F := F) arg2 arg3 arg4 arg5 arg6 arg7 arg8 arg9 arg10 arg11 arg12 arg13 arg14 arg15 arg16 c X2 X3 X4 X5 X6 X7 X8 ⊢ wp frame (wpE (defs₀ (F := F)) Variants.none (c : Thread nD τ) none) E (t h) Q) (he : ∀ h, Held (F := F) arg2 arg3 arg4 arg5 arg6 arg7 arg8 arg9 arg10 arg11 arg12 arg13 arg14 arg15 arg16 c X2 X3 X4 X5 X6 X7 X8 ⊢ wp frame (wpE (defs₀ (F := F)) Variants.none (c : Thread nD τ) none) E (e h) Q) :
    Held (F := F) arg2 arg3 arg4 arg5 arg6 arg7 arg8 arg9 arg10 arg11 arg12 arg13 arg14 arg15 arg16 c X2 X3 X4 X5 X6 X7 X8 ⊢ wp frame (wpE (defs₀ (F := F)) Variants.none (c : Thread nD τ) none) E (dite C t e) Q := by
  by_cases h : C
  · rw [dif_pos h]; exact ht h
  · rw [dif_neg h]; exact he h

/-- The same where the sides do not use the condition. -/
theorem held_ite (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (E : Set ℕ) {α : Type} {Q : α → sProp 𝕄} {C : Prop} [Decidable C] {t e : Prog (TpuEff nD τ sig (Elt F) Λ₀ .tc) α}
    (ht : Held (F := F) arg2 arg3 arg4 arg5 arg6 arg7 arg8 arg9 arg10 arg11 arg12 arg13 arg14 arg15 arg16 c X2 X3 X4 X5 X6 X7 X8 ⊢ wp frame (wpE (defs₀ (F := F)) Variants.none (c : Thread nD τ) none) E t Q) (he : Held (F := F) arg2 arg3 arg4 arg5 arg6 arg7 arg8 arg9 arg10 arg11 arg12 arg13 arg14 arg15 arg16 c X2 X3 X4 X5 X6 X7 X8 ⊢ wp frame (wpE (defs₀ (F := F)) Variants.none (c : Thread nD τ) none) E e Q) :
    Held (F := F) arg2 arg3 arg4 arg5 arg6 arg7 arg8 arg9 arg10 arg11 arg12 arg13 arg14 arg15 arg16 c X2 X3 X4 X5 X6 X7 X8 ⊢ wp frame (wpE (defs₀ (F := F)) Variants.none (c : Thread nD τ) none) E (ite C t e) Q := by
  by_cases h : C
  · rw [if_pos h]; exact ht
  · rw [if_neg h]; exact he

/-- Leaving everything as it is. -/
theorem held_pure (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (E : Set ℕ) {α : Type} (a : α) :
    Held (F := F) arg2 arg3 arg4 arg5 arg6 arg7 arg8 arg9 arg10 arg11 arg12 arg13 arg14 arg15 arg16 c X2 X3 X4 X5 X6 X7 X8 ⊢ wp frame (wpE (defs₀ (F := F)) Variants.none (c : Thread nD τ) none) E (pure a) (fun _ => Held (F := F) arg2 arg3 arg4 arg5 arg6 arg7 arg8 arg9 arg10 arg11 arg12 arg13 arg14 arg15 arg16 c X2 X3 X4 X5 X6 X7 X8) := by
  iintro H
  sl_step
  iexact H

set_option maxHeartbeats 4000000 in
/-- Part 102 of the body — the two passes over the keys, the switch on the number of key chunks, and the tie-breaking
    under its data-dependent branch — keeps hold of everything the body works on. -/
theorem part102 (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (v20 : BitVec 32) (v24 : IVec S1x256 32) (v127 : Vec F S128x256 .bf16) (E : Set ℕ) :
    Held (F := F) arg2 arg3 arg4 arg5 arg6 arg7 arg8 arg9 arg10 arg11 arg12 arg13 arg14 arg15 arg16 c X2 X3 X4 X5 X6 X7 X8 ⊢ wp frame (wpE (defs₀ (F := F)) Variants.none (c : Thread nD τ) none) E (k0_part102 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v20 v24 v127) (fun _ => Held (F := F) arg2 arg3 arg4 arg5 arg6 arg7 arg8 arg9 arg10 arg11 arg12 arg13 arg14 arg15 arg16 c X2 X3 X4 X5 X6 X7 X8) := by
  simp only [k0_part102_eq_skeleton]; unfold k0_part102_skel
  refine held_bind arg2 arg3 arg4 arg5 arg6 arg7 arg8 arg9 arg10 arg11 arg12 arg13 arg14 arg15 arg16 c X2 X3 X4 X5 X6 X7 X8 E ?_ fun _ => ?_; rotate_left
  refine held_bind arg2 arg3 arg4 arg5 arg6 arg7 arg8 arg9 arg10 arg11 arg12 arg13 arg14 arg15 arg16 c X2 X3 X4 X5 X6 X7 X8 E ?_ fun _ => ?_; rotate_left
  refine held_bind arg2 arg3 arg4 arg5 arg6 arg7 arg8 arg9 arg10 arg11 arg12 arg13 arg14 arg15 arg16 c X2 X3 X4 X5 X6 X7 X8 E ?_ fun _ => ?_; rotate_left
  refine held_bind arg2 arg3 arg4 arg5 arg6 arg7 arg8 arg9 arg10 arg11 arg12 arg13 arg14 arg15 arg16 c X2 X3 X4 X5 X6 X7 X8 E ?_ fun _ => ?_; rotate_left
  extract_lets a1 a2 a3 a4 a5 jp jp1 jp2 jp3 jp4 jp5 jp6
  have hjp : ∀ y, Held (F := F) arg2 arg3 arg4 arg5 arg6 arg7 arg8 arg9 arg10 arg11 arg12 arg13 arg14 arg15 arg16 c X2 X3 X4 X5 X6 X7 X8 ⊢ wp frame (wpE (defs₀ (F := F)) Variants.none (c : Thread nD τ) none) E (jp y) (fun _ => Held (F := F) arg2 arg3 arg4 arg5 arg6 arg7 arg8 arg9 arg10 arg11 arg12 arg13 arg14 arg15 arg16 c X2 X3 X4 X5 X6 X7 X8) := by
    intro y
    dsimp -zeta only [jp]
    refine held_bind arg2 arg3 arg4 arg5 arg6 arg7 arg8 arg9 arg10 arg11 arg12 arg13 arg14 arg15 arg16 c X2 X3 X4 X5 X6 X7 X8 E ?_ fun _ => ?_; rotate_left
    refine held_bind arg2 arg3 arg4 arg5 arg6 arg7 arg8 arg9 arg10 arg11 arg12 arg13 arg14 arg15 arg16 c X2 X3 X4 X5 X6 X7 X8 E ?_ fun _ => ?_; rotate_left
    extract_lets b1 b2 b3 jq
    have hjq : ∀ y, Held (F := F) arg2 arg3 arg4 arg5 arg6 arg7 arg8 arg9 arg10 arg11 arg12 arg13 arg14 arg15 arg16 c X2 X3 X4 X5 X6 X7 X8 ⊢ wp frame (wpE (defs₀ (F := F)) Variants.none (c : Thread nD τ) none) E (jq y) (fun _ => Held (F := F) arg2 arg3 arg4 arg5 arg6 arg7 arg8 arg9 arg10 arg11 arg12 arg13 arg14 arg15 arg16 c X2 X3 X4 X5 X6 X7 X8) := by
      intro y
      dsimp -zeta only [jq]
      refine held_bind arg2 arg3 arg4 arg5 arg6 arg7 arg8 arg9 arg10 arg11 arg12 arg13 arg14 arg15 arg16 c X2 X3 X4 X5 X6 X7 X8 E ?_ fun _ => ?_; rotate_left
      refine held_bind arg2 arg3 arg4 arg5 arg6 arg7 arg8 arg9 arg10 arg11 arg12 arg13 arg14 arg15 arg16 c X2 X3 X4 X5 X6 X7 X8 E ?_ fun _ => ?_; rotate_left
      exact held_pure arg2 arg3 arg4 arg5 arg6 arg7 arg8 arg9 arg10 arg11 arg12 arg13 arg14 arg15 arg16 c X2 X3 X4 X5 X6 X7 X8 E _
      all_goals (unfold Held; iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩; sl_exec; (try sl_step); isplitl [H2]; iexact H2; isplitl [H3]; iexact H3; isplitl [H4]; iexact H4; isplitl [H5]; iexact H5; isplitl [H6]; iexact H6; isplitl [H7]; iexact H7; isplitl [H8]; iexact H8; isplitl [H9]; iexists _; iexact H9; isplitl [H10]; iexists _; iexact H10; isplitl [H11]; iexists _; iexact H11; isplitl [H12]; iexists _; iexact H12; isplitl [H13]; iexists _; iexact H13; isplitl [H14]; iexists _; iexact H14; isplitl [H15]; iexists _; iexact H15; iexists _; iexact H16)
    clear_value jq
    refine held_ite arg2 arg3 arg4 arg5 arg6 arg7 arg8 arg9 arg10 arg11 arg12 arg13 arg14 arg15 arg16 c X2 X3 X4 X5 X6 X7 X8 E ?_ (hjq _)
    refine held_bind arg2 arg3 arg4 arg5 arg6 arg7 arg8 arg9 arg10 arg11 arg12 arg13 arg14 arg15 arg16 c X2 X3 X4 X5 X6 X7 X8 E ?_ fun _ => ?_; rotate_left
    refine held_bind arg2 arg3 arg4 arg5 arg6 arg7 arg8 arg9 arg10 arg11 arg12 arg13 arg14 arg15 arg16 c X2 X3 X4 X5 X6 X7 X8 E ?_ fun _ => ?_; rotate_left
    refine held_bind arg2 arg3 arg4 arg5 arg6 arg7 arg8 arg9 arg10 arg11 arg12 arg13 arg14 arg15 arg16 c X2 X3 X4 X5 X6 X7 X8 E ?_ fun _ => ?_; rotate_left
    refine held_bind arg2 arg3 arg4 arg5 arg6 arg7 arg8 arg9 arg10 arg11 arg12 arg13 arg14 arg15 arg16 c X2 X3 X4 X5 X6 X7 X8 E ?_ fun _ => ?_; rotate_left
    refine held_bind arg2 arg3 arg4 arg5 arg6 arg7 arg8 arg9 arg10 arg11 arg12 arg13 arg14 arg15 arg16 c X2 X3 X4 X5 X6 X7 X8 E ?_ fun _ => ?_; rotate_left
    exact hjq _
    all_goals (unfold Held; iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩; sl_exec; (try sl_step); isplitl [H2]; iexact H2; isplitl [H3]; iexact H3; isplitl [H4]; iexact H4; isplitl [H5]; iexact H5; isplitl [H6]; iexact H6; isplitl [H7]; iexact H7; isplitl [H8]; iexact H8; isplitl [H9]; iexists _; iexact H9; isplitl [H10]; iexists _; iexact H10; isplitl [H11]; iexists _; iexact H11; isplitl [H12]; iexists _; iexact H12; isplitl [H13]; iexists _; iexact H13; isplitl [H14]; iexists _; iexact H14; isplitl [H15]; iexists _; iexact H15; iexists _; iexact H16)
  have hjp1 : ∀ y, Held (F := F) arg2 arg3 arg4 arg5 arg6 arg7 arg8 arg9 arg10 arg11 arg12 arg13 arg14 arg15 arg16 c X2 X3 X4 X5 X6 X7 X8 ⊢ wp frame (wpE (defs₀ (F := F)) Variants.none (c : Thread nD τ) none) E (jp1 y) (fun _ => Held (F := F) arg2 arg3 arg4 arg5 arg6 arg7 arg8 arg9 arg10 arg11 arg12 arg13 arg14 arg15 arg16 c X2 X3 X4 X5 X6 X7 X8) := fun y => hjp y
  have hjp2 : ∀ y, Held (F := F) arg2 arg3 arg4 arg5 arg6 arg7 arg8 arg9 arg10 arg11 arg12 arg13 arg14 arg15 arg16 c X2 X3 X4 X5 X6 X7 X8 ⊢ wp frame (wpE (defs₀ (F := F)) Variants.none (c : Thread nD τ) none) E (jp2 y) (fun _ => Held (F := F) arg2 arg3 arg4 arg5 arg6 arg7 arg8 arg9 arg10 arg11 arg12 arg13 arg14 arg15 arg16 c X2 X3 X4 X5 X6 X7 X8) := fun y => hjp1 y
  have hjp3 : ∀ y, Held (F := F) arg2 arg3 arg4 arg5 arg6 arg7 arg8 arg9 arg10 arg11 arg12 arg13 arg14 arg15 arg16 c X2 X3 X4 X5 X6 X7 X8 ⊢ wp frame (wpE (defs₀ (F := F)) Variants.none (c : Thread nD τ) none) E (jp3 y) (fun _ => Held (F := F) arg2 arg3 arg4 arg5 arg6 arg7 arg8 arg9 arg10 arg11 arg12 arg13 arg14 arg15 arg16 c X2 X3 X4 X5 X6 X7 X8) := fun y => hjp2 y
  have hjp4 : ∀ y, Held (F := F) arg2 arg3 arg4 arg5 arg6 arg7 arg8 arg9 arg10 arg11 arg12 arg13 arg14 arg15 arg16 c X2 X3 X4 X5 X6 X7 X8 ⊢ wp frame (wpE (defs₀ (F := F)) Variants.none (c : Thread nD τ) none) E (jp4 y) (fun _ => Held (F := F) arg2 arg3 arg4 arg5 arg6 arg7 arg8 arg9 arg10 arg11 arg12 arg13 arg14 arg15 arg16 c X2 X3 X4 X5 X6 X7 X8) := fun y => hjp3 y
  have hjp5 : ∀ y, Held (F := F) arg2 arg3 arg4 arg5 arg6 arg7 arg8 arg9 arg10 arg11 arg12 arg13 arg14 arg15 arg16 c X2 X3 X4 X5 X6 X7 X8 ⊢ wp frame (wpE (defs₀ (F := F)) Variants.none (c : Thread nD τ) none) E (jp5 y) (fun _ => Held (F := F) arg2 arg3 arg4 arg5 arg6 arg7 arg8 arg9 arg10 arg11 arg12 arg13 arg14 arg15 arg16 c X2 X3 X4 X5 X6 X7 X8) := fun y => hjp4 y
  have hjp6 : ∀ y, Held (F := F) arg2 arg3 arg4 arg5 arg6 arg7 arg8 arg9 arg10 arg11 arg12 arg13 arg14 arg15 arg16 c X2 X3 X4 X5 X6 X7 X8 ⊢ wp frame (wpE (defs₀ (F := F)) Variants.none (c : Thread nD τ) none) E (jp6 y) (fun _ => Held (F := F) arg2 arg3 arg4 arg5 arg6 arg7 arg8 arg9 arg10 arg11 arg12 arg13 arg14 arg15 arg16 c X2 X3 X4 X5 X6 X7 X8) := fun y => hjp5 y
  clear_value jp6 jp5 jp4 jp3 jp2 jp1 jp
  cases Classical.em (k0_cond1 i = 1#1) with
  | inl k0_h1 =>
    rw [dif_pos k0_h1]
    cases Classical.em (k0_cond2 i = 1#1) with
    | inl k0_h2 =>
      rw [dif_pos k0_h2]
      cases Classical.em (k0_cond3 i = 1#1) with
      | inl k0_h3 =>
        rw [dif_pos k0_h3]
        cases Classical.em (k0_cond4 i = 1#1) with
        | inl k0_h4 =>
          rw [dif_pos k0_h4]
          cases Classical.em (k0_cond5 i = 1#1) with
          | inl k0_h5 =>
            rw [dif_pos k0_h5]
            cases Classical.em (k0_cond6 i = 1#1) with
            | inl k0_h6 =>
              rw [dif_pos k0_h6]
              cases Classical.em (k0_cond7 i = 1#1) with
              | inl k0_h7 =>
                rw [dif_pos k0_h7]
                refine held_bind arg2 arg3 arg4 arg5 arg6 arg7 arg8 arg9 arg10 arg11 arg12 arg13 arg14 arg15 arg16 c X2 X3 X4 X5 X6 X7 X8 E (part28 i arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 X4 X5 X6 X7 X8 k0_h1 k0_h2 k0_h3 k0_h4 k0_h5 k0_h6 k0_h7 E) ?_; rintro ⟨v224, v238, v247⟩
                refine held_bind arg2 arg3 arg4 arg5 arg6 arg7 arg8 arg9 arg10 arg11 arg12 arg13 arg14 arg15 arg16 c X2 X3 X4 X5 X6 X7 X8 E (part29 i arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 X4 X5 X6 X7 X8 v224 E) fun _ => ?_
                refine held_bind arg2 arg3 arg4 arg5 arg6 arg7 arg8 arg9 arg10 arg11 arg12 arg13 arg14 arg15 arg16 c X2 X3 X4 X5 X6 X7 X8 E ?_ fun _ => ?_; rotate_left
                refine held_bind arg2 arg3 arg4 arg5 arg6 arg7 arg8 arg9 arg10 arg11 arg12 arg13 arg14 arg15 arg16 c X2 X3 X4 X5 X6 X7 X8 E ?_ fun _ => ?_; rotate_left
                refine held_bind arg2 arg3 arg4 arg5 arg6 arg7 arg8 arg9 arg10 arg11 arg12 arg13 arg14 arg15 arg16 c X2 X3 X4 X5 X6 X7 X8 E ?_ fun _ => ?_; rotate_left
                refine held_bind arg2 arg3 arg4 arg5 arg6 arg7 arg8 arg9 arg10 arg11 arg12 arg13 arg14 arg15 arg16 c X2 X3 X4 X5 X6 X7 X8 E ?_ fun _ => ?_; rotate_left
                exact hjp6 _
                all_goals (unfold Held; iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩; sl_exec; (try sl_step); isplitl [H2]; iexact H2; isplitl [H3]; iexact H3; isplitl [H4]; iexact H4; isplitl [H5]; iexact H5; isplitl [H6]; iexact H6; isplitl [H7]; iexact H7; isplitl [H8]; iexact H8; isplitl [H9]; iexists _; iexact H9; isplitl [H10]; iexists _; iexact H10; isplitl [H11]; iexists _; iexact H11; isplitl [H12]; iexists _; iexact H12; isplitl [H13]; iexists _; iexact H13; isplitl [H14]; iexists _; iexact H14; isplitl [H15]; iexists _; iexact H15; iexists _; iexact H16)
              | inr k0_h7 =>
                rw [dif_neg k0_h7]
                refine held_bind arg2 arg3 arg4 arg5 arg6 arg7 arg8 arg9 arg10 arg11 arg12 arg13 arg14 arg15 arg16 c X2 X3 X4 X5 X6 X7 X8 E (part45 i arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 X4 X5 X6 X7 X8 k0_h1 k0_h2 k0_h3 k0_h4 k0_h5 k0_h6 k0_h7 E) ?_; rintro ⟨v224, v238, v247⟩
                refine held_bind arg2 arg3 arg4 arg5 arg6 arg7 arg8 arg9 arg10 arg11 arg12 arg13 arg14 arg15 arg16 c X2 X3 X4 X5 X6 X7 X8 E (part46 i arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 X4 X5 X6 X7 X8 v224 E) fun _ => ?_
                refine held_bind arg2 arg3 arg4 arg5 arg6 arg7 arg8 arg9 arg10 arg11 arg12 arg13 arg14 arg15 arg16 c X2 X3 X4 X5 X6 X7 X8 E ?_ fun _ => ?_; rotate_left
                refine held_bind arg2 arg3 arg4 arg5 arg6 arg7 arg8 arg9 arg10 arg11 arg12 arg13 arg14 arg15 arg16 c X2 X3 X4 X5 X6 X7 X8 E ?_ fun _ => ?_; rotate_left
                refine held_bind arg2 arg3 arg4 arg5 arg6 arg7 arg8 arg9 arg10 arg11 arg12 arg13 arg14 arg15 arg16 c X2 X3 X4 X5 X6 X7 X8 E ?_ fun _ => ?_; rotate_left
                exact hjp6 _
                all_goals (unfold Held; iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩; sl_exec; (try sl_step); isplitl [H2]; iexact H2; isplitl [H3]; iexact H3; isplitl [H4]; iexact H4; isplitl [H5]; iexact H5; isplitl [H6]; iexact H6; isplitl [H7]; iexact H7; isplitl [H8]; iexact H8; isplitl [H9]; iexists _; iexact H9; isplitl [H10]; iexists _; iexact H10; isplitl [H11]; iexists _; iexact H11; isplitl [H12]; iexists _; iexact H12; isplitl [H13]; iexists _; iexact H13; isplitl [H14]; iexists _; iexact H14; isplitl [H15]; iexists _; iexact H15; iexists _; iexact H16)
            | inr k0_h6 =>
              rw [dif_neg k0_h6]
              refine held_bind arg2 arg3 arg4 arg5 arg6 arg7 arg8 arg9 arg10 arg11 arg12 arg13 arg14 arg15 arg16 c X2 X3 X4 X5 X6 X7 X8 E (part59 i arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 X4 X5 X6 X7 X8 k0_h1 k0_h2 k0_h3 k0_h4 k0_h5 k0_h6 E) ?_; rintro ⟨v222, v236, v245⟩
              refine held_bind arg2 arg3 arg4 arg5 arg6 arg7 arg8 arg9 arg10 arg11 arg12 arg13 arg14 arg15 arg16 c X2 X3 X4 X5 X6 X7 X8 E (part60 i arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 X4 X5 X6 X7 X8 v222 v236 v245 E) fun _ => ?_
              refine held_bind arg2 arg3 arg4 arg5 arg6 arg7 arg8 arg9 arg10 arg11 arg12 arg13 arg14 arg15 arg16 c X2 X3 X4 X5 X6 X7 X8 E ?_ fun _ => ?_; rotate_left
              refine held_bind arg2 arg3 arg4 arg5 arg6 arg7 arg8 arg9 arg10 arg11 arg12 arg13 arg14 arg15 arg16 c X2 X3 X4 X5 X6 X7 X8 E ?_ fun _ => ?_; rotate_left
              exact hjp5 _
              all_goals (unfold Held; iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩; sl_exec; (try sl_step); isplitl [H2]; iexact H2; isplitl [H3]; iexact H3; isplitl [H4]; iexact H4; isplitl [H5]; iexact H5; isplitl [H6]; iexact H6; isplitl [H7]; iexact H7; isplitl [H8]; iexact H8; isplitl [H9]; iexists _; iexact H9; isplitl [H10]; iexists _; iexact H10; isplitl [H11]; iexists _; iexact H11; isplitl [H12]; iexists _; iexact H12; isplitl [H13]; iexists _; iexact H13; isplitl [H14]; iexists _; iexact H14; isplitl [H15]; iexists _; iexact H15; iexists _; iexact H16)
          | inr k0_h5 =>
            rw [dif_neg k0_h5]
            refine held_bind arg2 arg3 arg4 arg5 arg6 arg7 arg8 arg9 arg10 arg11 arg12 arg13 arg14 arg15 arg16 c X2 X3 X4 X5 X6 X7 X8 E (part71 i arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 X4 X5 X6 X7 X8 k0_h1 k0_h2 k0_h3 k0_h4 k0_h5 E) ?_; rintro ⟨v220, v234, v243⟩
            refine held_bind arg2 arg3 arg4 arg5 arg6 arg7 arg8 arg9 arg10 arg11 arg12 arg13 arg14 arg15 arg16 c X2 X3 X4 X5 X6 X7 X8 E (part72 i arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 X4 X5 X6 X7 X8 v220 v234 v243 E) fun _ => ?_
            refine held_bind arg2 arg3 arg4 arg5 arg6 arg7 arg8 arg9 arg10 arg11 arg12 arg13 arg14 arg15 arg16 c X2 X3 X4 X5 X6 X7 X8 E ?_ fun _ => ?_; rotate_left
            exact hjp4 _
            all_goals (unfold Held; iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩; sl_exec; (try sl_step); isplitl [H2]; iexact H2; isplitl [H3]; iexact H3; isplitl [H4]; iexact H4; isplitl [H5]; iexact H5; isplitl [H6]; iexact H6; isplitl [H7]; iexact H7; isplitl [H8]; iexact H8; isplitl [H9]; iexists _; iexact H9; isplitl [H10]; iexists _; iexact H10; isplitl [H11]; iexists _; iexact H11; isplitl [H12]; iexists _; iexact H12; isplitl [H13]; iexists _; iexact H13; isplitl [H14]; iexists _; iexact H14; isplitl [H15]; iexists _; iexact H15; iexists _; iexact H16)
        | inr k0_h4 =>
          rw [dif_neg k0_h4]
          refine held_bind arg2 arg3 arg4 arg5 arg6 arg7 arg8 arg9 arg10 arg11 arg12 arg13 arg14 arg15 arg16 c X2 X3 X4 X5 X6 X7 X8 E (part82 i arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 X4 X5 X6 X7 X8 k0_h1 k0_h2 k0_h3 k0_h4 E) ?_; rintro ⟨v218, v232, v241⟩
          refine held_bind arg2 arg3 arg4 arg5 arg6 arg7 arg8 arg9 arg10 arg11 arg12 arg13 arg14 arg15 arg16 c X2 X3 X4 X5 X6 X7 X8 E ?_ fun _ => ?_; rotate_left
          refine held_bind arg2 arg3 arg4 arg5 arg6 arg7 arg8 arg9 arg10 arg11 arg12 arg13 arg14 arg15 arg16 c X2 X3 X4 X5 X6 X7 X8 E ?_ fun _ => ?_; rotate_left
          refine held_bind arg2 arg3 arg4 arg5 arg6 arg7 arg8 arg9 arg10 arg11 arg12 arg13 arg14 arg15 arg16 c X2 X3 X4 X5 X6 X7 X8 E ?_ fun _ => ?_; rotate_left
          refine held_bind arg2 arg3 arg4 arg5 arg6 arg7 arg8 arg9 arg10 arg11 arg12 arg13 arg14 arg15 arg16 c X2 X3 X4 X5 X6 X7 X8 E ?_ fun _ => ?_; rotate_left
          exact hjp3 _
          all_goals (unfold Held; iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩; sl_exec; (try sl_step); isplitl [H2]; iexact H2; isplitl [H3]; iexact H3; isplitl [H4]; iexact H4; isplitl [H5]; iexact H5; isplitl [H6]; iexact H6; isplitl [H7]; iexact H7; isplitl [H8]; iexact H8; isplitl [H9]; iexists _; iexact H9; isplitl [H10]; iexists _; iexact H10; isplitl [H11]; iexists _; iexact H11; isplitl [H12]; iexists _; iexact H12; isplitl [H13]; iexists _; iexact H13; isplitl [H14]; iexists _; iexact H14; isplitl [H15]; iexists _; iexact H15; iexists _; iexact H16)
      | inr k0_h3 =>
        rw [dif_neg k0_h3]
        refine held_bind arg2 arg3 arg4 arg5 arg6 arg7 arg8 arg9 arg10 arg11 arg12 arg13 arg14 arg15 arg16 c X2 X3 X4 X5 X6 X7 X8 E (part90 i arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 X4 X5 X6 X7 X8 k0_h1 k0_h2 k0_h3 E) ?_; rintro ⟨v216, v230, v239⟩
        refine held_bind arg2 arg3 arg4 arg5 arg6 arg7 arg8 arg9 arg10 arg11 arg12 arg13 arg14 arg15 arg16 c X2 X3 X4 X5 X6 X7 X8 E ?_ fun _ => ?_; rotate_left
        refine held_bind arg2 arg3 arg4 arg5 arg6 arg7 arg8 arg9 arg10 arg11 arg12 arg13 arg14 arg15 arg16 c X2 X3 X4 X5 X6 X7 X8 E ?_ fun _ => ?_; rotate_left
        refine held_bind arg2 arg3 arg4 arg5 arg6 arg7 arg8 arg9 arg10 arg11 arg12 arg13 arg14 arg15 arg16 c X2 X3 X4 X5 X6 X7 X8 E ?_ fun _ => ?_; rotate_left
        exact hjp2 _
        all_goals (unfold Held; iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩; sl_exec; (try sl_step); isplitl [H2]; iexact H2; isplitl [H3]; iexact H3; isplitl [H4]; iexact H4; isplitl [H5]; iexact H5; isplitl [H6]; iexact H6; isplitl [H7]; iexact H7; isplitl [H8]; iexact H8; isplitl [H9]; iexists _; iexact H9; isplitl [H10]; iexists _; iexact H10; isplitl [H11]; iexists _; iexact H11; isplitl [H12]; iexists _; iexact H12; isplitl [H13]; iexists _; iexact H13; isplitl [H14]; iexists _; iexact H14; isplitl [H15]; iexists _; iexact H15; iexists _; iexact H16)
    | inr k0_h2 =>
      rw [dif_neg k0_h2]
      refine held_bind arg2 arg3 arg4 arg5 arg6 arg7 arg8 arg9 arg10 arg11 arg12 arg13 arg14 arg15 arg16 c X2 X3 X4 X5 X6 X7 X8 E (part95 i arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 X4 X5 X6 X7 X8 k0_h1 k0_h2 E) fun _ => ?_
      refine held_bind arg2 arg3 arg4 arg5 arg6 arg7 arg8 arg9 arg10 arg11 arg12 arg13 arg14 arg15 arg16 c X2 X3 X4 X5 X6 X7 X8 E ?_ fun _ => ?_; rotate_left
      refine held_bind arg2 arg3 arg4 arg5 arg6 arg7 arg8 arg9 arg10 arg11 arg12 arg13 arg14 arg15 arg16 c X2 X3 X4 X5 X6 X7 X8 E ?_ fun _ => ?_; rotate_left
      exact hjp1 _
      all_goals (unfold Held; iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩; sl_exec; (try sl_step); isplitl [H2]; iexact H2; isplitl [H3]; iexact H3; isplitl [H4]; iexact H4; isplitl [H5]; iexact H5; isplitl [H6]; iexact H6; isplitl [H7]; iexact H7; isplitl [H8]; iexact H8; isplitl [H9]; iexists _; iexact H9; isplitl [H10]; iexists _; iexact H10; isplitl [H11]; iexists _; iexact H11; isplitl [H12]; iexists _; iexact H12; isplitl [H13]; iexists _; iexact H13; isplitl [H14]; iexists _; iexact H14; isplitl [H15]; iexists _; iexact H15; iexists _; iexact H16)
  | inr k0_h1 =>
    rw [dif_neg k0_h1]
    refine held_bind arg2 arg3 arg4 arg5 arg6 arg7 arg8 arg9 arg10 arg11 arg12 arg13 arg14 arg15 arg16 c X2 X3 X4 X5 X6 X7 X8 E ?_ fun _ => ?_; rotate_left
    refine held_bind arg2 arg3 arg4 arg5 arg6 arg7 arg8 arg9 arg10 arg11 arg12 arg13 arg14 arg15 arg16 c X2 X3 X4 X5 X6 X7 X8 E ?_ fun _ => ?_; rotate_left
    refine held_bind arg2 arg3 arg4 arg5 arg6 arg7 arg8 arg9 arg10 arg11 arg12 arg13 arg14 arg15 arg16 c X2 X3 X4 X5 X6 X7 X8 E ?_ fun _ => ?_; rotate_left
    refine held_bind arg2 arg3 arg4 arg5 arg6 arg7 arg8 arg9 arg10 arg11 arg12 arg13 arg14 arg15 arg16 c X2 X3 X4 X5 X6 X7 X8 E ?_ fun _ => ?_; rotate_left
    refine held_bind arg2 arg3 arg4 arg5 arg6 arg7 arg8 arg9 arg10 arg11 arg12 arg13 arg14 arg15 arg16 c X2 X3 X4 X5 X6 X7 X8 E ?_ fun _ => ?_; rotate_left
    refine held_bind arg2 arg3 arg4 arg5 arg6 arg7 arg8 arg9 arg10 arg11 arg12 arg13 arg14 arg15 arg16 c X2 X3 X4 X5 X6 X7 X8 E ?_ fun _ => ?_; rotate_left
    refine held_bind arg2 arg3 arg4 arg5 arg6 arg7 arg8 arg9 arg10 arg11 arg12 arg13 arg14 arg15 arg16 c X2 X3 X4 X5 X6 X7 X8 E ?_ fun _ => ?_; rotate_left
    exact hjp _
    all_goals (unfold Held; iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩; sl_exec; (try sl_step); isplitl [H2]; iexact H2; isplitl [H3]; iexact H3; isplitl [H4]; iexact H4; isplitl [H5]; iexact H5; isplitl [H6]; iexact H6; isplitl [H7]; iexact H7; isplitl [H8]; iexact H8; isplitl [H9]; iexists _; iexact H9; isplitl [H10]; iexists _; iexact H10; isplitl [H11]; iexists _; iexact H11; isplitl [H12]; iexists _; iexact H12; isplitl [H13]; iexists _; iexact H13; isplitl [H14]; iexists _; iexact H14; isplitl [H15]; iexists _; iexact H15; iexists _; iexact H16)
  all_goals (unfold Held; iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩; sl_exec; (try sl_step); isplitl [H2]; iexact H2; isplitl [H3]; iexact H3; isplitl [H4]; iexact H4; isplitl [H5]; iexact H5; isplitl [H6]; iexact H6; isplitl [H7]; iexact H7; isplitl [H8]; iexact H8; isplitl [H9]; iexists _; iexact H9; isplitl [H10]; iexists _; iexact H10; isplitl [H11]; iexists _; iexact H11; isplitl [H12]; iexists _; iexact H12; isplitl [H13]; iexists _; iexact H13; isplitl [H14]; iexists _; iexact H14; isplitl [H15]; iexists _; iexact H15; iexists _; iexact H16)

end Cert.Proof.Dsa

end
-- ==== Proof.DsaParts.lean ====
/- The straight-line parts of the top-k call's body: each keeps hold of the operands and the scratch. -/
module

public import proofs.«01_k».proof.Proof.DsaLoop

@[expose] public section

set_option warn.classDefReducibility false
set_option maxRecDepth 65536

noncomputable section

namespace Cert.Proof.Dsa

open Cert.Dsa Cert.Dsa.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (i : grid0.Coords)
  (arg2 : Memref sig .tc .vmem S512x256 .bf16) (harg2 : arg2.IsWhole)
  (arg3 : Memref sig .tc .vmem S128x256 .f32) (harg3 : arg3.IsWhole)
  (arg4 : Memref sig .tc .vmem S512x256 .bf16) (harg4 : arg4.IsWhole)
  (arg5 : Memref sig .tc .vmem S4096x128 .bf16) (harg5 : arg5.IsWhole)
  (arg6 : Memref sig .tc .vmem S4096x128 .bf16) (harg6 : arg6.IsWhole)
  (arg7 : Memref sig .tc .vmem S144x4096 .bf16) (harg7 : arg7.IsWhole)
  (arg8 : Memref sig .tc .vmem S8x64x128 .bf16) (harg8 : arg8.IsWhole)
  (arg9 : Memref sig .tc .vmem S1x256x512 .bf16) (harg9 : arg9.IsWhole)
  (arg10 : Memref sig .tc .vmem S4096x256 .i32) (harg10 : arg10.IsWhole)
  (arg11 : Memref sig .tc .vmem S128x2048 .bf16) (harg11 : arg11.IsWhole)
  (arg12 : Memref sig .tc .vmem S128x2048 .bf16) (harg12 : arg12.IsWhole)
  (arg13 : Memref sig .tc .vmem S144x2048 .f32) (harg13 : arg13.IsWhole)
  (arg14 : Memref sig .tc .vmem S4096x256 .bf16) (harg14 : arg14.IsWhole)
  (arg15 : Memref sig .tc .vmem S8x256 .i32) (harg15 : arg15.IsWhole)
  (arg16 : Memref sig .tc .vmem S8x256 .f32) (harg16 : arg16.IsWhole)

set_option maxHeartbeats 4000000 in
/-- Part 98 of the body keeps hold of everything the body works on. -/
theorem part98 (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)  (E : Set ℕ) :
    Held (F := F) arg2 arg3 arg4 arg5 arg6 arg7 arg8 arg9 arg10 arg11 arg12 arg13 arg14 arg15 arg16 c X2 X3 X4 X5 X6 X7 X8 ⊢ wp frame (wpE (defs₀ (F := F)) Variants.none c none) E (k0_part98 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 ) (fun _ => Held (F := F) arg2 arg3 arg4 arg5 arg6 arg7 arg8 arg9 arg10 arg11 arg12 arg13 arg14 arg15 arg16 c X2 X3 X4 X5 X6 X7 X8) := by
  simp only [k0_part98_eq_skeleton]; unfold k0_part98_skel
  unfold Held
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

set_option maxHeartbeats 4000000 in
/-- Part 99 of the body keeps hold of everything the body works on. -/
theorem part99 (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (v27 v29 : IVec S128x256 1) (E : Set ℕ) :
    Held (F := F) arg2 arg3 arg4 arg5 arg6 arg7 arg8 arg9 arg10 arg11 arg12 arg13 arg14 arg15 arg16 c X2 X3 X4 X5 X6 X7 X8 ⊢ wp frame (wpE (defs₀ (F := F)) Variants.none c none) E (k0_part99 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v27 v29) (fun _ => Held (F := F) arg2 arg3 arg4 arg5 arg6 arg7 arg8 arg9 arg10 arg11 arg12 arg13 arg14 arg15 arg16 c X2 X3 X4 X5 X6 X7 X8) := by
  simp only [k0_part99_eq_skeleton]; unfold k0_part99_skel
  unfold Held
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

set_option maxHeartbeats 4000000 in
/-- Part 100 of the body keeps hold of everything the body works on. -/
theorem part100 (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (v27 v29 : IVec S128x256 1) (E : Set ℕ) :
    Held (F := F) arg2 arg3 arg4 arg5 arg6 arg7 arg8 arg9 arg10 arg11 arg12 arg13 arg14 arg15 arg16 c X2 X3 X4 X5 X6 X7 X8 ⊢ wp frame (wpE (defs₀ (F := F)) Variants.none c none) E (k0_part100 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v27 v29) (fun _ => Held (F := F) arg2 arg3 arg4 arg5 arg6 arg7 arg8 arg9 arg10 arg11 arg12 arg13 arg14 arg15 arg16 c X2 X3 X4 X5 X6 X7 X8) := by
  simp only [k0_part100_eq_skeleton]; unfold k0_part100_skel
  unfold Held
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

set_option maxHeartbeats 4000000 in
/-- Part 101 of the body keeps hold of everything the body works on. -/
theorem part101 (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (v80 v82 : IVec S128x256 1) (v97 : Vec F S128x256 .bf16) (E : Set ℕ) :
    Held (F := F) arg2 arg3 arg4 arg5 arg6 arg7 arg8 arg9 arg10 arg11 arg12 arg13 arg14 arg15 arg16 c X2 X3 X4 X5 X6 X7 X8 ⊢ wp frame (wpE (defs₀ (F := F)) Variants.none c none) E (k0_part101 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v80 v82 v97) (fun _ => Held (F := F) arg2 arg3 arg4 arg5 arg6 arg7 arg8 arg9 arg10 arg11 arg12 arg13 arg14 arg15 arg16 c X2 X3 X4 X5 X6 X7 X8) := by
  simp only [k0_part101_eq_skeleton]; unfold k0_part101_skel
  unfold Held
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Cert.Proof.Dsa

end
-- ==== Proof.DsaBody.lean ====
/- The whole body of the top-k call. -/
module

public import proofs.«01_k».proof.Proof.DsaTopk
public import proofs.«01_k».proof.Proof.DsaParts

@[expose] public section

set_option warn.classDefReducibility false
set_option maxRecDepth 65536

noncomputable section

namespace Cert.Proof.Dsa

open Cert.Dsa Cert.Dsa.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (i : grid0.Coords)
  (arg2 : Memref sig .tc .vmem S512x256 .bf16) (harg2 : arg2.IsWhole)
  (arg3 : Memref sig .tc .vmem S128x256 .f32) (harg3 : arg3.IsWhole)
  (arg4 : Memref sig .tc .vmem S512x256 .bf16) (harg4 : arg4.IsWhole)
  (arg5 : Memref sig .tc .vmem S4096x128 .bf16) (harg5 : arg5.IsWhole)
  (arg6 : Memref sig .tc .vmem S4096x128 .bf16) (harg6 : arg6.IsWhole)
  (arg7 : Memref sig .tc .vmem S144x4096 .bf16) (harg7 : arg7.IsWhole)
  (arg8 : Memref sig .tc .vmem S8x64x128 .bf16) (harg8 : arg8.IsWhole)
  (arg9 : Memref sig .tc .vmem S1x256x512 .bf16) (harg9 : arg9.IsWhole)
  (arg10 : Memref sig .tc .vmem S4096x256 .i32) (harg10 : arg10.IsWhole)
  (arg11 : Memref sig .tc .vmem S128x2048 .bf16) (harg11 : arg11.IsWhole)
  (arg12 : Memref sig .tc .vmem S128x2048 .bf16) (harg12 : arg12.IsWhole)
  (arg13 : Memref sig .tc .vmem S144x2048 .f32) (harg13 : arg13.IsWhole)
  (arg14 : Memref sig .tc .vmem S4096x256 .bf16) (harg14 : arg14.IsWhole)
  (arg15 : Memref sig .tc .vmem S8x256 .i32) (harg15 : arg15.IsWhole)
  (arg16 : Memref sig .tc .vmem S8x256 .f32) (harg16 : arg16.IsWhole)

set_option maxHeartbeats 4000000 in
/-- Part 103 of the body — the attention's two loops and the loads of the heads — keeps hold of everything. -/
theorem part103 (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (v140 : Vec F S1x256 .i32) (v153 : FVec F S1x2048 .f32) (c0_i32_99 v158 : BitVec 32) (E : Set ℕ) :
    Held (F := F) arg2 arg3 arg4 arg5 arg6 arg7 arg8 arg9 arg10 arg11 arg12 arg13 arg14 arg15 arg16 c X2 X3 X4 X5 X6 X7 X8 ⊢ wp frame (wpE (defs₀ (F := F)) Variants.none (c : Thread nD τ) none) E (k0_part103 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v140 v153 c0_i32_99 v158) (fun _ => Held (F := F) arg2 arg3 arg4 arg5 arg6 arg7 arg8 arg9 arg10 arg11 arg12 arg13 arg14 arg15 arg16 c X2 X3 X4 X5 X6 X7 X8) := by
  simp only [k0_part103_eq_skeleton]; unfold k0_part103_skel
  unfold Held
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  isplitl [H2]; iexact H2; isplitl [H3]; iexact H3; isplitl [H4]; iexact H4; isplitl [H5]; iexact H5; isplitl [H6]; iexact H6; isplitl [H7]; iexact H7; isplitl [H8]; iexact H8; isplitl [H9]; iexists _; iexact H9; isplitl [H10]; iexists _; iexact H10; isplitl [H11]; iexists _; iexact H11; isplitl [H12]; iexists _; iexact H12; isplitl [H13]; iexists _; iexact H13; isplitl [H14]; iexists _; iexact H14; isplitl [H15]; iexists _; iexact H15; iexists _; iexact H16

set_option maxHeartbeats 4000000 in
/-- The whole body keeps hold of everything it works on. -/
theorem body (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (E : Set ℕ) :
    Held (F := F) arg2 arg3 arg4 arg5 arg6 arg7 arg8 arg9 arg10 arg11 arg12 arg13 arg14 arg15 arg16 c X2 X3 X4 X5 X6 X7 X8 ⊢ wp frame (wpE (defs₀ (F := F)) Variants.none (c : Thread nD τ) none) E (cc0_dsa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => Held (F := F) arg2 arg3 arg4 arg5 arg6 arg7 arg8 arg9 arg10 arg11 arg12 arg13 arg14 arg15 arg16 c X2 X3 X4 X5 X6 X7 X8) := by
  simp only [cc0_dsa_eq_skeleton]; unfold cc0_dsa_skel
  refine held_bind arg2 arg3 arg4 arg5 arg6 arg7 arg8 arg9 arg10 arg11 arg12 arg13 arg14 arg15 arg16 c X2 X3 X4 X5 X6 X7 X8 E (part98 i arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 X4 X5 X6 X7 X8  E) ?_; rintro ⟨v20, v24, v27, v29⟩
  refine held_bind arg2 arg3 arg4 arg5 arg6 arg7 arg8 arg9 arg10 arg11 arg12 arg13 arg14 arg15 arg16 c X2 X3 X4 X5 X6 X7 X8 E (part99 i arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 X4 X5 X6 X7 X8 v27 v29 E) fun _ => ?_
  refine held_bind arg2 arg3 arg4 arg5 arg6 arg7 arg8 arg9 arg10 arg11 arg12 arg13 arg14 arg15 arg16 c X2 X3 X4 X5 X6 X7 X8 E (part100 i arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 X4 X5 X6 X7 X8 v27 v29 E) ?_; rintro ⟨v80, v82, v97⟩
  refine held_bind arg2 arg3 arg4 arg5 arg6 arg7 arg8 arg9 arg10 arg11 arg12 arg13 arg14 arg15 arg16 c X2 X3 X4 X5 X6 X7 X8 E (part101 i arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 X4 X5 X6 X7 X8 v80 v82 v97 E) fun v127 => ?_
  refine held_bind arg2 arg3 arg4 arg5 arg6 arg7 arg8 arg9 arg10 arg11 arg12 arg13 arg14 arg15 arg16 c X2 X3 X4 X5 X6 X7 X8 E (part102 i arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 X4 X5 X6 X7 X8 v20 v24 v127 E) ?_; rintro ⟨v140, v153, c0_i32_99, v158⟩
  refine held_bind arg2 arg3 arg4 arg5 arg6 arg7 arg8 arg9 arg10 arg11 arg12 arg13 arg14 arg15 arg16 c X2 X3 X4 X5 X6 X7 X8 E (part103 i arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 X4 X5 X6 X7 X8 v140 v153 c0_i32_99 v158 E) ?_; rintro ⟨v165, v169, v173, v177, v181, v185, v187, v188, cst_125⟩
  unfold Held
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  sl_exec
  sl_step
  isplitl [H2]; iexact H2; isplitl [H3]; iexact H3; isplitl [H4]; iexact H4; isplitl [H5]; iexact H5; isplitl [H6]; iexact H6; isplitl [H7]; iexact H7; isplitl [H8]; iexact H8; isplitl [H9]; iexists _; iexact H9; isplitl [H10]; iexists _; iexact H10; isplitl [H11]; iexists _; iexact H11; isplitl [H12]; iexists _; iexact H12; isplitl [H13]; iexists _; iexact H13; isplitl [H14]; iexists _; iexact H14; isplitl [H15]; iexists _; iexact H15; iexists _; iexact H16

/-- The same with a continuation. -/
theorem body_run (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (E : Set ℕ) (K : PUnit → sProp 𝕄) :
    iprop(Held (F := F) arg2 arg3 arg4 arg5 arg6 arg7 arg8 arg9 arg10 arg11 arg12 arg13 arg14 arg15 arg16 c X2 X3 X4 X5 X6 X7 X8 ∗ (∀ a : PUnit, Held (F := F) arg2 arg3 arg4 arg5 arg6 arg7 arg8 arg9 arg10 arg11 arg12 arg13 arg14 arg15 arg16 c X2 X3 X4 X5 X6 X7 X8 -∗ K a)) ⊢ wp frame (wpE (defs₀ (F := F)) Variants.none (c : Thread nD τ) none) E (cc0_dsa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K :=
  (BI.sep_mono (body i arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 X4 X5 X6 X7 X8 E) (BI.Entails.refl _)).trans (wp_wand_r _ _ _)

end Cert.Proof.Dsa

end
-- ==== Proof.DsaFrame.lean ====
/- The frame of the top-k call: it runs, leaves its arguments as they were, and every counter at zero. -/
module

public import proofs.«01_k».proof.Proof.DsaBody
public import Idealize.ShloMosaic.Lib.Claim

@[expose] public section

set_option warn.classDefReducibility false
set_option maxRecDepth 65536

noncomputable section

namespace Cert.Proof.Dsa

open Cert.Dsa Cert.Dsa.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (i : grid0.Coords)
  (arg2 : Memref sig .tc .vmem S512x256 .bf16) (harg2 : arg2.IsWhole)
  (arg3 : Memref sig .tc .vmem S128x256 .f32) (harg3 : arg3.IsWhole)
  (arg4 : Memref sig .tc .vmem S512x256 .bf16) (harg4 : arg4.IsWhole)
  (arg5 : Memref sig .tc .vmem S4096x128 .bf16) (harg5 : arg5.IsWhole)
  (arg6 : Memref sig .tc .vmem S4096x128 .bf16) (harg6 : arg6.IsWhole)
  (arg7 : Memref sig .tc .vmem S144x4096 .bf16) (harg7 : arg7.IsWhole)
  (arg8 : Memref sig .tc .vmem S8x64x128 .bf16) (harg8 : arg8.IsWhole)
  (arg9 : Memref sig .tc .vmem S1x256x512 .bf16) (harg9 : arg9.IsWhole)
  (arg10 : Memref sig .tc .vmem S4096x256 .i32) (harg10 : arg10.IsWhole)
  (arg11 : Memref sig .tc .vmem S128x2048 .bf16) (harg11 : arg11.IsWhole)
  (arg12 : Memref sig .tc .vmem S128x2048 .bf16) (harg12 : arg12.IsWhole)
  (arg13 : Memref sig .tc .vmem S144x2048 .f32) (harg13 : arg13.IsWhole)
  (arg14 : Memref sig .tc .vmem S4096x256 .bf16) (harg14 : arg14.IsWhole)
  (arg15 : Memref sig .tc .vmem S8x256 .i32) (harg15 : arg15.IsWhole)
  (arg16 : Memref sig .tc .vmem S8x256 .f32) (harg16 : arg16.IsWhole)

set_option maxHeartbeats 1000000 in
/-- The body on whole staging buffers: the inputs' at their contents, the output's and the scratch at anything; the
    inputs are handed back as they were, the rest at some contents. -/
theorem kernel_run (c : Dev nD) (x0 : Vec F S512x256 .bf16) (x1 : Vec F S128x256 .f32) (x2 : Vec F S512x256 .bf16) (x3 : Vec F S4096x128 .bf16) (x4 : Vec F S4096x128 .bf16) (x5 : Vec F S144x4096 .bf16) (x6 : Vec F S8x64x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none (c : Thread nD τ) none) E (cc0_dsa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  refine (?_ : (_ : sProp 𝕄) ⊢ _).trans (body_run i arg2 harg2 arg3 harg3 arg4 harg4 arg5 harg5 arg6 harg6 arg7 harg7 arg8 harg8 arg9 harg9 arg10 harg10 arg11 harg11 arg12 harg12 arg13 harg13 arg14 harg14 arg15 harg15 arg16 harg16 c (harg2.unread x0) (harg3.unread x1) (harg4.unread x2) (harg5.unread x3) (harg6.unread x4) (harg7.unread x5) (harg8.unread x6) E K)
  unfold owns Held
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  isplitr [Hk]
  · isplitl [H2]; iexact H2; isplitl [H3]; iexact H3; isplitl [H4]; iexact H4; isplitl [H5]; iexact H5; isplitl [H6]; iexact H6; isplitl [H7]; iexact H7; isplitl [H8]; iexact H8; isplitl [H9]; iexists _; iexact H9; isplitl [H10]; iexists _; iexact H10; isplitl [H11]; iexists _; iexact H11; isplitl [H12]; iexists _; iexact H12; isplitl [H13]; iexists _; iexact H13; isplitl [H14]; iexists _; iexact H14; isplitl [H15]; iexists _; iexact H15; iexists _; iexact H16
  iintro %a ⟨H2, H3, H4, H5, H6, H7, H8, ⟨%f9, H9⟩, ⟨%f10, H10⟩, ⟨%f11, H11⟩, ⟨%f12, H12⟩, ⟨%f13, H13⟩, ⟨%f14, H14⟩, ⟨%f15, H15⟩, ⟨%f16, H16⟩⟩
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

variable (m : (ℓ : Loc nD τ sig) → Buf (Elt F) ℓ) (ρ : Dev nD → PrngReg)

/-- The staging buffer of window 0 at a point, and that it is whole. -/
abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
/-- The staging buffer of window 1 at a point, and that it is whole. -/
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
/-- The staging buffer of window 2 at a point, and that it is whole. -/
abbrev ms0_2 (t : Fin cfg0.N) : Memref sig .tc .vmem S512x256 .bf16 := win0_2.stage (cfg0.slots t 2)
abbrev hs0_2 (t : Fin cfg0.N) : (ms0_2 t).IsWhole := hstage0_2 ((cfg0.slots t 2).cast nbuf0_2)
/-- The staging buffer of window 3 at a point, and that it is whole. -/
abbrev ms0_3 (t : Fin cfg0.N) : Memref sig .tc .vmem S4096x128 .bf16 := win0_3.stage (cfg0.slots t 3)
abbrev hs0_3 (t : Fin cfg0.N) : (ms0_3 t).IsWhole := hstage0_3 ((cfg0.slots t 3).cast nbuf0_3)
/-- The staging buffer of window 4 at a point, and that it is whole. -/
abbrev ms0_4 (t : Fin cfg0.N) : Memref sig .tc .vmem S4096x128 .bf16 := win0_4.stage (cfg0.slots t 4)
abbrev hs0_4 (t : Fin cfg0.N) : (ms0_4 t).IsWhole := hstage0_4 ((cfg0.slots t 4).cast nbuf0_4)
/-- The staging buffer of window 5 at a point, and that it is whole. -/
abbrev ms0_5 (t : Fin cfg0.N) : Memref sig .tc .vmem S144x4096 .bf16 := win0_5.stage (cfg0.slots t 5)
abbrev hs0_5 (t : Fin cfg0.N) : (ms0_5 t).IsWhole := hstage0_5 ((cfg0.slots t 5).cast nbuf0_5)
/-- The staging buffer of window 6 at a point, and that it is whole. -/
abbrev ms0_6 (t : Fin cfg0.N) : Memref sig .tc .vmem S8x64x128 .bf16 := win0_6.stage (cfg0.slots t 6)
abbrev hs0_6 (t : Fin cfg0.N) : (ms0_6 t).IsWhole := hstage0_6 ((cfg0.slots t 6).cast nbuf0_6)
/-- The staging buffer of window 7 at a point, and that it is whole. -/
abbrev ms0_7 (t : Fin cfg0.N) : Memref sig .tc .vmem S1x256x512 .bf16 := win0_7.stage (cfg0.slots t 7)
abbrev hs0_7 (t : Fin cfg0.N) : (ms0_7 t).IsWhole := hstage0_7 ((cfg0.slots t 7).cast nbuf0_7)
/-- The scratch operands. -/
abbrev scM0_0 : Memref sig .tc .vmem S4096x256 .i32 := Memref.whole cc0_scratch0
abbrev scM0_1 : Memref sig .tc .vmem S128x2048 .bf16 := Memref.whole cc0_scratch1
abbrev scM0_2 : Memref sig .tc .vmem S128x2048 .bf16 := Memref.whole cc0_scratch2
abbrev scM0_3 : Memref sig .tc .vmem S144x2048 .f32 := Memref.whole cc0_scratch3
abbrev scM0_4 : Memref sig .tc .vmem S4096x256 .bf16 := Memref.whole cc0_scratch4
abbrev scM0_5 : Memref sig .tc .vmem S8x256 .i32 := Memref.whole cc0_scratch5
abbrev scM0_6 : Memref sig .tc .vmem S8x256 .f32 := Memref.whole cc0_scratch6

/-- What the launch hands the body besides the windows: the scratch at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The output window, of whose contents nothing is said. -/
def forgets0 : Fin 8 → Bool := fun w => w.val == 7

/-- The data of the pipeline: the arrays as the region finds them; each input's buffer keeps its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (kernel_run (grid0.coords t) _ _ _ _ _ _ _ _ _ _ _ _ _ _ _ _ _ _ _ _ _ _ _ _ _ _ _ _ _ _ c (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, HS0, HS1, HS2, HS3, HS4, HS5, HS6⟩
  isplitl [HS0 HS1 HS2 HS3 HS4 HS5 HS6 Hg]
  · isplitl [HS0 HS1 HS2 HS3 HS4 HS5 HS6]
    · skip
      isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- the launch theorem's implicit arguments are found by unifying its conclusion with this one
set_option backward.isDefEq.respectTransparency.types false in
/-- The launch: every execution ends, the inputs' arrays and the unstaged buffers as they were, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An input's array after the run. -/
theorem final_in (c : Dev nD) (w : Fin cfg0.W) (hw : (cfg0.win w).isOut = false) (X)
    (h : ((dats m 0 c).toRForget forgets0).ArrAt w cfg0.N X) : X = V m c (Pipeline.arrRef spec0 w) := by
  rw [Pipeline.RDat.ArrAt_in _ w hw] at h
  exact h.trans (A_eq m c w)

/-- The frame: every execution ends, the argument arrays as they were, every counter at zero. -/
theorem frame_dsa : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨
      (final_in m c 0 rfl _ ((h.1 c).1 0)).trans (V_main_arg0 m c),
      (final_in m c 1 rfl _ ((h.1 c).1 1)).trans (V_main_arg1 m c),
      (final_in m c 2 rfl _ ((h.1 c).1 2)).trans (V_main_arg2 m c),
      (final_in m c 3 rfl _ ((h.1 c).1 3)).trans (V_main_arg3 m c),
      (final_in m c 4 rfl _ ((h.1 c).1 4)).trans (V_main_arg4 m c),
      (final_in m c 5 rfl _ ((h.1 c).1 5)).trans (V_main_arg5 m c),
      ((h.1 c).2 main_arg6 (Pipeline.mem_restRefs_of main_arg6 (by decide) (by decide))).trans (V_main_arg6 m c)⟩, h.2⟩)
    (run_main_quiescent m ρ)

end Cert.Proof.Dsa

end
-- ==== Proof.FfnRun.lean ====
/-
  The feed-forward call: what its output block and its scratch hold after each grid point, as terms over the blocks the
  point reads. A run of 11 points works on one block of 2048 rows; its first point normalises the rows into the scratch
  and starts the output block at the rows themselves, every point then adds its 256 columns' part.
-/
module

public import proofs.«01_k».proof.Proof.Gen.FfnIdeal.Value
public import Idealize.ShloMosaic.Lib.Pointwise
public import Idealize.ShloMosaic.Lib.Pipeline.ValueKit
public import Idealize.ShloMosaic.Lib.StableHlo.Run
public import Idealize.ShloMosaic.Lib.StableHlo.RunRead
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen

variable {F : FTy → Type} [FloatOps F]
variable (m : (ℓ : Loc nD τ sig) → Buf (Elt F) ℓ)

theorem hz : (![0, 0] : Fin 2 → Nat) = fun _ => 0 := funext fun a => by fin_cases a <;> rfl

section Cases

variable (c : Dev nD) (i : grid0.Coords) (arg2 : Memref sig .tc .vmem S2048x1024 .f32) (harg2 : arg2.IsWhole)
  (arg3 : Memref sig .tc .vmem S1x1024 .f32) (harg3 : arg3.IsWhole) (arg4 : Memref sig .tc .vmem S1024x256 .bf16)
  (harg4 : arg4.IsWhole) (arg5 : Memref sig .tc .vmem S1024x256 .bf16) (harg5 : arg5.IsWhole)
  (arg6 : Memref sig .tc .vmem S256x1024 .bf16) (harg6 : arg6.IsWhole)
  (arg7 : Memref sig .tc .vmem S2048x1024 .f32) (harg7 : arg7.IsWhole)
  (arg8 : Memref sig .tc .vmem S2048x1024 .bf16) (harg8 : arg8.IsWhole)
  (x0 : Vec F S2048x1024 .f32) (x1 : Vec F S1x1024 .f32) (x2 : Vec F S1024x256 .bf16) (x3 : Vec F S1024x256 .bf16)
  (x4 : Vec F S256x1024 .bf16)

/-- A point that is not the first of its run adds its part to what the output block held. -/
theorem out_B (hc0 : ¬cond0_0 i) (xo : Vec F S2048x1024 .f32) (xs : Vec F S2048x1024 .bf16) :
    out0_B_5 c i arg2 harg2 arg3 harg3 arg4 harg4 arg5 harg5 arg6 harg6 arg7 harg7 arg8 harg8 hc0 x0 x1 x2 x3 x4 xo xs
      = k0_pay3 xs x2 x3 xo x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 xo xs)]
  unfold kernelRun0_B
  dsimp only
  rw [View.canon_unit_zero hz]
  simp only [View.readAt_eq_ld, harg2.read_unread, harg3.read_unread, harg4.read_unread, harg5.read_unread,
    harg6.read_unread, harg7.read_unread, harg8.read_unread, View.ld_unit_zero (S := S2048x1024) hz,
    View.ld_unit_zero (S := S1x1024) hz, View.ld_unit_zero (S := S1024x256) hz, View.ld_unit_zero (S := S256x1024) hz]

/-- The first point of a run leaves its rows and its own part in the output block. -/
theorem out_A (hc0 : cond0_0 i) :
    out0_A_5 c i arg2 harg2 arg3 harg3 arg4 harg4 arg5 harg5 arg6 harg6 arg7 harg7 arg8 harg8 hc0 x0 x1 x2 x3 x4
      = k0_pay3 (k0_pay2 x0 x1) x2 x3 (k0_pay1 x0) x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S2048x1024) hz, View.readCov_unit_zero (S := S2048x1024) _ hz,
    View.readCov_unit_zero (S := S2048x1024) _ hz]
  simp only [View.readAt_eq_ld, harg2.read_unread, harg3.read_unread,
    harg4.read_unread, harg5.read_unread,
    harg6.read_unread, harg7.read_unread, harg8.read_unread, View.ld_unit_zero (S := S2048x1024) hz,
    View.ld_unit_zero (S := S1x1024) hz, View.ld_unit_zero (S := S1024x256) hz, View.ld_unit_zero (S := S256x1024) hz]

/-- The first point of a run leaves the normalised rows in the scratch. -/
theorem sout_A (hc0 : cond0_0 i) :
    sout0_A_0 c i arg2 harg2 arg3 harg3 arg4 harg4 arg5 harg5 arg6 harg6 arg7 harg7 arg8 harg8 hc0 x0 x1 x2 x3 x4
      = k0_pay2 x0 x1 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_words
  rw [View.canon_unit_zero (S := S2048x1024) hz]
  simp only [View.readAt_eq_ld, harg2.read_unread, harg3.read_unread, View.ld_unit_zero (S := S2048x1024) hz,
    View.ld_unit_zero (S := S1x1024) hz]

end Cases

/-- At the first point of a run. -/
theorem outs_first (c : Dev nD) (t : Fin cfg0.N) (h0 : t.val % 11 = 0) :
    outsAt0 m c t.val t.isLt
      = (k0_pay3 (k0_pay2 (iblk m c 0 t) (iblk m c 1 t)) (iblk m c 2 t) (iblk m c 3 t) (k0_pay1 (iblk m c 0 t)) (iblk m c 4 t),
         k0_pay2 (iblk m c 0 t) (iblk m c 1 t)) := by
  rw [outsAt0_A m c t h0, out_A, sout_A]

/-- At a later point of a run, over what the point before left. -/
theorem outs_next (c : Dev nD) (t : Fin cfg0.N) (h0 : ¬t.val % 11 = 0) (h : t.val - 1 < cfg0.N) :
    outsAt0 m c t.val t.isLt
      = (k0_pay3 (outsAt0 m c (t.val - 1) h).2 (iblk m c 2 t) (iblk m c 3 t) (outsAt0 m c (t.val - 1) h).1 (iblk m c 4 t),
         (outsAt0 m c (t.val - 1) h).2) := by
  rw [outsAt0_B m c t h0, out_B]
  rfl

end Cert.FfnIdeal.Hand
-- ==== Proof.FfnBlocks.lean ====
/-
  The feed-forward call: the arrays the host prepares for it, and what each block of them holds at an index.
-/
module

public import proofs.«01_k».proof.Proof.FfnRun

@[expose] public section

set_option maxRecDepth 16384

noncomputable section

open Idealize.ShloMosaic Idealize.ShloMosaic.TcCoe Idealize.SL.Sem

namespace Cert.FfnIdeal.Hand

open Cert.FfnIdeal Cert.FfnIdeal.Gen

variable {F : FTy → Type} [FloatOps F]
variable (m : (ℓ : Loc nD τ sig) → Buf (Elt F) ℓ)

/-- The rows, as one table. -/
abbrev xT (c : Dev nD) : Vec F S32768x1024 .f32 :=
  shapeCast S32768x1024 (m ((c : Thread nD τ).loc main_arg0) : Vec F S8x4096x1024 .f32) shapeCasts_S8x4096x1024_S32768x1024
abbrev gT (c : Dev nD) : Vec F S1024 .f32 :=
  shapeCast S1024 (m ((c : Thread nD τ).loc main_arg1) : Vec F S1x1024 .f32) shapeCasts_S1x1024_S1024
abbrev wgT (c : Dev nD) : Vec F S1024x2816 .f32 :=
  shapeCast S1024x2816 (m ((c : Thread nD τ).loc main_arg2) : Vec F S1x1024x2816 .f32) shapeCasts_S1x1024x2816_S1024x2816
abbrev wuT (c : Dev nD) : Vec F S1024x2816 .f32 :=
  shapeCast S1024x2816 (m ((c : Thread nD τ).loc main_arg3) : Vec F S1x1024x2816 .f32) shapeCasts_S1x1024x2816_S1024x2816
abbrev wdT (c : Dev nD) : Vec F S2816x1024 .f32 :=
  shapeCast S2816x1024 (m ((c : Thread nD τ).loc main_arg4) : Vec F S1x2816x1024 .f32) shapeCasts_S1x2816x1024_S2816x1024

theorem V_v0 (c : Dev nD) : V m c main_v0 = xT m c := by
  unfold V
  after_reads_simp
  rfl

theorem V_v10 (c : Dev nD) : V m c main_v10 = shapeCast S1x1024 (gT m c) shapeCasts_S1024_S1x1024 := by
  unfold V
  after_reads_simp
  rfl

theorem V_v3 (c : Dev nD) : V m c main_v3 = (truncf .bf16 (wgT m c) bitsLt_bf16_f32 : Vec F S1024x2816 .bf16) := by
  unfold V
  after_reads_simp
  rfl

theorem V_v5 (c : Dev nD) : V m c main_v5 = (truncf .bf16 (wuT m c) bitsLt_bf16_f32 : Vec F S1024x2816 .bf16) := by
  unfold V
  after_reads_simp
  rfl

theorem V_v9 (c : Dev nD) : V m c main_v9
    = (truncf .bf16 (mulf (broadcastInDim S2816x1024 ![] bcast_S_S2816x1024 (constant S_ .f32 0x3F000000#32)) (wdT m c)) bitsLt_bf16_f32 : Vec F S2816x1024 .bf16) := by
  unfold V
  after_reads_simp
  rfl

/-! ## Where each window's block stands at each grid point -/

theorem pos0 : ∀ t : Fin grid0.N, win0_0.index t (0 : Fin 2) = t.val / 11 ∧ win0_0.index t (1 : Fin 2) = 0 := by decide +kernel
theorem pos1 : ∀ t : Fin grid0.N, win0_1.index t (0 : Fin 2) = 0 ∧ win0_1.index t (1 : Fin 2) = 0 := by decide +kernel
theorem pos2 : ∀ t : Fin grid0.N, win0_2.index t (0 : Fin 2) = 0 ∧ win0_2.index t (1 : Fin 2) = t.val % 11 := by decide +kernel
theorem pos3 : ∀ t : Fin grid0.N, win0_3.index t (0 : Fin 2) = 0 ∧ win0_3.index t (1 : Fin 2) = t.val % 11 := by decide +kernel
theorem pos4 : ∀ t : Fin grid0.N, win0_4.index t (0 : Fin 2) = t.val % 11 ∧ win0_4.index t (1 : Fin 2) = 0 := by decide +kernel

theorem lt_rows (t : Fin cfg0.N) (a : Fin 2048) : t.val / 11 * 2048 + a.val < 32768 := by
  have := t.isLt; have h : cfg0.N = 176 := N_0; omega
theorem lt_cols (t : Fin cfg0.N) (a : Fin 256) : t.val % 11 * 256 + a.val < 2816 := by omega

theorem blk0 (c : Dev nD) (t : Fin cfg0.N) (a : Fin 2048) (b : Fin 1024) :
    (iblk m c 0 t : Vec F S2048x1024 .f32) (ix2 a b) = xT m c (ix2 ⟨t.val / 11 * 2048 + a.val, lt_rows t a⟩ b) := by
  have h := pos0 t
  unfold iblk
  rw [View.read_apply]
  show V m c main_v0 _ = _
  rw [V_v0]
  refine congrArg (xT m c) (funext fun d => Fin.ext ?_)
  match d with
  | ⟨0, _⟩ => show win0_0.index t (0 : Fin 2) * 2048 + 1 * a.val = t.val / 11 * 2048 + a.val; omega
  | ⟨1, _⟩ => show win0_0.index t (1 : Fin 2) * 1024 + 1 * b.val = b.val; omega

theorem blk1 (c : Dev nD) (t : Fin cfg0.N) (a : Fin 1) (b : Fin 1024) :
    (iblk m c 1 t : Vec F S1x1024 .f32) (ix2 a b) = shapeCast S1x1024 (gT m c) shapeCasts_S1024_S1x1024 (ix2 a b) := by
  have h := pos1 t
  unfold iblk
  rw [View.read_apply]
  show V m c main_v10 _ = _
  rw [V_v10]
  refine congrArg (shapeCast S1x1024 (gT m c) shapeCasts_S1024_S1x1024) (funext fun d => Fin.ext ?_)
  match d with
  | ⟨0, _⟩ => show win0_1.index t (0 : Fin 2) * 1 + 1 * a.val = a.val; omega
  | ⟨1, _⟩ => show win0_1.index t (1 : Fin 2) * 1024 + 1 * b.val = b.val; omega

theorem blk2 (c : Dev nD) (t : Fin cfg0.N) (a : Fin 1024) (b : Fin 256) :
    (iblk m c 2 t : Vec F S1024x256 .bf16) (ix2 a b)
      = (truncf .bf16 (wgT m c) bitsLt_bf16_f32 : Vec F S1024x2816 .bf16) (ix2 a ⟨t.val % 11 * 256 + b.val, lt_cols t b⟩) := by
  have h := pos2 t
  unfold iblk
  rw [View.read_apply]
  show V m c main_v3 _ = _
  rw [V_v3]
  refine congrArg (truncf .bf16 (wgT m c) bitsLt_bf16_f32 : Vec F S1024x2816 .bf16) (funext fun d => Fin.ext ?_)
  match d with
  | ⟨0, _⟩ => show win0_2.index t (0 : Fin 2) * 1024 + 1 * a.val = a.val; omega
  | ⟨1, _⟩ => show win0_2.index t (1 : Fin 2) * 256 + 1 * b.val = t.val % 11 * 256 + b.val; omega

theorem blk3 (c : Dev nD) (t : Fin cfg0.N) (a : Fin 1024) (b : Fin 256) :
    (iblk m c 3 t : Vec F S1024x256 .bf16) (ix2 a b)
      = (truncf .bf16 (wuT m c) bitsLt_bf16_f32 : Vec F S1024x2816 .bf16) (ix2 a ⟨t.val % 11 * 256 + b.val, lt_cols t b⟩) := by
  have h := pos3 t
  unfold iblk
  rw [View.read_apply]
  show V m c main_v5 _ = _
  rw [V_v5]
  refine congrArg (truncf .bf16 (wuT m c) bitsLt_bf16_f32 : Vec F S1024x2816 .bf16) (funext fun d => Fin.ext ?_)
  match d with
  | ⟨0, _⟩ => show win0_3.index t (0 : Fin 2) * 1024 + 1 * a.val = a.val; omega
  | ⟨1, _⟩ => show win0_3.index t (1 : Fin 2) * 256 + 1 * b.val = t.val % 11 * 256 + b.val; omega

theorem blk4 (c : Dev nD) (t : Fin cfg0.N) (a : Fin 256) (b : Fin 1024) :
    (iblk m c 4 t : Vec F S256x1024 .bf16) (ix2 a b)
      = (truncf .bf16 (mulf (broadcastInDim S2816x1024 ![] bcast_S_S2816x1024 (constant S_ .f32 0x3F000000#32)) (wdT m c)) bitsLt_bf16_f32 : Vec F S2816x1024 .bf16)
          (ix2 ⟨t.val % 11 * 256 + a.val, lt_cols t a⟩ b) := by
  have h := pos4 t
  unfold iblk
  rw [View.read_apply]
  show V m c main_v9 _ = _
  rw [V_v9]
  refine congrArg (truncf .bf16 (mulf (broadcastInDim S2816x1024 ![] bcast_S_S2816x1024 (constant S_ .f32 0x3F000000#32)) (wdT m c)) bitsLt_bf16_f32 : Vec F S2816x1024 .bf16) (funext fun d => Fin.ext ?_)
  match d with
  | ⟨0, _⟩ => show win0_4.index t (0 : Fin 2) * 256 + 1 * a.val = t.val % 11 * 256 + a.val; omega
  | ⟨1, _⟩ => show win0_4.index t (1 : Fin 2) * 1024 + 1 * b.val = b.val; omega

end Cert.FfnIdeal.Hand
-- ==== Proof.FfnAlg.lean ====
/-
  The feed-forward call at the extended reals: an element of its result is the row's element plus the sum, over the 11
  points of a run and the 256 columns of each, of the gated product times half the down weight; the reference adds half
  of one sum over all 2816 columns. The two are one value: a finite nonnegative factor goes through a sum.
-/
module

public import proofs.«01_k».proof.Defs
public import proofs.«01_k».proof.Proof.FfnBlocks
public import proofs.«01_k».proof.Proof.Gen.FfnRefIdeal.Run
public import Idealize.ShloMosaic.Lib.Claim

@[expose] public section

set_option maxRecDepth 16384

noncomputable section

open Idealize.ShloMosaic Idealize.ShloMosaic.TcCoe Idealize.SL.Sem

/-! ## The mathematics of one element -/

namespace Cert.FfnMath

/-- A row over the root of its mean square, times the gains. -/
def nrm (x g : Fin 1024 → EReal) (k : Fin 1024) : EReal :=
  x k * Ideal.rsqrt (Ideal.div (∑ i, x i * x i) (Ideal.ofBits FTy.f32 1149239296#32) + Ideal.ofBits FTy.f32 897988541#32) * g k

/-- One hidden column: the gate through its sigmoid, times the other branch. -/
def act (h a b : Fin 1024 → EReal) : EReal :=
  (∑ i, h i * a i) * Ideal.div 1 (1 + Ideal.exp (-∑ i, h i * a i)) * ∑ i, h i * b i

/-- A finite nonnegative factor goes into a sum. -/
theorem mul_sum_of_nonneg {ι : Type} (s : Finset ι) (f : ι → EReal) {a : EReal} (h0 : 0 ≤ a) (ht : a ≠ ⊤) :
    a * ∑ i ∈ s, f i = ∑ i ∈ s, a * f i := by
  classical
  induction s using Finset.induction_on with
  | empty => simp
  | insert i s hi ih =>
    rw [Finset.sum_insert hi, Finset.sum_insert hi, EReal.left_distrib_of_nonneg_of_ne_top h0 ht, ih]

theorem half_eq : Ideal.ofBits FTy.f32 1056964608#32 = ((1 / 2 : ℝ) : EReal) := by
  simp [Ideal.ofBits, Ideal.ieee]
  rw [← EReal.coe_mul]
  norm_num

theorem half_nonneg : (0 : EReal) ≤ Ideal.ofBits FTy.f32 1056964608#32 := by
  rw [half_eq]; exact_mod_cast (by norm_num : (0 : ℝ) ≤ 1 / 2)

theorem half_ne_top : Ideal.ofBits FTy.f32 1056964608#32 ≠ ⊤ := by
  rw [half_eq]; exact EReal.coe_ne_top _

end Cert.FfnMath

/-! ## The reference -/

namespace Cert.FfnRefIdeal.Hand

open Cert.FfnRefIdeal Cert.FfnRefIdeal.Gen Cert.FfnMath

section Any
variable {F : FTy → Type} [FloatOps F]

/-- The reference's normalised rows. -/
def refH (x : Vec F S32768x1024 .f32) (g : Vec F S1024 .f32) : Vec F S32768x1024 .f32 :=
  mulf
    (mulf x
      (broadcastInDim S32768x1024 ![0, 1] bcast_S32768x1_S32768x1024_0_1
        (Host.rsqrt
          (addf
            (Host.divf
              (broadcastInDim S32768x1 ![0] bcast_S32768_S32768x1_0
                (Host.reduceAdd (mulf x x) (constant S_ FTy.f32 0#32) reducesTo_S32768x1024_S32768_d1 h_S_))
              (broadcastInDim S32768x1 ![] bcast_S_S32768x1 (constant S_ FTy.f32 1149239296#32)))
            (broadcastInDim S32768x1 ![] bcast_S_S32768x1 (constant S_ FTy.f32 897988541#32))))))
    (broadcastInDim S32768x1024 ![0, 1] bcast_S1x1024_S32768x1024_0_1
      (broadcastInDim S1x1024 ![1] bcast_S1024_S1x1024_1 g))

/-- The reference's products of the two branches, from their dot products. -/
def refAct (a b : Vec F S32768x2816 .f32) : Vec F S32768x2816 .f32 :=
  mulf
    (mulf a
      (Host.divf (broadcastInDim S32768x2816 ![] bcast_S_S32768x2816 (constant S_ FTy.f32 1065353216#32))
        (addf (broadcastInDim S32768x2816 ![] bcast_S_S32768x2816 (constant S_ FTy.f32 1065353216#32))
          (Host.exp (Host.negf a)))))
    b

/-- The rows against a weight matrix. -/
abbrev dg (h : Vec F S32768x1024 .f32) (w : Vec F S1024x2816 .f32) : Vec F S32768x2816 .f32 :=
  Host.dotGeneral (φ₁ := .f32) (φ₂ := .f32) dot_S32768x1024_S1024x2816_S32768x2816_1_0_0_1_n_n none h w

/-- The reference's result. -/
def refOut (x : Vec F S32768x1024 .f32) (g : Vec F S1024 .f32) (wg wu : Vec F S1024x2816 .f32)
    (wd : Vec F S2816x1024 .f32) : Vec F S32768x1024 .f32 :=
  addf x
    (mulf (broadcastInDim S32768x1024 ![] bcast_S_S32768x1024 (constant S_ FTy.f32 0x3F000000#32))
      (Host.dotGeneral dot_S32768x2816_S2816x1024_S32768x1024_1_0_0_1_n_n none
        (refAct (dg (refH x g) wg) (dg (refH x g) wu))
        wd))
end Any

theorem refH_at (x : Vec Ideal S32768x1024 .f32) (g : Vec Ideal S1024 .f32) (r : Fin 32768) (k : Fin 1024) :
    refH x g (ix2 r k) = nrm (fun k => x (ix2 r k)) (fun k => g (ix1 k)) k := by
  pointwise [refH]
  rfl

theorem refAct_at (h : Vec Ideal S32768x1024 .f32) (wg wu : Vec Ideal S1024x2816 .f32) (r : Fin 32768) (l : Fin 2816) :
    refAct (dg h wg) (dg h wu) (ix2 r l)
      = act (fun k => h (ix2 r k)) (fun k => wg (ix2 k l)) (fun k => wu (ix2 k l)) := by
  pointwise [refAct, dg]
  rfl

theorem refOut_at (x : Vec Ideal S32768x1024 .f32) (g : Vec Ideal S1024 .f32) (wg wu : Vec Ideal S1024x2816 .f32)
    (wd : Vec Ideal S2816x1024 .f32) (r : Fin 32768) (k : Fin 1024) :
    refOut x g wg wu wd (ix2 r k)
      = x (ix2 r k) + Ideal.ofBits FTy.f32 1056964608#32 *
          ∑ l, act (nrm (fun k => x (ix2 r k)) (fun k => g (ix1 k))) (fun k => wg (ix2 k l)) (fun k => wu (ix2 k l)) * wd (ix2 l k) := by
  have hh : (fun k => refH x g (ix2 r k)) = nrm (fun k => x (ix2 r k)) (fun k => g (ix1 k)) := funext fun k => refH_at x g r k
  rw [← hh]
  simp only [← refAct_at]
  unfold refOut
  generalize refAct (dg (refH x g) wg) (dg (refH x g) wu) = z
  pointwise

end Cert.FfnRefIdeal.Hand

/-! ## The kernel -/

namespace Cert.FfnIdeal.Hand

open Cert.FfnIdeal Cert.FfnIdeal.Gen Cert.FfnMath

theorem pay1_at (x : Vec Ideal S2048x1024 .f32) (r : Fin 2048) (k : Fin 1024) : k0_pay1 x (ix2 r k) = x (ix2 r k) := by
  pointwise [k0_pay1]

theorem pay2_at (x : Vec Ideal S2048x1024 .f32) (g : Vec Ideal S1x1024 .f32) (r : Fin 2048) (k : Fin 1024) :
    k0_pay2 x g (ix2 r k) = nrm (fun k => x (ix2 r k)) (fun k => g (ix2 0 k)) k := by
  pointwise [k0_pay2, k0_pay1]
  rfl

theorem pay3_at (h : Vec Ideal S2048x1024 .bf16) (wg wu : Vec Ideal S1024x256 .bf16) (o : Vec Ideal S2048x1024 .f32)
    (wd : Vec Ideal S256x1024 .bf16) (r : Fin 2048) (k : Fin 1024) :
    k0_pay3 h wg wu o wd (ix2 r k)
      = o (ix2 r k) + ∑ l : Fin 256, act (fun k => h (ix2 r k)) (fun k => wg (ix2 k l)) (fun k => wu (ix2 k l)) * wd (ix2 l k) := by
  pointwise [k0_pay3]
  simp only [zero_sub]
  rfl

variable (m : (ℓ : Loc nD τ sig) → Buf (Elt Ideal) ℓ)

/-- Row `r`, normalised. -/
def rowH (c : Dev nD) (r : Fin 32768) : Fin 1024 → EReal :=
  nrm (fun k => xT m c (ix2 r k)) (fun k => gT m c (ix1 k))

/-- What column `l` adds to element `(r, k)`. -/
def part (c : Dev nD) (r : Fin 32768) (k : Fin 1024) (l : Fin 2816) : EReal :=
  act (rowH m c r) (fun k => wgT m c (ix2 k l)) (fun k => wuT m c (ix2 k l))
    * (Ideal.ofBits FTy.f32 1056964608#32 * wdT m c (ix2 l k))

/-- The same over all numbers, nothing from 2816 on. -/
def partN (c : Dev nD) (r : Fin 32768) (k : Fin 1024) (l : ℕ) : EReal :=
  if h : l < 2816 then part m c r k ⟨l, h⟩ else 0

theorem g_at (c : Dev nD) (t : Fin cfg0.N) (b : Fin 1024) : (iblk m c 1 t : Vec Ideal S1x1024 .f32) (ix2 0 b) = gT m c (ix1 b) := by
  rw [blk1]
  pointwise

theorem h_first (c : Dev nD) (t : Fin cfg0.N) (r : Fin 2048) (k : Fin 1024) :
    k0_pay2 (iblk m c 0 t) (iblk m c 1 t) (ix2 r k) = rowH m c ⟨t.val / 11 * 2048 + r.val, lt_rows t r⟩ k := by
  rw [pay2_at]
  simp only [blk0, g_at]
  rfl

/-- A point's addend. -/
theorem add_at (c : Dev nD) (t : Fin cfg0.N) (h : Vec Ideal S2048x1024 .bf16) (o : Vec Ideal S2048x1024 .f32) (r : Fin 2048) (k : Fin 1024)
    (hh : ∀ k, h (ix2 r k) = rowH m c ⟨t.val / 11 * 2048 + r.val, lt_rows t r⟩ k) :
    k0_pay3 h (iblk m c 2 t) (iblk m c 3 t) o (iblk m c 4 t) (ix2 r k)
      = o (ix2 r k) + ∑ l : Fin 256, partN m c ⟨t.val / 11 * 2048 + r.val, lt_rows t r⟩ k (t.val % 11 * 256 + l.val) := by
  rw [pay3_at]
  refine congrArg (o (ix2 r k) + ·) (Finset.sum_congr rfl fun l _ => ?_)
  unfold partN
  rw [dif_pos (lt_cols t l)]
  have e4 : (iblk m c 4 t : Vec Ideal S256x1024 .bf16) (ix2 l k)
      = Ideal.ofBits FTy.f32 1056964608#32 * wdT m c (ix2 ⟨t.val % 11 * 256 + l.val, lt_cols t l⟩ k) := by
    rw [blk4]; rfl
  have eh : (fun k => h (ix2 r k)) = rowH m c ⟨t.val / 11 * 2048 + r.val, lt_rows t r⟩ := funext hh
  have eg : (fun k => (iblk m c 2 t : Vec Ideal S1024x256 .bf16) (ix2 k l))
      = fun k => wgT m c (ix2 k ⟨t.val % 11 * 256 + l.val, lt_cols t l⟩) := funext fun k => blk2 m c t k l
  have eu : (fun k => (iblk m c 3 t : Vec Ideal S1024x256 .bf16) (ix2 k l))
      = fun k => wuT m c (ix2 k ⟨t.val % 11 * 256 + l.val, lt_cols t l⟩) := funext fun k => blk3 m c t k l
  rw [e4, eh, eg, eu]
  rfl

/-- After each point of a run: the scratch holds the run's normalised rows, the output block the rows and the parts added so far. -/
theorem outs_at (c : Dev nD) : ∀ (n : ℕ) (hn : n < cfg0.N) (r : Fin 2048) (k : Fin 1024),
    (outsAt0 m c n hn).2 (ix2 r k) = rowH m c ⟨n / 11 * 2048 + r.val, lt_rows ⟨n, hn⟩ r⟩ k
    ∧ (outsAt0 m c n hn).1 (ix2 r k)
      = xT m c (ix2 ⟨n / 11 * 2048 + r.val, lt_rows ⟨n, hn⟩ r⟩ k)
        + ∑ s ∈ Finset.range (n % 11 + 1), ∑ l : Fin 256, partN m c ⟨n / 11 * 2048 + r.val, lt_rows ⟨n, hn⟩ r⟩ k (s * 256 + l.val) := by
  intro n
  induction n with
  | zero =>
    intro hn r k
    have e := outs_first m c ⟨0, hn⟩ rfl
    dsimp only at e
    rw [e]
    refine ⟨h_first m c ⟨0, hn⟩ r k, ?_⟩
    dsimp only
    rw [add_at m c ⟨0, hn⟩ _ _ r k (fun k => h_first m c ⟨0, hn⟩ r k), pay1_at, blk0]
    simp
  | succ n ih =>
    intro hn r k
    by_cases h0 : (n + 1) % 11 = 0
    · have e := outs_first m c ⟨n + 1, hn⟩ h0
      dsimp only at e
      rw [e]
      refine ⟨h_first m c ⟨n + 1, hn⟩ r k, ?_⟩
      dsimp only
      rw [add_at m c ⟨n + 1, hn⟩ _ _ r k (fun k => h_first m c ⟨n + 1, hn⟩ r k), pay1_at, blk0, h0]
      simp only [zero_add, Finset.range_one, Finset.sum_singleton, h0]
    · have hd : (n + 1) / 11 = n / 11 := by omega
      have hm : (n + 1) % 11 = n % 11 + 1 := by omega
      have hn' : n < cfg0.N := Nat.lt_of_succ_lt hn
      have e := outs_next m c ⟨n + 1, hn⟩ h0 hn'
      simp only [Nat.add_sub_cancel] at e
      have hR : (⟨(n + 1) / 11 * 2048 + r.val, lt_rows ⟨n + 1, hn⟩ r⟩ : Fin 32768) = ⟨n / 11 * 2048 + r.val, lt_rows ⟨n, hn'⟩ r⟩ :=
        Fin.ext (by show (n + 1) / 11 * 2048 + r.val = n / 11 * 2048 + r.val; rw [hd])
      rw [e]
      refine ⟨?_, ?_⟩
      · rw [hR]; exact (ih hn' r k).1
      · dsimp only
        rw [add_at m c ⟨n + 1, hn⟩ _ _ r k (fun k => by rw [(ih hn' r k).1]; exact congrArg (fun z => rowH m c z k) hR.symm), (ih hn' r k).2, hR,
          hm, Finset.sum_range_succ _ (n % 11 + 1), add_assoc]

/-- The whole run's parts are the sum over all columns. -/
theorem sum_parts (c : Dev nD) (r : Fin 32768) (k : Fin 1024) :
    ∑ s ∈ Finset.range 11, ∑ l : Fin 256, partN m c r k (s * 256 + l.val) = ∑ l : Fin 2816, part m c r k l := by
  rw [Finset.sum_range]
  refine Fin.sum_mul_add_congr (S := 11) (n := 256) (fun s l hl => ?_)
  unfold partN
  rw [dif_pos hl]

/-- The call's result array is the reference's. -/
theorem result_eq (c : Dev nD) :
    Value.G5 m c = Cert.FfnRefIdeal.Hand.refOut (F := Ideal) (xT m c) (gT m c) (wgT m c) (wuT m c) (wdT m c) := by
  refine funext fun (i : S32768x1024.Idx) => ?_
  obtain ⟨r, k, rfl⟩ : ∃ (r : Fin 32768) (k : Fin 1024), i = ix2 r k := ⟨i 0, i 1, eq_ix2 i⟩
  have hN : cfg0.N = 176 := N_0
  have hp : Value.pt5Of (ix2 r k) = 11 * (r.val / 2048) + 10 := by
    show 11 * (1 * (r.val / 2048 - 0) + 1 * (k.val / 1024 - 0)) + 10 = _
    omega
  have hlt : Value.pt5Of (ix2 r k) < cfg0.N := by omega
  have hl : Value.loc5Of (ix2 r k) = ix2 ⟨r.val % 2048, Nat.mod_lt _ (by decide)⟩ k := by
    funext a
    match a with
    | ⟨0, _⟩ => rfl
    | ⟨1, _⟩ => exact Fin.ext (Nat.mod_eq_of_lt k.isLt)
  have hR : (⟨Value.pt5Of (ix2 r k) / 11 * 2048 + r.val % 2048, lt_rows ⟨_, hlt⟩ ⟨r.val % 2048, Nat.mod_lt _ (by decide)⟩⟩ : Fin 32768) = r :=
    Fin.ext (by show Value.pt5Of (ix2 r k) / 11 * 2048 + r.val % 2048 = r.val; omega)
  unfold Value.G5
  rw [dif_pos hlt, ← Value.outsAt0_sweep m c _ hlt, hl, (outs_at m c _ hlt _ k).2, hR,
    show Value.pt5Of (ix2 r k) % 11 + 1 = 11 by omega, sum_parts, Cert.FfnRefIdeal.Hand.refOut_at]
  refine congrArg (xT m c (ix2 r k) + ·) ?_
  rw [mul_sum_of_nonneg _ _ half_nonneg half_ne_top]
  refine Finset.sum_congr rfl fun l _ => ?_
  unfold part
  exact mul_left_comm _ _ _

end Cert.FfnIdeal.Hand

/-! ## The claim -/

namespace Cert.FfnProof

open Cert.FfnIdeal.Hand Cert.FfnRefIdeal.Hand

theorem algebraic : Cert.algebraic_FfnIdeal_FfnRefIdeal (hFfnIdeal := Cert.FfnIdeal.Gen.facts) (hFfnRefIdeal := Cert.FfnRefIdeal.Gen.facts) :=
  fun m ρ m' ρ' _ hag => ⟨fun c => Cert.FfnIdeal.Value.G5 m c, Cert.FfnIdeal.Value.run m ρ,
    (θ_run _ _ _).mono (fun _ h c => by
      obtain ⟨a0, a1, a2, a3, a4⟩ := hag c
      refine ⟨(h c).1.trans ?_, (h c).2⟩
      rw [a0, a1, a2, a3, a4]
      exact Eq.trans (by unfold refOut refAct refH; simp only [dg]) (result_eq m c).symm) (Cert.FfnRefIdeal.Value.run m' ρ')⟩

end Cert.FfnProof
-- ==== Proof.MergeAlg.lean ====
/-
  The merging call: every grid point computes 1024 whole rows, so its result array is, element by element, the
  reference's: the row plus the gated sum of the two heads' projections times the output matrix.
-/
module

public import proofs.«01_k».proof.Defs
public import proofs.«01_k».proof.Proof.FfnAlg
public import proofs.«01_k».proof.Proof.Gen.MergeIdeal.Value
public import proofs.«01_k».proof.Proof.Gen.MergeRefIdeal.Run

@[expose] public section

set_option maxRecDepth 16384

noncomputable section

open Idealize.ShloMosaic Idealize.ShloMosaic.TcCoe Idealize.SL.Sem
open Cert.FfnMath (nrm)

namespace Cert.MergeMath

/-- The sigmoid of a dot product. -/
def gate (h w : Fin 1024 → EReal) : EReal := Ideal.div 1 (1 + Ideal.exp (-∑ i, h i * w i))

/-- One merged column: each head's projection through its gate. -/
def mrg (h wa wb : Fin 1024 → EReal) (ya oa yb ob : Fin 512 → EReal) : EReal :=
  gate h wa * (∑ i, ya i * oa i) + gate h wb * (∑ i, yb i * ob i)

end Cert.MergeMath

/-! ## The reference -/

namespace Cert.MergeRefIdeal.Hand

open Cert.MergeRefIdeal Cert.MergeRefIdeal.Gen Cert.MergeMath

section Any
variable {F : FTy → Type} [FloatOps F]

/-- The reference's normalised rows. -/
def refH (x : Vec F S32768x1024 .f32) (g : Vec F S1024 .f32) : Vec F S32768x1024 .f32 :=
  mulf
    (mulf x
      (broadcastInDim S32768x1024 ![0, 1] bcast_S32768x1_S32768x1024_0_1
        (Host.rsqrt
          (addf
            (Host.divf
              (broadcastInDim S32768x1 ![0] bcast_S32768_S32768x1_0
                (Host.reduceAdd (mulf x x) (constant S_ FTy.f32 0#32) reducesTo_S32768x1024_S32768_d1 h_S_))
              (broadcastInDim S32768x1 ![] bcast_S_S32768x1 (constant S_ FTy.f32 1149239296#32)))
            (broadcastInDim S32768x1 ![] bcast_S_S32768x1 (constant S_ FTy.f32 897988541#32))))))
    (broadcastInDim S32768x1024 ![0, 1] bcast_S1x1024_S32768x1024_0_1
      (broadcastInDim S1x1024 ![1] bcast_S1024_S1x1024_1 g))

/-- A head's gated projection. -/
def refGated (a : Vec F S32768x1024 .f32) (y : Vec F S32768x512 .f32) (o : Vec F S512x1024 .f32) : Vec F S32768x1024 .f32 :=
  mulf
    (Host.divf (broadcastInDim S32768x1024 ![] bcast_S_S32768x1024 (constant S_ .f32 0x3F800000#32))
      (addf (broadcastInDim S32768x1024 ![] bcast_S_S32768x1024 (constant S_ .f32 0x3F800000#32)) (Host.exp (Host.negf a))))
    (Host.dotGeneral (φ₁ := .f32) (φ₂ := .f32) dot_S32768x512_S512x1024_S32768x1024_1_0_0_1_n_n none y o)

/-- The projected rows. -/
def refProj (h : Vec F S32768x1024 .f32) (w : Vec F S1024x4104 .f32) : Vec F S32768x4104 .f32 :=
  Host.dotGeneral (φ₁ := .f32) (φ₂ := .f32) dot_S32768x1024_S1024x4104_S32768x4104_1_0_0_1_n_n none h w

/-- The merged columns. -/
def refMrg (h : Vec F S32768x1024 .f32) (w : Vec F S1024x4104 .f32) (ya yb : Vec F S32768x512 .f32) (oa ob : Vec F S512x1024 .f32) :
    Vec F S32768x1024 .f32 :=
  addf (refGated (extractStridedSlice S32768x1024 ![0, 2056] (refProj h w) slices_S32768x4104_S32768x1024_0_2056) ya oa)
    (refGated (extractStridedSlice S32768x1024 ![0, 3080] (refProj h w) slices_S32768x4104_S32768x1024_0_3080) yb ob)

/-- The reference's result. -/
def refOut (x : Vec F S32768x1024 .f32) (g : Vec F S1024 .f32) (w : Vec F S1024x4104 .f32) (ya yb : Vec F S32768x512 .f32)
    (oa ob : Vec F S512x1024 .f32) (wo : Vec F S1024x1024 .f32) : Vec F S32768x1024 .f32 :=
  addf x (Host.dotGeneral (φ₁ := .f32) (φ₂ := .f32) dot_S32768x1024_S1024x1024_S32768x1024_1_0_0_1_n_n none
    (refMrg (refH x g) w ya yb oa ob) wo)
end Any

theorem refH_at (x : Vec Ideal S32768x1024 .f32) (g : Vec Ideal S1024 .f32) (r : Fin 32768) (k : Fin 1024) :
    refH x g (ix2 r k) = nrm (fun k => x (ix2 r k)) (fun k => g (ix1 k)) k := by
  pointwise [refH]
  rfl

theorem refMrg_at (h : Vec Ideal S32768x1024 .f32) (w : Vec Ideal S1024x4104 .f32) (ya yb : Vec Ideal S32768x512 .f32)
    (oa ob : Vec Ideal S512x1024 .f32) (r : Fin 32768) (j : Fin 1024) :
    refMrg h w ya yb oa ob (ix2 r j)
      = mrg (fun k => h (ix2 r k)) (fun k => w (ix2 k ⟨2056 + j.val, by omega⟩)) (fun k => w (ix2 k ⟨3080 + j.val, by omega⟩))
          (fun k => ya (ix2 r k)) (fun k => oa (ix2 k j)) (fun k => yb (ix2 r k)) (fun k => ob (ix2 k j)) := by
  pointwise [refMrg, refGated, refProj]
  rfl

theorem refOut_at (x : Vec Ideal S32768x1024 .f32) (g : Vec Ideal S1024 .f32) (w : Vec Ideal S1024x4104 .f32) (ya yb : Vec Ideal S32768x512 .f32)
    (oa ob : Vec Ideal S512x1024 .f32) (wo : Vec Ideal S1024x1024 .f32) (r : Fin 32768) (k : Fin 1024) :
    refOut x g w ya yb oa ob wo (ix2 r k)
      = x (ix2 r k) + ∑ j : Fin 1024,
          mrg (nrm (fun k => x (ix2 r k)) (fun k => g (ix1 k)))
            (fun k => w (ix2 k ⟨2056 + j.val, by omega⟩)) (fun k => w (ix2 k ⟨3080 + j.val, by omega⟩))
            (fun k => ya (ix2 r k)) (fun k => oa (ix2 k j)) (fun k => yb (ix2 r k)) (fun k => ob (ix2 k j)) * wo (ix2 j k) := by
  have hh : (fun k => refH x g (ix2 r k)) = nrm (fun k => x (ix2 r k)) (fun k => g (ix1 k)) := funext fun k => refH_at x g r k
  rw [← hh]
  simp only [← refMrg_at]
  unfold refOut
  generalize refMrg (refH x g) w ya yb oa ob = z
  pointwise

end Cert.MergeRefIdeal.Hand

/-! ## The kernel -/

namespace Cert.MergeIdeal.Hand

open Cert.MergeIdeal Cert.MergeIdeal.Gen Cert.MergeMath

theorem hz : (![0, 0] : Fin 2 → Nat) = fun _ => 0 := funext fun a => by fin_cases a <;> rfl

/-- The body's output block over the point's blocks. -/
theorem out_at (x0 : Vec Ideal S1024x1024 .f32) (x1 x2 : Vec Ideal S1024x512 .bf16) (x3 : Vec Ideal S1x1024 .f32)
    (x4 : Vec Ideal S1024x2048 .bf16) (x5 x6 : Vec Ideal S512x1024 .bf16) (x7 : Vec Ideal S1024x1024 .bf16) (r k : Fin 1024) :
    out0_8 x0 x1 x2 x3 x4 x5 x6 x7 (ix2 r k)
      = x0 (ix2 r k) + ∑ j : Fin 1024,
          mrg (nrm (fun k => x0 (ix2 r k)) (fun k => x3 (ix2 0 k)))
            (fun k => x4 (ix2 k ⟨j.val, by omega⟩)) (fun k => x4 (ix2 k ⟨1024 + j.val, by omega⟩))
            (fun k => x1 (ix2 r k)) (fun k => x5 (ix2 k j)) (fun k => x2 (ix2 r k)) (fun k => x6 (ix2 k j)) * x7 (ix2 j k) := by
  unfold out0_8
  rw [View.canon_unit_zero hz]
  simp only [View.ld_unit_zero (S := S1024x1024) hz, View.ld_unit_zero (S := S1x1024) hz, View.ld_unit_zero (S := S1024x2048) hz,
    View.ld_unit_zero (S := S1024x512) hz, View.ld_unit_zero (S := S512x1024) hz]
  pointwise [k0_pay1, k0_pay2, k0_pay3, k0_pay4]
  simp only [zero_sub]
  rfl

variable (m : (ℓ : Loc nD τ sig) → Buf (Elt Ideal) ℓ)

abbrev xT (c : Dev nD) : Vec Ideal S32768x1024 .f32 := m ((c : Thread nD τ).loc main_arg0)
abbrev yaT (c : Dev nD) : Vec Ideal S32768x512 .bf16 :=
  shapeCast S32768x512 (m ((c : Thread nD τ).loc main_arg1) : Vec Ideal S8x4096x512 .bf16) shapeCasts_S8x4096x512_S32768x512
abbrev ybT (c : Dev nD) : Vec Ideal S32768x512 .bf16 :=
  shapeCast S32768x512 (m ((c : Thread nD τ).loc main_arg2) : Vec Ideal S8x4096x512 .bf16) shapeCasts_S8x4096x512_S32768x512
abbrev gT (c : Dev nD) : Vec Ideal S1024 .f32 :=
  shapeCast S1024 (m ((c : Thread nD τ).loc main_arg3) : Vec Ideal S1x1024 .f32) shapeCasts_S1x1024_S1024
abbrev wT (c : Dev nD) : Vec Ideal S1024x4104 .f32 :=
  shapeCast S1024x4104 (m ((c : Thread nD τ).loc main_arg4) : Vec Ideal S1x1024x4104 .f32) shapeCasts_S1x1024x4104_S1024x4104
abbrev oaT (c : Dev nD) : Vec Ideal S512x1024 .f32 :=
  shapeCast S512x1024 (m ((c : Thread nD τ).loc main_arg5) : Vec Ideal S1x512x1024 .f32) shapeCasts_S1x512x1024_S512x1024
abbrev obT (c : Dev nD) : Vec Ideal S512x1024 .f32 :=
  shapeCast S512x1024 (m ((c : Thread nD τ).loc main_arg6) : Vec Ideal S1x512x1024 .f32) shapeCasts_S1x512x1024_S512x1024
abbrev woT (c : Dev nD) : Vec Ideal S1024x1024 .f32 :=
  shapeCast S1024x1024 (m ((c : Thread nD τ).loc main_arg7) : Vec Ideal S1x1024x1024 .f32) shapeCasts_S1x1024x1024_S1024x1024

theorem V_v2 (c : Dev nD) : V m c main_v2
    = (truncf (F := Ideal) .bf16 (extractStridedSlice S1024x2048 ![0, 2056] (wT m c) slices_S1024x4104_S1024x2048_0_2056) bitsLt_bf16_f32 : Vec Ideal S1024x2048 .bf16) := by
  unfold V; after_reads_simp; rfl
theorem V_v3 (c : Dev nD) : V m c main_v3 = yaT m c := by unfold V; after_reads_simp; rfl
theorem V_v4 (c : Dev nD) : V m c main_v4 = ybT m c := by unfold V; after_reads_simp; rfl
theorem V_v12 (c : Dev nD) : V m c main_v12 = shapeCast S1x1024 (gT m c) shapeCasts_S1024_S1x1024 := by
  unfold V; after_reads_simp; rfl
theorem V_v7 (c : Dev nD) : V m c main_v7 = (truncf (F := Ideal) .bf16 (oaT m c) bitsLt_bf16_f32 : Vec Ideal S512x1024 .bf16) := by
  unfold V; after_reads_simp; rfl
theorem V_v9 (c : Dev nD) : V m c main_v9 = (truncf (F := Ideal) .bf16 (obT m c) bitsLt_bf16_f32 : Vec Ideal S512x1024 .bf16) := by
  unfold V; after_reads_simp; rfl
theorem V_v11 (c : Dev nD) : V m c main_v11 = (truncf (F := Ideal) .bf16 (woT m c) bitsLt_bf16_f32 : Vec Ideal S1024x1024 .bf16) := by
  unfold V; after_reads_simp; rfl

theorem pos0 : ∀ t : Fin grid0.N, win0_0.index t (0 : Fin 2) = t.val ∧ win0_0.index t (1 : Fin 2) = 0 := by decide +kernel
theorem pos1 : ∀ t : Fin grid0.N, win0_1.index t (0 : Fin 2) = t.val ∧ win0_1.index t (1 : Fin 2) = 0 := by decide +kernel
theorem pos2 : ∀ t : Fin grid0.N, win0_2.index t (0 : Fin 2) = t.val ∧ win0_2.index t (1 : Fin 2) = 0 := by decide +kernel
theorem pos3 : ∀ t : Fin grid0.N, win0_3.index t (0 : Fin 2) = 0 ∧ win0_3.index t (1 : Fin 2) = 0 := by decide +kernel
theorem pos4 : ∀ t : Fin grid0.N, win0_4.index t (0 : Fin 2) = 0 ∧ win0_4.index t (1 : Fin 2) = 0 := by decide +kernel
theorem pos5 : ∀ t : Fin grid0.N, win0_5.index t (0 : Fin 2) = 0 ∧ win0_5.index t (1 : Fin 2) = 0 := by decide +kernel
theorem pos6 : ∀ t : Fin grid0.N, win0_6.index t (0 : Fin 2) = 0 ∧ win0_6.index t (1 : Fin 2) = 0 := by decide +kernel
theorem pos7 : ∀ t : Fin grid0.N, win0_7.index t (0 : Fin 2) = 0 ∧ win0_7.index t (1 : Fin 2) = 0 := by decide +kernel
theorem pos8 : ∀ t : Fin grid0.N, win0_8.index t (0 : Fin 2) = t.val ∧ win0_8.index t (1 : Fin 2) = 0 := by decide +kernel

theorem lt_rows (t : Fin cfg0.N) (a : Fin 1024) : t.val * 1024 + a.val < 32768 := by
  have := t.isLt; have h : cfg0.N = 32 := N_0; omega

theorem blk0 (c : Dev nD) (t : Fin cfg0.N) (a b : Fin 1024) :
    (iblk m c 0 t : Vec Ideal S1024x1024 .f32) (ix2 a b) = xT m c (ix2 ⟨t.val * 1024 + a.val, lt_rows t a⟩ b) := by
  have h := pos0 t
  unfold iblk
  rw [View.read_apply]
  show V m c main_arg0 _ = _
  rw [V_main_arg0]
  refine congrArg (xT m c) (funext fun d => Fin.ext ?_)
  match d with
  | ⟨0, _⟩ => show win0_0.index t (0 : Fin 2) * 1024 + 1 * a.val = t.val * 1024 + a.val; omega
  | ⟨1, _⟩ => show win0_0.index t (1 : Fin 2) * 1024 + 1 * b.val = b.val; omega

theorem blk1 (c : Dev nD) (t : Fin cfg0.N) (a : Fin 1024) (b : Fin 512) :
    (iblk m c 1 t : Vec Ideal S1024x512 .bf16) (ix2 a b) = yaT m c (ix2 ⟨t.val * 1024 + a.val, lt_rows t a⟩ b) := by
  have h := pos1 t
  unfold iblk
  rw [View.read_apply]
  show V m c main_v3 _ = _
  rw [V_v3]
  refine congrArg (yaT m c) (funext fun d => Fin.ext ?_)
  match d with
  | ⟨0, _⟩ => show win0_1.index t (0 : Fin 2) * 1024 + 1 * a.val = t.val * 1024 + a.val; omega
  | ⟨1, _⟩ => show win0_1.index t (1 : Fin 2) * 512 + 1 * b.val = b.val; omega

theorem blk2 (c : Dev nD) (t : Fin cfg0.N) (a : Fin 1024) (b : Fin 512) :
    (iblk m c 2 t : Vec Ideal S1024x512 .bf16) (ix2 a b) = ybT m c (ix2 ⟨t.val * 1024 + a.val, lt_rows t a⟩ b) := by
  have h := pos2 t
  unfold iblk
  rw [View.read_apply]
  show V m c main_v4 _ = _
  rw [V_v4]
  refine congrArg (ybT m c) (funext fun d => Fin.ext ?_)
  match d with
  | ⟨0, _⟩ => show win0_2.index t (0 : Fin 2) * 1024 + 1 * a.val = t.val * 1024 + a.val; omega
  | ⟨1, _⟩ => show win0_2.index t (1 : Fin 2) * 512 + 1 * b.val = b.val; omega

theorem blk3 (c : Dev nD) (t : Fin cfg0.N) (b : Fin 1024) :
    (iblk m c 3 t : Vec Ideal S1x1024 .f32) (ix2 0 b) = gT m c (ix1 b) := by
  have h := pos3 t
  have e : (iblk m c 3 t : Vec Ideal S1x1024 .f32) (ix2 0 b) = shapeCast S1x1024 (gT m c) shapeCasts_S1024_S1x1024 (ix2 0 b) := by
    unfold iblk
    rw [View.read_apply]
    show V m c main_v12 _ = _
    rw [V_v12]
    refine congrArg (shapeCast S1x1024 (gT m c) shapeCasts_S1024_S1x1024) (funext fun d => Fin.ext ?_)
    match d with
    | ⟨0, _⟩ => show win0_3.index t (0 : Fin 2) * 1 + 1 * 0 = 0; omega
    | ⟨1, _⟩ => show win0_3.index t (1 : Fin 2) * 1024 + 1 * b.val = b.val; omega
  rw [e]
  pointwise

theorem blk4 (c : Dev nD) (t : Fin cfg0.N) (a : Fin 1024) (b : Fin 2048) :
    (iblk m c 4 t : Vec Ideal S1024x2048 .bf16) (ix2 a b) = wT m c (ix2 a ⟨2056 + b.val, by omega⟩) := by
  have h := pos4 t
  unfold iblk
  rw [View.read_apply]
  show V m c main_v2 _ = _
  rw [V_v2]
  refine congrArg (wT m c) (funext fun d => Fin.ext ?_)
  match d with
  | ⟨0, _⟩ => show 0 + (win0_4.index t (0 : Fin 2) * 1024 + 1 * a.val) = a.val; omega
  | ⟨1, _⟩ => show 2056 + (win0_4.index t (1 : Fin 2) * 2048 + 1 * b.val) = 2056 + b.val; omega

theorem blk5 (c : Dev nD) (t : Fin cfg0.N) (a : Fin 512) (b : Fin 1024) :
    (iblk m c 5 t : Vec Ideal S512x1024 .bf16) (ix2 a b) = oaT m c (ix2 a b) := by
  have h := pos5 t
  unfold iblk
  rw [View.read_apply]
  show V m c main_v7 _ = _
  rw [V_v7]
  refine congrArg (oaT m c) (funext fun d => Fin.ext ?_)
  match d with
  | ⟨0, _⟩ => show win0_5.index t (0 : Fin 2) * 512 + 1 * a.val = a.val; omega
  | ⟨1, _⟩ => show win0_5.index t (1 : Fin 2) * 1024 + 1 * b.val = b.val; omega

theorem blk6 (c : Dev nD) (t : Fin cfg0.N) (a : Fin 512) (b : Fin 1024) :
    (iblk m c 6 t : Vec Ideal S512x1024 .bf16) (ix2 a b) = obT m c (ix2 a b) := by
  have h := pos6 t
  unfold iblk
  rw [View.read_apply]
  show V m c main_v9 _ = _
  rw [V_v9]
  refine congrArg (obT m c) (funext fun d => Fin.ext ?_)
  match d with
  | ⟨0, _⟩ => show win0_6.index t (0 : Fin 2) * 512 + 1 * a.val = a.val; omega
  | ⟨1, _⟩ => show win0_6.index t (1 : Fin 2) * 1024 + 1 * b.val = b.val; omega

theorem blk7 (c : Dev nD) (t : Fin cfg0.N) (a b : Fin 1024) :
    (iblk m c 7 t : Vec Ideal S1024x1024 .bf16) (ix2 a b) = woT m c (ix2 a b) := by
  have h := pos7 t
  unfold iblk
  rw [View.read_apply]
  show V m c main_v11 _ = _
  rw [V_v11]
  refine congrArg (woT m c) (funext fun d => Fin.ext ?_)
  match d with
  | ⟨0, _⟩ => show win0_7.index t (0 : Fin 2) * 1024 + 1 * a.val = a.val; omega
  | ⟨1, _⟩ => show win0_7.index t (1 : Fin 2) * 1024 + 1 * b.val = b.val; omega

/-- The reference's result over this call's arrays. -/
abbrev result (c : Dev nD) : Vec Ideal S32768x1024 .f32 :=
  Cert.MergeRefIdeal.Hand.refOut (F := Ideal) (xT m c) (gT m c) (wT m c) (yaT m c) (ybT m c) (oaT m c) (obT m c) (woT m c)

/-- What a point writes back is the reference's rows. -/
theorem flushed_eq (c : Dev nD) (t : Fin cfg0.N) (r k : Fin 1024) :
    out0_8 (iblk m c 0 t) (iblk m c 1 t) (iblk m c 2 t) (iblk m c 3 t) (iblk m c 4 t) (iblk m c 5 t) (iblk m c 6 t) (iblk m c 7 t) (ix2 r k)
      = result m c (ix2 ⟨t.val * 1024 + r.val, lt_rows t r⟩ k) := by
  rw [out_at]
  unfold result
  rw [Cert.MergeRefIdeal.Hand.refOut_at]
  simp only [blk0, blk1, blk2, blk3, blk4, blk5, blk6, blk7]
  refine congrArg (xT m c _ + ·) (Finset.sum_congr rfl fun j _ => ?_)
  have e : ∀ k : Fin 1024, wT m c (ix2 k ⟨2056 + (1024 + j.val), by omega⟩) = wT m c (ix2 k ⟨3080 + j.val, by omega⟩) :=
    fun k => congrArg (fun z => wT m c (ix2 k z)) (Fin.ext (by show 2056 + (1024 + j.val) = 3080 + j.val; omega))
  simp only [e]

/-- The result array is the reference's. -/
theorem result_eq (c : Dev nD) : (dats m 0 c).arrAt 8 cfg0.N = result m c :=
  (dats m 0 c).arrAt_eq_of_cover 8 (result m c)
    (fun t hf => by
      rw [Value.flushed8]
      refine funext fun (y : S1024x1024.Idx) => ?_
      obtain ⟨r, k, rfl⟩ : ∃ (r k : Fin 1024), y = ix2 r k := ⟨y 0, y 1, eq_ix2 y⟩
      rw [View.read_apply]
      refine (flushed_eq m c t r k).trans ?_
      refine congrArg (result m c) (funext fun d => Fin.ext ?_)
      have h := pos8 t
      match d with
      | ⟨0, _⟩ => show t.val * 1024 + r.val = win0_8.index t (0 : Fin 2) * 1024 + 1 * r.val; omega
      | ⟨1, _⟩ => show k.val = win0_8.index t (1 : Fin 2) * 1024 + 1 * k.val; omega)
    fun i => by
      have hN : cfg0.N = 32 := N_0
      have h0 : (i 0 : Nat) < 32768 := (i 0).isLt
      have h1 : (i 1 : Nat) < 1024 := (i 1).isLt
      have ht : (i 0 : Nat) / 1024 < cfg0.N := by omega
      have h := pos8 ⟨(i 0 : Nat) / 1024, ht⟩
      refine ⟨⟨(i 0 : Nat) / 1024, ht⟩, (by decide +kernel : ∀ t : Fin grid0.N, win0_8.flush t = true) _, ?_⟩
      show i ∈ ((View.whole main_v13).slice (win0_8.rect ⟨(i 0 : Nat) / 1024, ht⟩)).set
      rw [View.set_slice_whole, Rect.mem_set_unit]
      dsimp only at h
      intro a
      match a with
      | ⟨0, _⟩ => show win0_8.index _ (0 : Fin 2) * 1024 ≤ (i 0 : Nat) ∧ (i 0 : Nat) < win0_8.index _ (0 : Fin 2) * 1024 + 1024; omega
      | ⟨1, _⟩ => show win0_8.index _ (1 : Fin 2) * 1024 ≤ (i 1 : Nat) ∧ (i 1 : Nat) < win0_8.index _ (1 : Fin 2) * 1024 + 1024; omega

end Cert.MergeIdeal.Hand

/-! ## The claim -/

namespace Cert.MergeProof

open Cert.MergeIdeal.Hand Cert.MergeRefIdeal.Hand

theorem algebraic : Cert.algebraic_MergeIdeal_MergeRefIdeal (hMergeIdeal := Cert.MergeIdeal.Gen.facts) (hMergeRefIdeal := Cert.MergeRefIdeal.Gen.facts) :=
  fun m ρ m' ρ' _ hag => ⟨fun c => (Cert.MergeIdeal.Gen.dats m 0 c).arrAt 8 Cert.MergeIdeal.cfg0.N, Cert.MergeIdeal.Value.run_blocks m ρ,
    (θ_run _ _ _).mono (fun _ h c => by
      obtain ⟨a0, a1, a2, a3, a4, a5, a6, a7⟩ := hag c
      refine ⟨(h c).1.trans ?_, (h c).2⟩
      rw [a0, a1, a2, a3, a4, a5, a6, a7]
      refine Eq.trans ?_ (result_eq m c).symm
      unfold result refOut refMrg refGated refProj refH
      rfl) (Cert.MergeRefIdeal.Value.run m' ρ')⟩

end Cert.MergeProof
-- ==== Proof.SbTrip.lean ====
/-
  One pass of the stick-breaking kernel's inner loop, head by head: the four operations every head goes through, under
  one name each, and that the printed pass is exactly these operations for each of the eight heads.
-/
module

public import proofs.«01_k».proof.Proof.Gen.SbIdeal.Value

@[expose] public section

set_option maxRecDepth 16384

noncomputable section

open Idealize.ShloMosaic Idealize.ShloMosaic.TcCoe Idealize.SL.Sem

namespace Cert.SbIdeal.Hand

open Cert.SbIdeal Cert.SbIdeal.Gen

variable {F : FTy → Type} [FloatOps F] [Named F]

/-- The logits of a block: queries against keys. -/
def zOf (Q : Vec F S256x128 .bf16) (K : Vec F S128x256 .bf16) : FVec F S256x256 .f32 :=
  matmul dot_S256x128_S128x256_S256x256_1_0_0_1_n_n none Q (shapeCast S128x256 K shapeCasts_S128x256_S128x256) (constant S256x256 .f32 0x00000000#32)

/-- The softplus of the logits. -/
def spOf (z : FVec F S256x256 .f32) : FVec F S256x256 .f32 :=
  addf (maximumf z (broadcast S256x256 (Scalar.ofBits .f32 0x00000000#32)))
    (log (addf (broadcast S256x256 (Scalar.ofBits .f32 0x3F800000#32))
      (exp2 (mulf (absf z) (broadcast S256x256 (Named.named κ "neg_log2e" 0xBFB8AA3B#32))))))

/-- Its sums over the later columns of the block, with the sign the table carries. -/
def inclOf (L : Vec F S256x256 .bf16) (s : FVec F S256x256 .f32) : FVec F S256x256 .f32 :=
  matmul dot_S256x256_S256x256_S256x256_1_0_0_1_n_n none (truncf .bf16 s bitsLt_bf16_f32) L (constant S256x256 .f32 0x00000000#32)

/-- The weights. -/
def aOf (z incl : FVec F S256x256 .f32) (car : FVec F S256x1 .f32) : FVec F S256x256 .f32 :=
  exp2 (mulf (addf (addf z incl) (broadcastTo S256x256 car broadcasts_S256x1_S256x256))
    (broadcast S256x256 (Named.named κ "log2e" 0x3FB8AA3B#32)))

/-- The accumulated values. -/
def accOf (a : FVec F S256x256 .f32) (old : Vec F S1x256x128 .f32) (V : Vec F S1x256x128 .bf16) : FVec F S1x256x128 .f32 :=
  shapeCast S1x256x128 (addf (shapeCast S256x128 old shapeCasts_S1x256x128_S256x128)
    (matmul dot_S256x256_S256x128_S256x128_1_0_0_1_n_n none (truncf .bf16 a bitsLt_bf16_f32)
      (shapeCast S256x128 V shapeCasts_S1x256x128_S256x128) (constant S256x128 .f32 0x00000000#32))) shapeCasts_S256x128_S1x256x128

/-- The carried sum. -/
def carOf (car : FVec F S256x1 .f32) (incl : FVec F S256x256 .f32) : FVec F S256x1 .f32 :=
  addf car (extractStridedSlice S256x1 ![0, 0] incl slices_S256x256_o0_0_S256x1)

/-- Masked: what lies under the diagonal, else zero. -/
def maskOf (s : FVec F S256x256 .f32) : FVec F S256x256 .f32 :=
  select k0_pay82 s (broadcast S256x256 (Scalar.ofBits .f32 0x00000000#32))

/-! ## The boxes -/

theorem hInb (h : Fin 8) : ∀ a, (![h.val, 0, 0] : Fin 3 → Nat) a + S1x256x128.size a ≤ S8x256x128.size a := by
  revert h; decide
/-- Head `h`'s part of the accumulator. -/
abbrev hR (h : Fin 8) : Rect S8x256x128 := Rect.unit (s := S8x256x128) ![h.val, 0, 0] S1x256x128.size (hInb h)
theorem qInb (h : Fin 8) : ∀ a, (![256 * h.val, 0] : Fin 2 → Nat) a + S256x128.size a ≤ S2048x128.size a := by
  revert h; decide
/-- Head `h`'s part of the stacked queries. -/
abbrev qR (h : Fin 8) : Rect S2048x128 := Rect.unit (s := S2048x128) ![256 * h.val, 0] S256x128.size (qInb h)

/-- Eight heads' parts, the last first. -/
abbrev hp (g : Fin 8 → Vec F S1x256x128 .f32) : List (View.Piece (Elt F) S8x256x128 .f32) :=
  [⟨hR 7, g 7⟩, ⟨hR 6, g 6⟩, ⟨hR 5, g 5⟩, ⟨hR 4, g 4⟩, ⟨hR 3, g 3⟩, ⟨hR 2, g 2⟩, ⟨hR 1, g 1⟩, ⟨hR 0, g 0⟩]
abbrev tup (a : Fin 8 → FVec F S256x1 .f32) : FVec F S256x1 .f32 × FVec F S256x1 .f32 × FVec F S256x1 .f32 × FVec F S256x1 .f32 × FVec F S256x1 .f32 × FVec F S256x1 .f32 × FVec F S256x1 .f32 × FVec F S256x1 .f32 :=
  (a 0, a 1, a 2, a 3, a 4, a 5, a 6, a 7)

/-- Where head `h`'s keys and values stand, trip by trip. -/
def kOff (i : grid0.Coords) (k : Fin (k0_t1_loop i).trips) (h : Fin 8) : Fin 2 → Nat :=
  match h with
  | 0 => k0_off9 i k | 1 => k0_off9 i k | 2 => k0_off10 i k | 3 => k0_off10 i k
  | 4 => k0_off12 i k | 5 => k0_off12 i k | 6 => k0_off14 i k | 7 => k0_off14 i k
theorem kOff_inb (i : grid0.Coords) (k : Fin (k0_t1_loop i).trips) (h : Fin 8) : ∀ a, kOff i k h a + S128x256.size a ≤ S512x4096.size a := by
  match h with
  | 0 => exact k0_off9_inb i k
  | 1 => exact k0_off9_inb i k
  | 2 => exact k0_off10_inb i k
  | 3 => exact k0_off10_inb i k
  | 4 => exact k0_off12_inb i k
  | 5 => exact k0_off12_inb i k
  | 6 => exact k0_off14_inb i k
  | 7 => exact k0_off14_inb i k
def vOff (i : grid0.Coords) (k : Fin (k0_t1_loop i).trips) (h : Fin 8) : Fin 3 → Nat :=
  match h with
  | 0 => k0_off11 i k | 1 => k0_off11 i k | 2 => k0_off13 i k | 3 => k0_off13 i k
  | 4 => k0_off15 i k | 5 => k0_off15 i k | 6 => k0_off16 i k | 7 => k0_off16 i k
theorem vOff_inb (i : grid0.Coords) (k : Fin (k0_t1_loop i).trips) (h : Fin 8) : ∀ a, vOff i k h a + S1x256x128.size a ≤ S1x4096x512.size a := by
  match h with
  | 0 => exact k0_off11_inb i k
  | 1 => exact k0_off11_inb i k
  | 2 => exact k0_off13_inb i k
  | 3 => exact k0_off13_inb i k
  | 4 => exact k0_off15_inb i k
  | 5 => exact k0_off15_inb i k
  | 6 => exact k0_off16_inb i k
  | 7 => exact k0_off16_inb i k

section trip

variable (𝒱 : Variants) (c : Dev nD) (bd : Option 𝒱.V) (i : grid0.Coords) (arg2 : Memref sig .tc .vmem S1x256x512 .bf16) (harg2 : arg2.IsWhole) (arg3 : Memref sig .tc .vmem S512x4096 .bf16) (harg3 : arg3.IsWhole) (arg4 : Memref sig .tc .vmem S1x4096x512 .bf16) (harg4 : arg4.IsWhole) (arg5 : Memref sig .tc .vmem S1x256x512 .bf16) (harg5 : arg5.IsWhole) (arg6 : Memref sig .tc .vmem S2048x128 .bf16) (harg6 : arg6.IsWhole) (arg7 : Memref sig .tc .vmem S256x256 .bf16) (harg7 : arg7.IsWhole) (arg8 : Memref sig .tc .vmem S8x256x128 .f32) (harg8 : arg8.IsWhole) (arg1 : BitVec 32) (v150 : FVec F S256x1 .f32) (v190 : FVec F S256x1 .f32) (v230 : FVec F S256x1 .f32) (v270 : FVec F S256x1 .f32) (v310 : FVec F S256x1 .f32) (v350 : FVec F S256x1 .f32) (v385 : FVec F S256x1 .f32) (v406 : FVec F S256x1 .f32) (c0_i32 : BitVec 32) (v407 : BitVec 32) (c1_i32 : BitVec 32) (X3 : BufTy.Contents (Elt F) arg3.view.ty) (X4 : BufTy.Contents (Elt F) arg4.view.ty) (X6 : BufTy.Contents (Elt F) arg6.view.ty) (X7 : BufTy.Contents (Elt F) arg7.view.ty)

/-- Head `h`'s logits in trip `k`. -/
abbrev zT (k : Fin (k0_t1_loop i).trips) (h : Fin 8) : FVec F S256x256 .f32 :=
  zOf (View.readAt (Elt F) arg6.view (qR h).toLoadRect X6)
    (View.readAt (Elt F) arg3.view (Rect.unit (s := S512x4096) (kOff i k h) S128x256.size (kOff_inb i k h)).toLoadRect X3)
abbrev inT (k : Fin (k0_t1_loop i).trips) (h : Fin 8) : FVec F S256x256 .f32 :=
  inclOf (View.readAt (Elt F) arg7.view (Rect.unit (s := S256x256) ![0, 0] S256x256.size inb_S256x256_S256x256_0_0).toLoadRect X7)
    (spOf (zT i arg3 arg6 X3 X6 k h))
abbrev vT (k : Fin (k0_t1_loop i).trips) (h : Fin 8) : Vec F S1x256x128 .bf16 :=
  View.readAt (Elt F) arg4.view (Rect.unit (s := S1x4096x512) (vOff i k h) S1x256x128.size (vOff_inb i k h)).toLoadRect X4

theorem tripR_eq (k : Fin (k0_t1_loop i).trips) (a : Fin 8 → FVec F S256x1 .f32) (f : BufTy.Contents (Elt F) arg8.view.ty) :
    tripR_k0_t1 𝒱 c bd i arg2 harg2 arg3 harg3 arg4 harg4 arg5 harg5 arg6 harg6 arg7 harg7 arg8 harg8 arg1 v150 v190 v230 v270 v310 v350 v385 v406 c0_i32 v407 c1_i32 X3 X4 X6 X7 k (tup a) f
      = tup fun h => carOf (a h) (inT i arg3 arg6 arg7 X3 X6 X7 k h) := by
  unfold tripR_k0_t1 trip_k0_t1
  rfl

theorem tripL_eq (k : Fin (k0_t1_loop i).trips) (a : Fin 8 → FVec F S256x1 .f32) (f : BufTy.Contents (Elt F) arg8.view.ty) :
    tripL_k0_t1 𝒱 c bd i arg2 harg2 arg3 harg3 arg4 harg4 arg5 harg5 arg6 harg6 arg7 harg7 arg8 harg8 arg1 v150 v190 v230 v270 v310 v350 v385 v406 c0_i32 v407 c1_i32 X3 X4 X6 X7 k (tup a) f
      = hp fun h => accOf (aOf (zT i arg3 arg6 X3 X6 k h) (inT i arg3 arg6 arg7 X3 X6 X7 k h) (a h))
          (View.readAt (Elt F) arg8.view (hR h).toLoadRect f) (vT i arg4 X4 k h) := by
  unfold tripL_k0_t1 trip_k0_t1
  rfl

end trip

/-- A part just written reads back. -/
theorem read_hp {sig' : RefSig} {κ' : Kind} {sp : Space} (v : View sig' κ' sp S8x256x128 .f32) (g : Fin 8 → Vec F S1x256x128 .f32)
    (L : List (View.Piece (Elt F) S8x256x128 .f32)) (h : Fin 8) :
    v.readCov (hp g ++ L) (hR h).toLoadRect = g h := by
  have dj : ∀ a b : Fin 8, a ≠ b → Disjoint (hR a).set (hR b).toLoadRect.set := by
    intro a b hab
    rw [Finset.disjoint_left]
    intro x hx hy
    obtain ⟨u, rfl⟩ := (hR a).exists_idx_of_mem hx
    obtain ⟨w, hw⟩ := (hR b).exists_idx_of_mem hy
    have := congrArg (fun x => (x (0 : Fin 3)).val) hw
    have h1 : ((hR b).emb w (0 : Fin 3)).val = b.val + 1 * (w (0 : Fin 3)).val := rfl
    have h2 : ((hR a).emb u (0 : Fin 3)).val = a.val + 1 * (u (0 : Fin 3)).val := rfl
    have h3 : (u (0 : Fin 3)).val < 1 := (u (0 : Fin 3)).isLt
    have h4 : (w (0 : Fin 3)).val < 1 := (w (0 : Fin 3)).isLt
    apply hab
    apply Fin.ext
    change ((hR b).emb w (0 : Fin 3)).val = ((hR a).emb u (0 : Fin 3)).val at this
    omega
  have st : ∀ (a : Fin 8) (w : Vec F S1x256x128 .f32) (M : List (View.Piece (Elt F) S8x256x128 .f32)), a ≠ h →
      v.readCov ((⟨hR a, w⟩ : View.Piece (Elt F) S8x256x128 .f32) :: M) (hR h).toLoadRect = v.readCov M (hR h).toLoadRect :=
    fun a w M hne => View.readCov_cons_of_disjoint v _ M _ (dj a h hne)
  simp only [hp, List.cons_append, List.nil_append]
  by_cases h7 : 7 = h
  · subst h7; exact View.readCov_cons_toLoadRect v _ _ _
  rw [st 7 _ _ h7]
  by_cases h6 : 6 = h
  · subst h6; exact View.readCov_cons_toLoadRect v _ _ _
  rw [st 6 _ _ h6]
  by_cases h5 : 5 = h
  · subst h5; exact View.readCov_cons_toLoadRect v _ _ _
  rw [st 5 _ _ h5]
  by_cases h4 : 4 = h
  · subst h4; exact View.readCov_cons_toLoadRect v _ _ _
  rw [st 4 _ _ h4]
  by_cases h3 : 3 = h
  · subst h3; exact View.readCov_cons_toLoadRect v _ _ _
  rw [st 3 _ _ h3]
  by_cases h2 : 2 = h
  · subst h2; exact View.readCov_cons_toLoadRect v _ _ _
  rw [st 2 _ _ h2]
  by_cases h1 : 1 = h
  · subst h1; exact View.readCov_cons_toLoadRect v _ _ _
  rw [st 1 _ _ h1]
  by_cases h0 : 0 = h
  · subst h0; exact View.readCov_cons_toLoadRect v _ _ _
  · exfalso
    have := h.isLt
    have e0 : h.val ≠ 0 := fun e => h0 (Fin.ext e.symm)
    have e1 : h.val ≠ 1 := fun e => h1 (Fin.ext e.symm)
    have e2 : h.val ≠ 2 := fun e => h2 (Fin.ext e.symm)
    have e3 : h.val ≠ 3 := fun e => h3 (Fin.ext e.symm)
    have e4 : h.val ≠ 4 := fun e => h4 (Fin.ext e.symm)
    have e5 : h.val ≠ 5 := fun e => h5 (Fin.ext e.symm)
    have e6 : h.val ≠ 6 := fun e => h6 (Fin.ext e.symm)
    have e7 : h.val ≠ 7 := fun e => h7 (Fin.ext e.symm)
    omega

end Cert.SbIdeal.Hand
-- ==== Proof.SbLoop.lean ====
/-
  The stick-breaking kernel's point: the diagonal block's carries and parts, the loop over the earlier blocks by one
  invariant, and the block written in the end, each over the operations of one head.
-/
module

public import proofs.«01_k».proof.Proof.SbTrip
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.SbIdeal.Hand

open Cert.SbIdeal Cert.SbIdeal.Gen

variable {F : FTy → Type} [FloatOps F] [Named F]

/-! ## The loop -/

section loop

variable (𝒱 : Variants) (c : Dev nD) (bd : Option 𝒱.V) (i : grid0.Coords) (arg2 : Memref sig .tc .vmem S1x256x512 .bf16) (harg2 : arg2.IsWhole) (arg3 : Memref sig .tc .vmem S512x4096 .bf16) (harg3 : arg3.IsWhole) (arg4 : Memref sig .tc .vmem S1x4096x512 .bf16) (harg4 : arg4.IsWhole) (arg5 : Memref sig .tc .vmem S1x256x512 .bf16) (harg5 : arg5.IsWhole) (arg6 : Memref sig .tc .vmem S2048x128 .bf16) (harg6 : arg6.IsWhole) (arg7 : Memref sig .tc .vmem S256x256 .bf16) (harg7 : arg7.IsWhole) (arg8 : Memref sig .tc .vmem S8x256x128 .f32) (harg8 : arg8.IsWhole) (arg1 : BitVec 32) (v150 : FVec F S256x1 .f32) (v190 : FVec F S256x1 .f32) (v230 : FVec F S256x1 .f32) (v270 : FVec F S256x1 .f32) (v310 : FVec F S256x1 .f32) (v350 : FVec F S256x1 .f32) (v385 : FVec F S256x1 .f32) (v406 : FVec F S256x1 .f32) (c0_i32 : BitVec 32) (v407 : BitVec 32) (c1_i32 : BitVec 32) (X3 : BufTy.Contents (Elt F) arg3.view.ty) (X4 : BufTy.Contents (Elt F) arg4.view.ty) (X6 : BufTy.Contents (Elt F) arg6.view.ty) (X7 : BufTy.Contents (Elt F) arg7.view.ty)

/-- The loop's state after `n` trips from carries `a0` over the pieces `L0`. -/
abbrev stL (a0 : Fin 8 → FVec F S256x1 .f32) (L0 : List (View.Piece (Elt F) S8x256x128 .f32)) (n : ℕ) :=
  st_k0_t1 𝒱 c bd i arg2 harg2 arg3 harg3 arg4 harg4 arg5 harg5 arg6 harg6 arg7 harg7 arg8 harg8 arg1 v150 v190 v230 v270 v310 v350 v385 v406 c0_i32 v407 c1_i32 X3 X4 X6 X7
    (arg8.view.writes (Elt F) arg8.view.junk L0) (tup a0) n

/-- What holds of every head's carry and part, a trip keeping it, holds after any number of trips. -/
theorem loop_inv (a0 : Fin 8 → FVec F S256x1 .f32) (L0 : List (View.Piece (Elt F) S8x256x128 .f32))
    (P : ℕ → Fin 8 → FVec F S256x1 .f32 → Vec F S1x256x128 .f32 → Prop)
    (h0 : ∀ h, P 0 h (a0 h) (arg8.view.readCov L0 (hR h).toLoadRect))
    (hs : ∀ (k : Fin (k0_t1_loop i).trips) (h : Fin 8) (a : FVec F S256x1 .f32) (w : Vec F S1x256x128 .f32), P k.val h a w →
      P (k.val + 1) h (carOf a (inT i arg3 arg6 arg7 X3 X6 X7 k h))
        (accOf (aOf (zT i arg3 arg6 X3 X6 k h) (inT i arg3 arg6 arg7 X3 X6 X7 k h) a) w (vT i arg4 X4 k h))) :
    ∀ n : ℕ, n ≤ (k0_t1_loop i).trips → ∃ a : Fin 8 → FVec F S256x1 .f32,
      (stL 𝒱 c bd i arg2 harg2 arg3 harg3 arg4 harg4 arg5 harg5 arg6 harg6 arg7 harg7 arg8 harg8 arg1 v150 v190 v230 v270 v310 v350 v385 v406 c0_i32 v407 c1_i32 X3 X4 X6 X7 a0 L0 n).1 = tup a
      ∧ ∀ h, P n h (a h) (arg8.view.readCov ((stL 𝒱 c bd i arg2 harg2 arg3 harg3 arg4 harg4 arg5 harg5 arg6 harg6 arg7 harg7 arg8 harg8 arg1 v150 v190 v230 v270 v310 v350 v385 v406 c0_i32 v407 c1_i32 X3 X4 X6 X7 a0 L0 n).2 ++ L0) (hR h).toLoadRect) := by
  intro n
  induction n with
  | zero => exact fun _ => ⟨a0, rfl, h0⟩
  | succ n ih =>
    intro hn
    obtain ⟨a, ha, hP⟩ := ih (by omega)
    have e := st_k0_t1_succ 𝒱 c bd i arg2 harg2 arg3 harg3 arg4 harg4 arg5 harg5 arg6 harg6 arg7 harg7 arg8 harg8 arg1 v150 v190 v230 v270 v310 v350 v385 v406 c0_i32 v407 c1_i32 X3 X4 X6 X7
      (arg8.view.writes (Elt F) arg8.view.junk L0) (tup a0) ⟨n, hn⟩
    unfold stL at ha hP ⊢
    rw [show n + 1 = (⟨n, hn⟩ : Fin (k0_t1_loop i).trips).val + 1 from rfl, e, ha, tripR_eq, tripL_eq]
    refine ⟨fun h => carOf (a h) (inT i arg3 arg6 arg7 X3 X6 X7 ⟨n, hn⟩ h), rfl, fun h => ?_⟩
    dsimp only
    rw [List.append_assoc, read_hp, ← View.writes_append]
    exact hs ⟨n, hn⟩ h (a h) _ (hP h)

end loop

/-! ## The diagonal block -/

section diag

variable (c : Dev nD) (i : grid0.Coords) (arg2 : Memref sig .tc .vmem S1x256x512 .bf16) (harg2 : arg2.IsWhole) (arg3 : Memref sig .tc .vmem S512x4096 .bf16) (harg3 : arg3.IsWhole) (arg4 : Memref sig .tc .vmem S1x4096x512 .bf16) (harg4 : arg4.IsWhole) (arg5 : Memref sig .tc .vmem S1x256x512 .bf16) (harg5 : arg5.IsWhole) (arg6 : Memref sig .tc .vmem S2048x128 .bf16) (harg6 : arg6.IsWhole) (arg7 : Memref sig .tc .vmem S256x256 .bf16) (harg7 : arg7.IsWhole) (arg8 : Memref sig .tc .vmem S8x256x128 .f32) (harg8 : arg8.IsWhole)
variable (x0 : Vec F S1x256x512 .bf16) (x1 : Vec F S512x4096 .bf16) (x2 : Vec F S1x4096x512 .bf16)

def kOffD (i : grid0.Coords) (h : Fin 8) : Fin 2 → Nat :=
  match h with
  | 0 => k0_off1 i | 1 => k0_off1 i | 2 => k0_off2 i | 3 => k0_off2 i
  | 4 => k0_off4 i | 5 => k0_off4 i | 6 => k0_off6 i | 7 => k0_off6 i
theorem kOffD_inb (i : grid0.Coords) (h : Fin 8) : ∀ a, kOffD i h a + S128x256.size a ≤ S512x4096.size a := by
  match h with
  | 0 => exact k0_off1_inb i
  | 1 => exact k0_off1_inb i
  | 2 => exact k0_off2_inb i
  | 3 => exact k0_off2_inb i
  | 4 => exact k0_off4_inb i
  | 5 => exact k0_off4_inb i
  | 6 => exact k0_off6_inb i
  | 7 => exact k0_off6_inb i
def vOffD (i : grid0.Coords) (h : Fin 8) : Fin 3 → Nat :=
  match h with
  | 0 => k0_off3 i | 1 => k0_off3 i | 2 => k0_off5 i | 3 => k0_off5 i
  | 4 => k0_off7 i | 5 => k0_off7 i | 6 => k0_off8 i | 7 => k0_off8 i
theorem vOffD_inb (i : grid0.Coords) (h : Fin 8) : ∀ a, vOffD i h a + S1x256x128.size a ≤ S1x4096x512.size a := by
  match h with
  | 0 => exact k0_off3_inb i
  | 1 => exact k0_off3_inb i
  | 2 => exact k0_off5_inb i
  | 3 => exact k0_off5_inb i
  | 4 => exact k0_off7_inb i
  | 5 => exact k0_off7_inb i
  | 6 => exact k0_off8_inb i
  | 7 => exact k0_off8_inb i

/-- The stacked queries, as the loop finds them. -/
abbrev X6' : BufTy.Contents (Elt F) arg6.view.ty := arg6.view.writes (Elt F) arg6.view.junk (kernelRun0_A.sl.HS0_8 c arg2 harg2 x0)
abbrev X7' : BufTy.Contents (Elt F) arg7.view.ty := arg7.view.writes (Elt F) arg7.view.junk kernelRun0_A.sl.HS1_1

abbrev zD (h : Fin 8) : FVec F S256x256 .f32 :=
  zOf (View.readAt (Elt F) arg6.view (qR h).toLoadRect (X6' c arg2 harg2 arg6 x0))
    (View.readAt (Elt F) arg3.view (Rect.unit (s := S512x4096) (kOffD i h) S128x256.size (kOffD_inb i h)).toLoadRect (harg3.unread x1))
abbrev inD (h : Fin 8) : FVec F S256x256 .f32 :=
  inclOf (View.readAt (Elt F) arg7.view (Rect.unit (s := S256x256) ![0, 0] S256x256.size inb_S256x256_S256x256_0_0).toLoadRect (X7' arg7))
    (maskOf (spOf (zD c i arg2 harg2 arg3 harg3 arg6 x0 x1 h)))
abbrev vD (h : Fin 8) : Vec F S1x256x128 .bf16 :=
  View.readAt (Elt F) arg4.view (Rect.unit (s := S1x4096x512) (vOffD i h) S1x256x128.size (vOffD_inb i h)).toLoadRect (harg4.unread x2)
abbrev carZ : FVec F S256x1 .f32 := broadcast S256x1 (Scalar.ofBits .f32 0x00000000#32)
abbrev carD (h : Fin 8) : FVec F S256x1 .f32 := carOf carZ (inD c i arg2 harg2 arg3 harg3 arg6 arg7 x0 x1 h)
/-- What the diagonal block's accumulation finds. -/
abbrev oldD (h : Fin 8) : Vec F S1x256x128 .f32 :=
  match h with
  | 0 => kernelRun0_A.sl.v138 c arg8
  | 1 => kernelRun0_A.sl.v178 c i arg2 harg2 arg3 harg3 arg4 harg4 arg6 arg7 arg8 x0 x1 x2
  | 2 => kernelRun0_A.sl.v218 c i arg2 harg2 arg3 harg3 arg4 harg4 arg6 arg7 arg8 x0 x1 x2
  | 3 => kernelRun0_A.sl.v258 c i arg2 harg2 arg3 harg3 arg4 harg4 arg6 arg7 arg8 x0 x1 x2
  | 4 => kernelRun0_A.sl.v298 c i arg2 harg2 arg3 harg3 arg4 harg4 arg6 arg7 arg8 x0 x1 x2
  | 5 => kernelRun0_A.sl.v338 c i arg2 harg2 arg3 harg3 arg4 harg4 arg6 arg7 arg8 x0 x1 x2
  | 6 => kernelRun0_A.sl.v373 c i arg2 harg2 arg3 harg3 arg4 harg4 arg6 arg7 arg8 x0 x1 x2
  | 7 => kernelRun0_A.sl.v394 c i arg2 harg2 arg3 harg3 arg4 harg4 arg6 arg7 arg8 x0 x1 x2

theorem cars_eq :
    (kernelRun0_A.sl.r_8 c i arg2 harg2 arg3 harg3 arg6 arg7 x0 x1, kernelRun0_A.sl.r_12 c i arg2 harg2 arg3 harg3 arg6 arg7 x0 x1,
     kernelRun0_A.sl.r_16 c i arg2 harg2 arg3 harg3 arg6 arg7 x0 x1, kernelRun0_A.sl.r_20 c i arg2 harg2 arg3 harg3 arg6 arg7 x0 x1,
     kernelRun0_A.sl.r_24 c i arg2 harg2 arg3 harg3 arg6 arg7 x0 x1, kernelRun0_A.sl.r_29 c i arg2 harg2 arg3 harg3 arg6 arg7 x0 x1,
     kernelRun0_A.sl.r_32 c i arg2 harg2 arg3 harg3 arg6 arg7 x0 x1, kernelRun0_A.sl.r_33 c i arg2 harg2 arg3 harg3 arg6 arg7 x0 x1)
    = tup (carD c i arg2 harg2 arg3 harg3 arg6 arg7 x0 x1) := by
  rfl

abbrev partD (h : Fin 8) : Vec F S1x256x128 .f32 :=
  accOf (maskOf (aOf (zD c i arg2 harg2 arg3 harg3 arg6 x0 x1 h) (inD c i arg2 harg2 arg3 harg3 arg6 arg7 x0 x1 h) carZ))
    (oldD c i arg2 harg2 arg3 harg3 arg4 harg4 arg6 arg7 arg8 x0 x1 x2 h) (vD i arg4 harg4 x2 h)

theorem parts_eq :
    kernelRun0_A.sl.HS2_9 c i arg2 harg2 arg3 harg3 arg4 harg4 arg6 arg7 arg8 x0 x1 x2
    = hp (partD c i arg2 harg2 arg3 harg3 arg4 harg4 arg6 arg7 arg8 x0 x1 x2) ++ kernelRun0_A.sl.HS2_1 := by
  rfl

/-! ## The parts the diagonal block starts from, and the block written -/

theorem hR_disjoint (a b : Fin 8) (hab : a ≠ b) : Disjoint (hR a).set (hR b).toLoadRect.set := by
  rw [Finset.disjoint_left]
  intro x hx hy
  obtain ⟨u, rfl⟩ := (hR a).exists_idx_of_mem hx
  obtain ⟨w, hw⟩ := (hR b).exists_idx_of_mem hy
  have := congrArg (fun x => (x (0 : Fin 3)).val) hw
  have h1 : ((hR b).emb w (0 : Fin 3)).val = b.val + 1 * (w (0 : Fin 3)).val := rfl
  have h2 : ((hR a).emb u (0 : Fin 3)).val = a.val + 1 * (u (0 : Fin 3)).val := rfl
  have h3 : (u (0 : Fin 3)).val < 1 := (u (0 : Fin 3)).isLt
  have h4 : (w (0 : Fin 3)).val < 1 := (w (0 : Fin 3)).isLt
  apply hab
  apply Fin.ext
  change ((hR b).emb w (0 : Fin 3)).val = ((hR a).emb u (0 : Fin 3)).val at this
  omega

theorem read_skip (v : View sig .tc .vmem S8x256x128 .f32) (a : Fin 8) (w : Vec F S1x256x128 .f32)
    (L : List (View.Piece (Elt F) S8x256x128 .f32)) (h : Fin 8) (hah : a ≠ h) :
    v.readCov ((⟨hR a, w⟩ : View.Piece (Elt F) S8x256x128 .f32) :: L) (hR h).toLoadRect = v.readCov L (hR h).toLoadRect :=
  View.readCov_cons_of_disjoint v _ L _ (hR_disjoint a h hah)

theorem read_zero (v : View sig .tc .vmem S8x256x128 .f32) (h : Fin 8) :
    v.readCov (kernelRun0_A.sl.HS2_1 (F := F)) (hR h).toLoadRect = fun _ => Scalar.ofBits .f32 0x00000000#32 := by
  unfold kernelRun0_A.sl.HS2_1
  rw [View.readCov_eq_canon']
  funext j
  exact congrFun (View.canon_cons_unit_lit (Val := Elt F) (e := EltTy.f32) (S := S8x256x128) (off := ![0, 0, 0])
    inb_S8x256x128_S8x256x128_0_0_0 k0_pay96 [] (by decide)) _

theorem oldD_eq (h : Fin 8) :
    oldD c i arg2 harg2 arg3 harg3 arg4 harg4 arg6 arg7 arg8 x0 x1 x2 h = fun _ => Scalar.ofBits .f32 0x00000000#32 := by
  match h with
  | 0 => exact read_zero arg8.view 0
  | 1 => exact (read_skip arg8.view 0 _ _ 1 (by decide)).trans (read_zero arg8.view 1)
  | 2 => exact (read_skip arg8.view 1 _ _ 2 (by decide)).trans ((read_skip arg8.view 0 _ _ 2 (by decide)).trans (read_zero arg8.view 2))
  | 3 => exact (read_skip arg8.view 2 _ _ 3 (by decide)).trans ((read_skip arg8.view 1 _ _ 3 (by decide)).trans ((read_skip arg8.view 0 _ _ 3 (by decide)).trans (read_zero arg8.view 3)))
  | 4 => exact (read_skip arg8.view 3 _ _ 4 (by decide)).trans ((read_skip arg8.view 2 _ _ 4 (by decide)).trans ((read_skip arg8.view 1 _ _ 4 (by decide)).trans ((read_skip arg8.view 0 _ _ 4 (by decide)).trans (read_zero arg8.view 4))))
  | 5 => exact (read_skip arg8.view 4 _ _ 5 (by decide)).trans ((read_skip arg8.view 3 _ _ 5 (by decide)).trans ((read_skip arg8.view 2 _ _ 5 (by decide)).trans ((read_skip arg8.view 1 _ _ 5 (by decide)).trans ((read_skip arg8.view 0 _ _ 5 (by decide)).trans (read_zero arg8.view 5)))))
  | 6 => exact (read_skip arg8.view 5 _ _ 6 (by decide)).trans ((read_skip arg8.view 4 _ _ 6 (by decide)).trans ((read_skip arg8.view 3 _ _ 6 (by decide)).trans ((read_skip arg8.view 2 _ _ 6 (by decide)).trans ((read_skip arg8.view 1 _ _ 6 (by decide)).trans ((read_skip arg8.view 0 _ _ 6 (by decide)).trans (read_zero arg8.view 6))))))
  | 7 => exact (read_skip arg8.view 6 _ _ 7 (by decide)).trans ((read_skip arg8.view 5 _ _ 7 (by decide)).trans ((read_skip arg8.view 4 _ _ 7 (by decide)).trans ((read_skip arg8.view 3 _ _ 7 (by decide)).trans ((read_skip arg8.view 2 _ _ 7 (by decide)).trans ((read_skip arg8.view 1 _ _ 7 (by decide)).trans ((read_skip arg8.view 0 _ _ 7 (by decide)).trans (read_zero arg8.view 7)))))))

abbrev oR0 : Rect S1x256x512 := Rect.unit (s := S1x256x512) ![0, 0, 0] S1x256x128.size inb_S1x256x512_S1x256x128_0_0_0
abbrev oR1 : Rect S1x256x512 := Rect.unit (s := S1x256x512) ![0, 0, 128] S1x256x128.size inb_S1x256x512_S1x256x128_0_0_128
abbrev oR2 : Rect S1x256x512 := Rect.unit (s := S1x256x512) ![0, 0, 256] S1x256x128.size inb_S1x256x512_S1x256x128_0_0_256
abbrev oR3 : Rect S1x256x512 := Rect.unit (s := S1x256x512) ![0, 0, 384] S1x256x128.size inb_S1x256x512_S1x256x128_0_0_384

/-- The block written, two heads to a piece. -/
abbrev outP (g : Fin 8 → Vec F S1x256x128 .f32) : List (View.Piece (Elt F) S1x256x512 .bf16) :=
  [⟨oR3, k0_pay150 (g 6) (g 7)⟩, ⟨oR2, k0_pay150 (g 4) (g 5)⟩, ⟨oR1, k0_pay150 (g 2) (g 3)⟩, ⟨oR0, k0_pay150 (g 0) (g 1)⟩]

/-- The first loop's state at its end. -/
abbrev stE := stL Variants.none c none i arg2 harg2 arg3 harg3 arg4 harg4 arg5 harg5 arg6 harg6 arg7 harg7 arg8 harg8
    (BitVec.ofNat 32 (i 1).val) (carD c i arg2 harg2 arg3 harg3 arg6 arg7 x0 x1 0) (carD c i arg2 harg2 arg3 harg3 arg6 arg7 x0 x1 1)
    (carD c i arg2 harg2 arg3 harg3 arg6 arg7 x0 x1 2) (carD c i arg2 harg2 arg3 harg3 arg6 arg7 x0 x1 3)
    (carD c i arg2 harg2 arg3 harg3 arg6 arg7 x0 x1 4) (carD c i arg2 harg2 arg3 harg3 arg6 arg7 x0 x1 5)
    (carD c i arg2 harg2 arg3 harg3 arg6 arg7 x0 x1 6) (carD c i arg2 harg2 arg3 harg3 arg6 arg7 x0 x1 7)
    0#32 (kernelRun0_A.sl.v407 i) 1#32 (harg3.unread x1) (harg4.unread x2) (X6' c arg2 harg2 arg6 x0) (X7' arg7)
    (carD c i arg2 harg2 arg3 harg3 arg6 arg7 x0 x1)
    (hp (partD c i arg2 harg2 arg3 harg3 arg4 harg4 arg6 arg7 arg8 x0 x1 x2) ++ kernelRun0_A.sl.HS2_1)
    (k0_t1_loop i).trips

theorem trips2 (i : grid0.Coords) : Scf.trips (k0_t2_loop i).lb (k0_t2_loop i).ub (k0_t2_loop i).st = 0 := by
  have : ∀ x : Fin 16, (Scf.trips (Scalar.addi 0#32 (Scalar.muli (Scalar.divsi (Scalar.subi (BitVec.ofNat 32 x.val) 0#32) 1#32) 1#32))
    (Scalar.addi 0#32 (Scalar.subi (BitVec.ofNat 32 x.val) 0#32)) 1#32) = 0 := by decide +kernel
  exact this (i 1)

/-- Head `h`'s part at the end. -/
abbrev finP (h : Fin 8) : Vec F S1x256x128 .f32 :=
  arg8.view.readCov ((stE c i arg2 harg2 arg3 harg3 arg4 harg4 arg5 harg5 arg6 harg6 arg7 harg7 arg8 harg8 x0 x1 x2).2
    ++ (hp (partD c i arg2 harg2 arg3 harg3 arg4 harg4 arg6 arg7 arg8 x0 x1 x2) ++ kernelRun0_A.sl.HS2_1)) (hR h).toLoadRect

theorem v417_eq : kernelRun0_A.sl.v417 c i arg2 harg2 arg3 harg3 arg4 harg4 arg5 harg5 arg6 harg6 arg7 harg7 arg8 harg8 x0 x1 x2 = finP c i arg2 harg2 arg3 harg3 arg4 harg4 arg5 harg5 arg6 harg6 arg7 harg7 arg8 harg8 x0 x1 x2 0 := by
  unfold kernelRun0_A.sl.v417
  rw [trips2, st_k0_t2, List.nil_append, parts_eq]
  rfl

theorem v419_eq : kernelRun0_A.sl.v419 c i arg2 harg2 arg3 harg3 arg4 harg4 arg5 harg5 arg6 harg6 arg7 harg7 arg8 harg8 x0 x1 x2 = finP c i arg2 harg2 arg3 harg3 arg4 harg4 arg5 harg5 arg6 harg6 arg7 harg7 arg8 harg8 x0 x1 x2 1 := by
  unfold kernelRun0_A.sl.v419
  rw [trips2, st_k0_t2, List.nil_append, parts_eq]
  rfl

theorem v428_eq : kernelRun0_A.sl.v428 c i arg2 harg2 arg3 harg3 arg4 harg4 arg5 harg5 arg6 harg6 arg7 harg7 arg8 harg8 x0 x1 x2 = finP c i arg2 harg2 arg3 harg3 arg4 harg4 arg5 harg5 arg6 harg6 arg7 harg7 arg8 harg8 x0 x1 x2 2 := by
  unfold kernelRun0_A.sl.v428
  rw [trips2, st_k0_t2, List.nil_append, parts_eq]
  rfl

theorem v430_eq : kernelRun0_A.sl.v430 c i arg2 harg2 arg3 harg3 arg4 harg4 arg5 harg5 arg6 harg6 arg7 harg7 arg8 harg8 x0 x1 x2 = finP c i arg2 harg2 arg3 harg3 arg4 harg4 arg5 harg5 arg6 harg6 arg7 harg7 arg8 harg8 x0 x1 x2 3 := by
  unfold kernelRun0_A.sl.v430
  rw [trips2, st_k0_t2, List.nil_append, parts_eq]
  rfl

theorem v439_eq : kernelRun0_A.sl.v439 c i arg2 harg2 arg3 harg3 arg4 harg4 arg5 harg5 arg6 harg6 arg7 harg7 arg8 harg8 x0 x1 x2 = finP c i arg2 harg2 arg3 harg3 arg4 harg4 arg5 harg5 arg6 harg6 arg7 harg7 arg8 harg8 x0 x1 x2 4 := by
  unfold kernelRun0_A.sl.v439
  rw [trips2, st_k0_t2, List.nil_append, parts_eq]
  rfl

theorem v441_eq : kernelRun0_A.sl.v441 c i arg2 harg2 arg3 harg3 arg4 harg4 arg5 harg5 arg6 harg6 arg7 harg7 arg8 harg8 x0 x1 x2 = finP c i arg2 harg2 arg3 harg3 arg4 harg4 arg5 harg5 arg6 harg6 arg7 harg7 arg8 harg8 x0 x1 x2 5 := by
  unfold kernelRun0_A.sl.v441
  rw [trips2, st_k0_t2, List.nil_append, parts_eq]
  rfl

theorem v450_eq : kernelRun0_A.sl.v450 c i arg2 harg2 arg3 harg3 arg4 harg4 arg5 harg5 arg6 harg6 arg7 harg7 arg8 harg8 x0 x1 x2 = finP c i arg2 harg2 arg3 harg3 arg4 harg4 arg5 harg5 arg6 harg6 arg7 harg7 arg8 harg8 x0 x1 x2 6 := by
  unfold kernelRun0_A.sl.v450
  rw [trips2, st_k0_t2, List.nil_append, parts_eq]
  rfl

theorem v452_eq : kernelRun0_A.sl.v452 c i arg2 harg2 arg3 harg3 arg4 harg4 arg5 harg5 arg6 harg6 arg7 harg7 arg8 harg8 x0 x1 x2 = finP c i arg2 harg2 arg3 harg3 arg4 harg4 arg5 harg5 arg6 harg6 arg7 harg7 arg8 harg8 x0 x1 x2 7 := by
  unfold kernelRun0_A.sl.v452
  rw [trips2, st_k0_t2, List.nil_append, parts_eq]
  rfl

/-- The kernel's block, in terms of the loop's end. -/
theorem out_eq : (kernelRun0_A c i arg2 harg2 arg3 harg3 arg4 harg4 arg5 harg5 arg6 harg6 arg7 harg7 arg8 harg8 x0 x1 x2).1 = outP (finP c i arg2 harg2 arg3 harg3 arg4 harg4 arg5 harg5 arg6 harg6 arg7 harg7 arg8 harg8 x0 x1 x2) := by
  unfold kernelRun0_A
  dsimp only
  unfold kernelRun0_A.sl.r_34
  rw [v417_eq, v419_eq, v428_eq, v430_eq, v439_eq, v441_eq, v450_eq, v452_eq]
  rfl

end diag

end Cert.SbIdeal.Hand
-- ==== Proof.SbMath.lean ====
/-
  The stick-breaking kernel's arithmetic over the extended reals, for one head and one block of queries.
-/
module

public import proofs.«01_k».proof.Proof.SbTrip
public import Idealize.ShloMosaic.Lib.Pointwise
public import Idealize.ShloMosaic.Lib.Tactic
public import Idealize.ShloMosaic.Lib.Claim

@[expose] public section

set_option maxRecDepth 16384

noncomputable section

open Idealize.ShloMosaic Idealize.ShloMosaic.TcCoe Idealize.SL.Sem

namespace Cert.SbMath

/-- The softplus. -/
def sp (x : ℝ) : ℝ := max x 0 + Real.log (1 + Real.exp (-|x|))

theorem absmax (x : ℝ) : max (x : EReal) (-(x : EReal)) = ((|x| : ℝ) : EReal) := by
  rw [← EReal.coe_neg]
  exact (EReal.coe_strictMono.monotone.map_max (a := x) (b := -x)).symm

/-- The softplus on the extended reals. -/
def spE : EReal → EReal
  | ⊥ => 0
  | ⊤ => ⊤
  | (r : ℝ) => ((sp r : ℝ) : EReal)

theorem spE_coe (x : ℝ) : spE (x : EReal) = ((sp x : ℝ) : EReal) := rfl
theorem spE_bot : spE ⊥ = 0 := rfl
theorem spE_top : spE ⊤ = ⊤ := rfl

theorem sp_nonneg (x : ℝ) : 0 ≤ sp x :=
  add_nonneg (le_max_right _ _) (Real.log_nonneg (by have := Real.exp_pos (-|x|); linarith))

theorem spE_nonneg (x : EReal) : 0 ≤ spE x := by
  induction x with
  | bot => exact le_rfl
  | top => exact le_top
  | coe x => rw [spE_coe]; exact_mod_cast sp_nonneg x

theorem log_one : Ideal.log 1 = 0 := by
  rw [← EReal.coe_one, Ideal.log_coe, if_neg (by norm_num), Real.log_one, EReal.coe_zero]

theorem sp_ereal (x : EReal) :
    max x 0 + Ideal.log (1 + Ideal.exp2 (max x (-x) * ((-(Real.log 2)⁻¹ : ℝ) : EReal))) = spE x := by
  have h2 : Real.log 2 ≠ 0 := (Real.log_pos (by norm_num)).ne'
  have hn : -(Real.log 2)⁻¹ < 0 := neg_lt_zero.mpr (inv_pos.mpr (Real.log_pos (by norm_num)))
  have hb : Ideal.exp2 ⊥ = 0 := rfl
  induction x with
  | bot =>
    rw [EReal.neg_bot, max_eq_right bot_le, max_eq_right bot_le, EReal.top_mul_coe_of_neg hn, hb, add_zero, log_one, add_zero, spE_bot]
  | top =>
    rw [EReal.neg_top, max_eq_left le_top, max_eq_left le_top, EReal.top_mul_coe_of_neg hn, hb, add_zero, log_one, add_zero, spE_top]
  | coe x =>
    have he : Real.rpow 2 (|x| * -(Real.log 2)⁻¹) = Real.exp (-|x|) := by
      show (2 : ℝ) ^ (|x| * -(Real.log 2)⁻¹) = _
      rw [Real.rpow_def_of_pos (by norm_num)]
      congr 1
      field_simp
    have hp : ¬ (1 + Real.exp (-|x|) ≤ 0) := not_le.mpr (by positivity)
    rw [absmax, ← EReal.coe_mul, Ideal.exp2_coe, he, ← EReal.coe_one, ← EReal.coe_add, Ideal.log_coe, if_neg hp, ← EReal.coe_zero]
    rw [show max (x : EReal) ((0 : ℝ) : EReal) = ((max x 0 : ℝ) : EReal) from (EReal.coe_strictMono.monotone.map_max (a := x) (b := 0)).symm, ← EReal.coe_add]
    rfl

theorem exp2_ereal (x : EReal) : Ideal.exp2 (x * (((Real.log 2)⁻¹ : ℝ) : EReal)) = Ideal.exp x := by
  have hn : 0 < (Real.log 2)⁻¹ := inv_pos.mpr (Real.log_pos (by norm_num))
  induction x with
  | bot => rw [EReal.bot_mul_coe_of_pos hn]; rfl
  | top => rw [EReal.top_mul_coe_of_pos hn]; rfl
  | coe x =>
    have h2 : Real.log 2 ≠ 0 := (Real.log_pos (by norm_num)).ne'
    have he : Real.rpow 2 (x * (Real.log 2)⁻¹) = Real.exp x := by
      show (2 : ℝ) ^ (x * (Real.log 2)⁻¹) = _
      rw [Real.rpow_def_of_pos (by norm_num)]
      congr 1
      field_simp
    rw [← EReal.coe_mul, Ideal.exp2_coe, he, Ideal.exp_coe]

/-- The sum of the negated softplus over a stretch of columns. -/
def nps (f : ℕ → EReal) (a b : ℕ) : EReal := ∑ s ∈ Finset.Ico a b, -(spE (f s))

/-- The accumulated value from column `lo` on, for the query at position `t`. -/
def acc (f : ℕ → EReal) (v : ℕ → EReal) (lo t : ℕ) : EReal :=
  ∑ s ∈ Finset.Ico lo t, Ideal.exp (f s + nps f s t) * v s

theorem sum_block {M : Type} [AddCommMonoid M] (j : ℕ) (g : ℕ → M) :
    ∑ c : Fin 256, g (256 * j + c.val) = ∑ s ∈ Finset.Ico (256 * j) (256 * j + 256), g s := by
  rw [Fin.sum_univ_eq_sum_range (fun c => g (256 * j + c)), Finset.sum_Ico_eq_sum_range]
  simp

/-- Taking one more block of columns. -/
theorem acc_step (f : ℕ → EReal) (v : ℕ → EReal) (j t : ℕ) (h : 256 * j + 256 ≤ t) :
    acc f v (256 * j) t
      = acc f v (256 * j + 256) t
        + ∑ c : Fin 256, Ideal.exp (f (256 * j + c.val) + nps f (256 * j + c.val) t) * v (256 * j + c.val) := by
  rw [sum_block j (fun s => Ideal.exp (f s + nps f s t) * v s)]
  unfold acc
  rw [add_comm, Finset.sum_Ico_consecutive _ (by omega) h]

theorem nps_split (f : ℕ → EReal) (a b d : ℕ) (h : a ≤ b) (h' : b ≤ d) : nps f a d = nps f a b + nps f b d :=
  (Finset.sum_Ico_consecutive _ h h').symm

/-- The sum over the later columns of the block. -/
theorem later_block (f : ℕ → EReal) (j c : ℕ) (hc : c < 256) :
    ∑ c' : Fin 256, spE (f (256 * j + c'.val)) * (if c ≤ c'.val then -1 else 0) = nps f (256 * j + c) (256 * j + 256) := by
  have := sum_block (M := EReal) j (fun s => spE (f s) * (if 256 * j + c ≤ s then -1 else 0))
  simp only [Nat.add_le_add_iff_left] at this
  rw [this]
  unfold nps
  rw [← Finset.sum_Ico_consecutive _ (show 256 * j ≤ 256 * j + c by omega) (show 256 * j + c ≤ 256 * j + 256 by omega)]
  rw [Finset.sum_eq_zero (s := Finset.Ico (256 * j) (256 * j + c))
    (fun s hs => by rw [if_neg (by have := (Finset.mem_Ico.mp hs).2; omega), mul_zero])]
  rw [zero_add]
  refine Finset.sum_congr rfl fun s hs => ?_
  rw [if_pos (Finset.mem_Ico.mp hs).1, mul_neg, mul_one]

/-- The same in the diagonal block, only the columns under the diagonal counting. -/
theorem later_diag (f : ℕ → EReal) (j c r : ℕ) (hr : r < 256) (hc : c ≤ r) :
    ∑ c' : Fin 256, (if c'.val < r then spE (f (256 * j + c'.val)) else 0) * (if c ≤ c'.val then -1 else 0)
      = nps f (256 * j + c) (256 * j + r) := by
  have := sum_block (M := EReal) j (fun s => (if s < 256 * j + r then spE (f s) else 0) * (if 256 * j + c ≤ s then -1 else 0))
  simp only [Nat.add_le_add_iff_left, Nat.add_lt_add_iff_left] at this
  rw [this]
  unfold nps
  rw [← Finset.sum_Ico_consecutive _ (show 256 * j ≤ 256 * j + c by omega) (show 256 * j + c ≤ 256 * j + 256 by omega)]
  rw [← Finset.sum_Ico_consecutive _ (show 256 * j + c ≤ 256 * j + r by omega) (show 256 * j + r ≤ 256 * j + 256 by omega)]
  rw [Finset.sum_eq_zero (s := Finset.Ico (256 * j) (256 * j + c))
    (fun s hs => by rw [if_neg (show ¬ 256 * j + c ≤ s by have := (Finset.mem_Ico.mp hs).2; omega), mul_zero])]
  rw [Finset.sum_eq_zero (s := Finset.Ico (256 * j + r) (256 * j + 256))
    (fun s hs => by rw [if_neg (show ¬ s < 256 * j + r by have := (Finset.mem_Ico.mp hs).1; omega), zero_mul])]
  rw [zero_add, add_zero]
  refine Finset.sum_congr rfl fun s hs => ?_
  rw [if_pos (Finset.mem_Ico.mp hs).1, if_pos (Finset.mem_Ico.mp hs).2, mul_neg, mul_one]

/-- The accumulated value of the diagonal block. -/
theorem acc_diag (f : ℕ → EReal) (v : ℕ → EReal) (j r : ℕ) (hr : r < 256) :
    acc f v (256 * j) (256 * j + r)
      = ∑ c : Fin 256, (if c.val < r then Ideal.exp (f (256 * j + c.val) + nps f (256 * j + c.val) (256 * j + r)) else 0)
          * v (256 * j + c.val) := by
  have := sum_block (M := EReal) j (fun s => (if s < 256 * j + r then Ideal.exp (f s + nps f s (256 * j + r)) else 0) * v s)
  simp only [Nat.add_lt_add_iff_left] at this
  rw [this, ← Finset.sum_Ico_consecutive _ (show 256 * j ≤ 256 * j + r by omega) (show 256 * j + r ≤ 256 * j + 256 by omega)]
  rw [Finset.sum_eq_zero (s := Finset.Ico (256 * j + r) (256 * j + 256))
    (fun s hs => by rw [if_neg (show ¬ s < 256 * j + r by have := (Finset.mem_Ico.mp hs).1; omega), zero_mul]), add_zero]
  unfold acc
  exact Finset.sum_congr rfl fun s hs => by rw [if_pos (Finset.mem_Ico.mp hs).2]

end Cert.SbMath

namespace Cert.SbIdeal.Hand

open Cert.SbIdeal Cert.SbIdeal.Gen Cert.SbMath

theorem zero_eq : Ideal.ofBits FTy.f32 0#32 = 0 := by
  simp [Ideal.ofBits, Ideal.ieee]
theorem one_eq : Ideal.ofBits FTy.f32 1065353216#32 = 1 := by
  simp [Ideal.ofBits, Ideal.ieee]
  rw [← EReal.coe_one, ← EReal.coe_mul]
  norm_num
theorem neglog_eq : Named.named (F := Ideal) κ "neg_log2e" (φ := .f32) 0xBFB8AA3B#32 = ((-(Real.log 2)⁻¹ : ℝ) : EReal) :=
  IdealRules.named_const.ideal_named_scalar _ _ _ _ rfl
theorem log_eq : Named.named (F := Ideal) κ "log2e" (φ := .f32) 0x3FB8AA3B#32 = (((Real.log 2)⁻¹ : ℝ) : EReal) :=
  IdealRules.named_const.ideal_named_scalar _ _ _ _ rfl

theorem spOf_at (z : FVec Ideal S256x256 .f32) (r c : Fin 256) : spOf z (ix2 r c) = spE (z (ix2 r c)) := by
  rw [← sp_ereal]
  pointwise [spOf]
  rfl

theorem aOf_at (z incl : FVec Ideal S256x256 .f32) (car : FVec Ideal S256x1 .f32) (r c : Fin 256) :
    aOf z incl car (ix2 r c) = Ideal.exp (z (ix2 r c) + incl (ix2 r c) + car (ix2 r 0)) := by
  rw [← exp2_ereal]
  pointwise [aOf]
  rfl

theorem inclOf_at (L : Vec Ideal S256x256 .bf16) (s : FVec Ideal S256x256 .f32) (r c : Fin 256) :
    inclOf L s (ix2 r c) = ∑ c' : Fin 256, s (ix2 r c') * L (ix2 c' c) := by
  pointwise [inclOf]

theorem accOf_at (a : FVec Ideal S256x256 .f32) (old : Vec Ideal S1x256x128 .f32) (V : Vec Ideal S1x256x128 .bf16) (r : Fin 256) (l : Fin 128) :
    accOf a old V (ix3 0 r l) = old (ix3 0 r l) + ∑ c : Fin 256, a (ix2 r c) * V (ix3 0 c l) := by
  pointwise [accOf]

theorem carOf_at (car : FVec Ideal S256x1 .f32) (incl : FVec Ideal S256x256 .f32) (r : Fin 256) :
    carOf car incl (ix2 r 0) = car (ix2 r 0) + incl (ix2 r 0) := by
  pointwise [carOf]

theorem zOf_at (Q : Vec Ideal S256x128 .bf16) (K : Vec Ideal S128x256 .bf16) (r c : Fin 256) :
    zOf Q K (ix2 r c) = ∑ l : Fin 128, Q (ix2 r l) * K (ix2 l c) := by
  pointwise [zOf]

theorem select_if {α : Type} (b : BitVec 1) (x y : α) : Scalar.select b x y = if b = 1#1 then x else y := by
  unfold Scalar.select
  rfl

theorem maskOf_at (s : FVec Ideal S256x256 .f32) (r c : Fin 256) :
    maskOf s (ix2 r c) = if c.val < r.val then s (ix2 r c) else 0 := by
  pointwise [maskOf, k0_pay82]
  have hr := r.isLt
  have hc := c.isLt
  rw [WordCmp.cmpi_slt_ofNat (by omega) (by omega), select_if]
  simp only [WordCmp.ofBool_decide_eq_one_iff]

theorem neg_one_eq : Ideal.ofBits FTy.f32 3212836864#32 = ((-1 : ℝ) : EReal) := by
  simp [Ideal.ofBits, Ideal.ieee]
  rw [← EReal.coe_one, ← EReal.coe_mul]
  norm_num

theorem later_at (r c : Fin 256) : (k0_pay81 (F := Ideal)) (ix2 r c) = if c.val ≤ r.val then -1 else 0 := by
  pointwise [k0_pay81]
  have hr := r.isLt
  have hc := c.isLt
  rw [WordCmp.cmpi_sge_ofNat (by omega) (by omega), select_if, neg_one_eq]
  simp only [WordCmp.ofBool_decide_eq_one_iff]
  split <;> simp

section steps

variable (f : ℕ → EReal) (v : ℕ → EReal) (z : FVec Ideal S256x256 .f32) (L : Vec Ideal S256x256 .bf16)
variable (car : FVec Ideal S256x1 .f32) (old : Vec Ideal S1x256x128 .f32) (V : Vec Ideal S1x256x128 .bf16)
variable (j : ℕ) (r : Fin 256) (l : Fin 128)

theorem incl_step (hz : ∀ c : Fin 256, z (ix2 r c) = f (256 * j + c.val))
    (hL : ∀ a b : Fin 256, L (ix2 a b) = if b.val ≤ a.val then -1 else 0) (c : Fin 256) :
    inclOf L (spOf z) (ix2 r c) = nps f (256 * j + c.val) (256 * j + 256) := by
  rw [inclOf_at, ← later_block f j c.val c.isLt]
  exact Finset.sum_congr rfl fun c' _ => by rw [spOf_at, hz c', hL]

/-- One head's carried sum after a trip. -/
theorem car_step (t : ℕ) (ht : 256 * j + 256 ≤ t)
    (hz : ∀ c : Fin 256, z (ix2 r c) = f (256 * j + c.val))
    (hL : ∀ a b : Fin 256, L (ix2 a b) = if b.val ≤ a.val then -1 else 0)
    (hcar : car (ix2 r 0) = nps f (256 * j + 256) t) :
    carOf car (inclOf L (spOf z)) (ix2 r 0) = nps f (256 * j) t := by
  rw [carOf_at, hcar, incl_step f z L j r hz hL, nps_split f (256 * j) (256 * j + 256) t (by omega) ht]
  exact add_comm _ _

/-- One head's accumulated values after a trip. -/
theorem acc_step_at (t : ℕ) (ht : 256 * j + 256 ≤ t)
    (hz : ∀ c : Fin 256, z (ix2 r c) = f (256 * j + c.val))
    (hL : ∀ a b : Fin 256, L (ix2 a b) = if b.val ≤ a.val then -1 else 0)
    (hcar : car (ix2 r 0) = nps f (256 * j + 256) t)
    (hold : old (ix3 0 r l) = acc f v (256 * j + 256) t)
    (hV : ∀ c : Fin 256, V (ix3 0 c l) = v (256 * j + c.val)) :
    accOf (aOf z (inclOf L (spOf z)) car) old V (ix3 0 r l) = acc f v (256 * j) t := by
  rw [accOf_at, hold, acc_step f v j t ht]
  congr 1
  refine Finset.sum_congr rfl fun c _ => ?_
  rw [aOf_at, hz c, incl_step f z L j r hz hL c, hcar, hV, nps_split f (256 * j + c.val) (256 * j + 256) t (by omega) ht, add_assoc]

theorem incl_diag (hz : ∀ c : Fin 256, z (ix2 r c) = f (256 * j + c.val))
    (hL : ∀ a b : Fin 256, L (ix2 a b) = if b.val ≤ a.val then -1 else 0) (c : Fin 256) (hc : c.val ≤ r.val) :
    inclOf L (maskOf (spOf z)) (ix2 r c) = nps f (256 * j + c.val) (256 * j + r.val) := by
  rw [inclOf_at, ← later_diag f j c.val r.val r.isLt hc]
  refine Finset.sum_congr rfl fun c' _ => ?_
  rw [maskOf_at, spOf_at, hz c', hL]

/-- One head's carried sum after the diagonal block. -/
theorem car_diag (hz : ∀ c : Fin 256, z (ix2 r c) = f (256 * j + c.val))
    (hL : ∀ a b : Fin 256, L (ix2 a b) = if b.val ≤ a.val then -1 else 0)
    (hcar : car (ix2 r 0) = 0) :
    carOf car (inclOf L (maskOf (spOf z))) (ix2 r 0) = nps f (256 * j) (256 * j + r.val) := by
  rw [carOf_at, hcar, incl_diag f z L j r hz hL 0 (Nat.zero_le _), zero_add]
  rfl

/-- One head's accumulated values after the diagonal block. -/
theorem acc_diag_at (hz : ∀ c : Fin 256, z (ix2 r c) = f (256 * j + c.val))
    (hL : ∀ a b : Fin 256, L (ix2 a b) = if b.val ≤ a.val then -1 else 0)
    (hcar : car (ix2 r 0) = 0) (hold : old (ix3 0 r l) = 0)
    (hV : ∀ c : Fin 256, V (ix3 0 c l) = v (256 * j + c.val)) :
    accOf (maskOf (aOf z (inclOf L (maskOf (spOf z))) car)) old V (ix3 0 r l) = acc f v (256 * j) (256 * j + r.val) := by
  rw [accOf_at, hold, acc_diag f v j r.val r.isLt, zero_add]
  refine Finset.sum_congr rfl fun c _ => ?_
  rw [maskOf_at, hV]
  split
  · rename_i h
    rw [aOf_at, hz c, incl_diag f z L j r hz hL c (by omega), hcar, add_zero]
  · rfl

end steps

end Cert.SbIdeal.Hand
-- ==== Proof.SbPoint.lean ====
/-
  One point of the stick-breaking kernel at the extended reals: where its loads stand, what they read, and that every
  head's part at the end is the sum over all the earlier columns.
-/
module

public import proofs.«01_k».proof.Proof.SbLoop
public import proofs.«01_k».proof.Proof.SbMath

@[expose] public section

set_option maxRecDepth 16384

noncomputable section

open Idealize.ShloMosaic Idealize.ShloMosaic.TcCoe Idealize.SL.Sem

namespace Cert.SbIdeal.Hand

open Cert.SbIdeal Cert.SbIdeal.Gen Cert.SbMath

/-! ## Trip counts and offsets -/

theorem trips1 (i : grid0.Coords) : (k0_t1_loop i).trips = (i 1).val := by
  have : ∀ x : Fin 16, Scf.trips 0#32 (Scalar.addi 0#32 (Scalar.muli (Scalar.divsi (Scalar.subi (BitVec.ofNat 32 x.val) 0#32) 1#32) 1#32)) 1#32 = x.val := by decide +kernel
  exact this (i 1)

theorem trip_word (i : grid0.Coords) (k : Fin (k0_t1_loop i).trips) :
    (Scalar.indexCast (Scalar.muli (Scalar.subi (Scalar.subi (BitVec.ofNat 32 (i 1).val) 1#32) (Scf.iv 0#32 1#32 k.val)) 256#32)).toNat
      = 256 * ((i 1).val - 1 - k.val) := by
  have : ∀ x y : Fin 16, y.val < x.val → (Scalar.indexCast (Scalar.muli (Scalar.subi (Scalar.subi (BitVec.ofNat 32 x.val) 1#32) (Scf.iv 0#32 1#32 y.val)) 256#32)).toNat
      = 256 * (x.val - 1 - y.val) := by decide +kernel
  have hk := k.isLt
  have ht := trips1 i
  have hi : (i 1).val < 16 := (i 1).isLt
  exact this (i 1) ⟨k.val, by omega⟩ (by show k.val < _; omega)

theorem diag_word (i : grid0.Coords) :
    (Scalar.indexCast (Scalar.muli (BitVec.ofNat 32 (i 1).val) 256#32)).toNat = 256 * (i 1).val := by
  have : ∀ x : Fin 16, (Scalar.indexCast (Scalar.muli (BitVec.ofNat 32 x.val) 256#32)).toNat = 256 * x.val := by decide +kernel
  exact this (i 1)

theorem kOff_0 (i : grid0.Coords) (k : Fin (k0_t1_loop i).trips) (h : Fin 8) : kOff i k h 0 = 128 * (h.val / 2) := by
  match h with
  | 0 => rfl
  | 1 => rfl
  | 2 => rfl
  | 3 => rfl
  | 4 => rfl
  | 5 => rfl
  | 6 => rfl
  | 7 => rfl
theorem kOff_1 (i : grid0.Coords) (k : Fin (k0_t1_loop i).trips) (h : Fin 8) : kOff i k h 1 = 256 * ((i 1).val - 1 - k.val) := by
  match h with
  | 0 => exact trip_word i k
  | 1 => exact trip_word i k
  | 2 => exact trip_word i k
  | 3 => exact trip_word i k
  | 4 => exact trip_word i k
  | 5 => exact trip_word i k
  | 6 => exact trip_word i k
  | 7 => exact trip_word i k
theorem vOff_0 (i : grid0.Coords) (k : Fin (k0_t1_loop i).trips) (h : Fin 8) : vOff i k h 0 = 0 := by
  match h with
  | 0 => rfl
  | 1 => rfl
  | 2 => rfl
  | 3 => rfl
  | 4 => rfl
  | 5 => rfl
  | 6 => rfl
  | 7 => rfl
theorem vOff_1 (i : grid0.Coords) (k : Fin (k0_t1_loop i).trips) (h : Fin 8) : vOff i k h 1 = 256 * ((i 1).val - 1 - k.val) := by
  match h with
  | 0 => exact trip_word i k
  | 1 => exact trip_word i k
  | 2 => exact trip_word i k
  | 3 => exact trip_word i k
  | 4 => exact trip_word i k
  | 5 => exact trip_word i k
  | 6 => exact trip_word i k
  | 7 => exact trip_word i k
theorem vOff_2 (i : grid0.Coords) (k : Fin (k0_t1_loop i).trips) (h : Fin 8) : vOff i k h 2 = 128 * (h.val / 2) := by
  match h with
  | 0 => rfl
  | 1 => rfl
  | 2 => rfl
  | 3 => rfl
  | 4 => rfl
  | 5 => rfl
  | 6 => rfl
  | 7 => rfl
theorem kOffD_0 (i : grid0.Coords) (h : Fin 8) : kOffD i h 0 = 128 * (h.val / 2) := by
  match h with
  | 0 => rfl
  | 1 => rfl
  | 2 => rfl
  | 3 => rfl
  | 4 => rfl
  | 5 => rfl
  | 6 => rfl
  | 7 => rfl
theorem kOffD_1 (i : grid0.Coords) (h : Fin 8) : kOffD i h 1 = 256 * (i 1).val := by
  match h with
  | 0 => exact diag_word i
  | 1 => exact diag_word i
  | 2 => exact diag_word i
  | 3 => exact diag_word i
  | 4 => exact diag_word i
  | 5 => exact diag_word i
  | 6 => exact diag_word i
  | 7 => exact diag_word i
theorem vOffD_0 (i : grid0.Coords) (h : Fin 8) : vOffD i h 0 = 0 := by
  match h with
  | 0 => rfl
  | 1 => rfl
  | 2 => rfl
  | 3 => rfl
  | 4 => rfl
  | 5 => rfl
  | 6 => rfl
  | 7 => rfl
theorem vOffD_1 (i : grid0.Coords) (h : Fin 8) : vOffD i h 1 = 256 * (i 1).val := by
  match h with
  | 0 => exact diag_word i
  | 1 => exact diag_word i
  | 2 => exact diag_word i
  | 3 => exact diag_word i
  | 4 => exact diag_word i
  | 5 => exact diag_word i
  | 6 => exact diag_word i
  | 7 => exact diag_word i
theorem vOffD_2 (i : grid0.Coords) (h : Fin 8) : vOffD i h 2 = 128 * (h.val / 2) := by
  match h with
  | 0 => rfl
  | 1 => rfl
  | 2 => rfl
  | 3 => rfl
  | 4 => rfl
  | 5 => rfl
  | 6 => rfl
  | 7 => rfl

/-! ## What the loads read -/

theorem lane_lt (h : Fin 8) (l : Fin 128) : 128 * (h.val / 2) + l.val < 512 := by
  have := h.isLt
  have := l.isLt
  omega

section reads

variable (c : Dev nD) (i : grid0.Coords) (arg2 : Memref sig .tc .vmem S1x256x512 .bf16) (harg2 : arg2.IsWhole) (arg3 : Memref sig .tc .vmem S512x4096 .bf16) (harg3 : arg3.IsWhole) (arg4 : Memref sig .tc .vmem S1x4096x512 .bf16) (harg4 : arg4.IsWhole) (arg5 : Memref sig .tc .vmem S1x256x512 .bf16) (harg5 : arg5.IsWhole) (arg6 : Memref sig .tc .vmem S2048x128 .bf16) (harg6 : arg6.IsWhole) (arg7 : Memref sig .tc .vmem S256x256 .bf16) (harg7 : arg7.IsWhole) (arg8 : Memref sig .tc .vmem S8x256x128 .f32) (harg8 : arg8.IsWhole)
variable (x0 : Vec Ideal S1x256x512 .bf16) (x1 : Vec Ideal S512x4096 .bf16) (x2 : Vec Ideal S1x4096x512 .bf16)

/-- A block of the keys. -/
theorem key_at (off : Fin 2 → ℕ) (inb : ∀ a, off a + S128x256.size a ≤ S512x4096.size a) (p q : ℕ) (h0 : off 0 = p) (h1 : off 1 = q)
    (l : Fin 128) (s : Fin 256) (hp : p + l.val < 512) (hq : q + s.val < 4096) :
    View.readAt (Elt Ideal) arg3.view (Rect.unit (s := S512x4096) off S128x256.size inb).toLoadRect (harg3.unread x1) (ix2 l s)
      = x1 (ix2 ⟨p + l.val, hp⟩ ⟨q + s.val, hq⟩) := by
  rw [View.readAt_eq_ld, harg3.read_unread]
  refine congrArg x1 (funext fun d => Fin.ext ?_)
  match d with
  | ⟨0, _⟩ => show off 0 + 1 * l.val = p + l.val; omega
  | ⟨1, _⟩ => show off 1 + 1 * s.val = q + s.val; omega

/-- A block of the values. -/
theorem val_at (off : Fin 3 → ℕ) (inb : ∀ a, off a + S1x256x128.size a ≤ S1x4096x512.size a) (p q : ℕ) (h0 : off 0 = 0) (h1 : off 1 = q) (h2 : off 2 = p)
    (s : Fin 256) (l : Fin 128) (hp : p + l.val < 512) (hq : q + s.val < 4096) :
    View.readAt (Elt Ideal) arg4.view (Rect.unit (s := S1x4096x512) off S1x256x128.size inb).toLoadRect (harg4.unread x2) (ix3 0 s l)
      = x2 (ix3 0 ⟨q + s.val, hq⟩ ⟨p + l.val, hp⟩) := by
  rw [View.readAt_eq_ld, harg4.read_unread]
  refine congrArg x2 (funext fun d => Fin.ext ?_)
  match d with
  | ⟨0, _⟩ => show off 0 + 1 * 0 = 0; omega
  | ⟨1, _⟩ => show off 1 + 1 * s.val = q + s.val; omega
  | ⟨2, _⟩ => show off 2 + 1 * l.val = p + l.val; omega

/-- The table of later columns. -/
theorem later_read (a b : Fin 256) :
    View.readAt (Elt Ideal) arg7.view (Rect.unit (s := S256x256) ![0, 0] S256x256.size inb_S256x256_S256x256_0_0).toLoadRect (X7' (F := Ideal) arg7) (ix2 a b)
      = if b.val ≤ a.val then -1 else 0 := by
  rw [← later_at]
  unfold X7' kernelRun0_A.sl.HS1_1
  exact congrFun (View.readCov_cons_toLoadRect (Val := Elt Ideal) arg7.view (Rect.unit (s := S256x256) ![0, 0] S256x256.size inb_S256x256_S256x256_0_0) (k0_pay81 (F := Ideal)) []) (ix2 a b)

theorem qR_disjoint (a b : Fin 8) (hab : a ≠ b) : Disjoint (qR a).set (qR b).toLoadRect.set := by
  rw [Finset.disjoint_left]
  intro x hx hy
  obtain ⟨u, rfl⟩ := (qR a).exists_idx_of_mem hx
  obtain ⟨w, hw⟩ := (qR b).exists_idx_of_mem hy
  have := congrArg (fun x => (x (0 : Fin 2)).val) hw
  have h1 : ((qR b).emb w (0 : Fin 2)).val = 256 * b.val + 1 * (w (0 : Fin 2)).val := rfl
  have h2 : ((qR a).emb u (0 : Fin 2)).val = 256 * a.val + 1 * (u (0 : Fin 2)).val := rfl
  have h3 : (u (0 : Fin 2)).val < 256 := (u (0 : Fin 2)).isLt
  have h4 : (w (0 : Fin 2)).val < 256 := (w (0 : Fin 2)).isLt
  apply hab
  apply Fin.ext
  change ((qR b).emb w (0 : Fin 2)).val = ((qR a).emb u (0 : Fin 2)).val at this
  omega

theorem q_skip (v : View sig .tc .vmem S2048x128 .bf16) (a : Fin 8) (w : Vec Ideal S256x128 .bf16)
    (L : List (View.Piece (Elt Ideal) S2048x128 .bf16)) (h : Fin 8) (hah : a ≠ h) :
    v.readCov ((⟨qR a, w⟩ : View.Piece (Elt Ideal) S2048x128 .bf16) :: L) (qR h).toLoadRect = v.readCov L (qR h).toLoadRect :=
  View.readCov_cons_of_disjoint v _ L _ (qR_disjoint a h hah)

theorem q_hit (v : View sig .tc .vmem S2048x128 .bf16) (h : Fin 8) (w : Vec Ideal S256x128 .bf16)
    (L : List (View.Piece (Elt Ideal) S2048x128 .bf16)) :
    v.readCov ((⟨qR h, w⟩ : View.Piece (Elt Ideal) S2048x128 .bf16) :: L) (qR h).toLoadRect = w :=
  View.readCov_cons_toLoadRect v _ _ _

/-- Two heads' lanes of the queries. -/
abbrev qB (h : Fin 8) : Vec Ideal S1x256x128 .bf16 :=
  match h with
  | 0 | 1 => View.ld x0 (Rect.unit (s := S1x256x512) ![0, 0, 0] S1x256x128.size inb_S1x256x512_S1x256x128_0_0_0)
  | 2 | 3 => View.ld x0 (Rect.unit (s := S1x256x512) ![0, 0, 128] S1x256x128.size inb_S1x256x512_S1x256x128_0_0_128)
  | 4 | 5 => View.ld x0 (Rect.unit (s := S1x256x512) ![0, 0, 256] S1x256x128.size inb_S1x256x512_S1x256x128_0_0_256)
  | 6 | 7 => View.ld x0 (Rect.unit (s := S1x256x512) ![0, 0, 384] S1x256x128.size inb_S1x256x512_S1x256x128_0_0_384)

theorem qB_at (h : Fin 8) (r : Fin 256) (l : Fin 128) : qB x0 h (ix3 0 r l) = x0 (ix3 0 r ⟨128 * (h.val / 2) + l.val, lane_lt h l⟩) := by
  match h with
  | 0 =>
    refine congrArg x0 (funext fun d => Fin.ext ?_)
    match d with
    | ⟨0, _⟩ => rfl
    | ⟨1, _⟩ => show 0 + 1 * r.val = r.val; omega
    | ⟨2, _⟩ => show 0 + 1 * l.val = 0 + l.val; omega
  | 1 =>
    refine congrArg x0 (funext fun d => Fin.ext ?_)
    match d with
    | ⟨0, _⟩ => rfl
    | ⟨1, _⟩ => show 0 + 1 * r.val = r.val; omega
    | ⟨2, _⟩ => show 0 + 1 * l.val = 0 + l.val; omega
  | 2 =>
    refine congrArg x0 (funext fun d => Fin.ext ?_)
    match d with
    | ⟨0, _⟩ => rfl
    | ⟨1, _⟩ => show 0 + 1 * r.val = r.val; omega
    | ⟨2, _⟩ => show 128 + 1 * l.val = 128 + l.val; omega
  | 3 =>
    refine congrArg x0 (funext fun d => Fin.ext ?_)
    match d with
    | ⟨0, _⟩ => rfl
    | ⟨1, _⟩ => show 0 + 1 * r.val = r.val; omega
    | ⟨2, _⟩ => show 128 + 1 * l.val = 128 + l.val; omega
  | 4 =>
    refine congrArg x0 (funext fun d => Fin.ext ?_)
    match d with
    | ⟨0, _⟩ => rfl
    | ⟨1, _⟩ => show 0 + 1 * r.val = r.val; omega
    | ⟨2, _⟩ => show 256 + 1 * l.val = 256 + l.val; omega
  | 5 =>
    refine congrArg x0 (funext fun d => Fin.ext ?_)
    match d with
    | ⟨0, _⟩ => rfl
    | ⟨1, _⟩ => show 0 + 1 * r.val = r.val; omega
    | ⟨2, _⟩ => show 256 + 1 * l.val = 256 + l.val; omega
  | 6 =>
    refine congrArg x0 (funext fun d => Fin.ext ?_)
    match d with
    | ⟨0, _⟩ => rfl
    | ⟨1, _⟩ => show 0 + 1 * r.val = r.val; omega
    | ⟨2, _⟩ => show 384 + 1 * l.val = 384 + l.val; omega
  | 7 =>
    refine congrArg x0 (funext fun d => Fin.ext ?_)
    match d with
    | ⟨0, _⟩ => rfl
    | ⟨1, _⟩ => show 0 + 1 * r.val = r.val; omega
    | ⟨2, _⟩ => show 384 + 1 * l.val = 384 + l.val; omega

/-- A head's queries, the other head's lanes zero. -/
theorem q_read (h : Fin 8) :
    View.readAt (Elt Ideal) arg6.view (qR h).toLoadRect (X6' (F := Ideal) c arg2 harg2 arg6 x0)
      = if h.val % 2 = 0 then k0_pay85 (qB x0 h) else k0_pay86 (qB x0 h) := by
  unfold X6' kernelRun0_A.sl.HS0_8 kernelRun0_A.sl.r_1 kernelRun0_A.sl.r
  simp only [View.readAt_eq_ld, harg2.read_unread]
  match h with
  | 0 => exact (q_skip arg6.view 7 _ _ 0 (by decide)).trans ((q_skip arg6.view 6 _ _ 0 (by decide)).trans ((q_skip arg6.view 5 _ _ 0 (by decide)).trans ((q_skip arg6.view 4 _ _ 0 (by decide)).trans ((q_skip arg6.view 3 _ _ 0 (by decide)).trans ((q_skip arg6.view 2 _ _ 0 (by decide)).trans ((q_skip arg6.view 1 _ _ 0 (by decide)).trans (q_hit arg6.view 0 _ _)))))))
  | 1 => exact (q_skip arg6.view 7 _ _ 1 (by decide)).trans ((q_skip arg6.view 6 _ _ 1 (by decide)).trans ((q_skip arg6.view 5 _ _ 1 (by decide)).trans ((q_skip arg6.view 4 _ _ 1 (by decide)).trans ((q_skip arg6.view 3 _ _ 1 (by decide)).trans ((q_skip arg6.view 2 _ _ 1 (by decide)).trans (q_hit arg6.view 1 _ _))))))
  | 2 => exact (q_skip arg6.view 7 _ _ 2 (by decide)).trans ((q_skip arg6.view 6 _ _ 2 (by decide)).trans ((q_skip arg6.view 5 _ _ 2 (by decide)).trans ((q_skip arg6.view 4 _ _ 2 (by decide)).trans ((q_skip arg6.view 3 _ _ 2 (by decide)).trans (q_hit arg6.view 2 _ _)))))
  | 3 => exact (q_skip arg6.view 7 _ _ 3 (by decide)).trans ((q_skip arg6.view 6 _ _ 3 (by decide)).trans ((q_skip arg6.view 5 _ _ 3 (by decide)).trans ((q_skip arg6.view 4 _ _ 3 (by decide)).trans (q_hit arg6.view 3 _ _))))
  | 4 => exact (q_skip arg6.view 7 _ _ 4 (by decide)).trans ((q_skip arg6.view 6 _ _ 4 (by decide)).trans ((q_skip arg6.view 5 _ _ 4 (by decide)).trans (q_hit arg6.view 4 _ _)))
  | 5 => exact (q_skip arg6.view 7 _ _ 5 (by decide)).trans ((q_skip arg6.view 6 _ _ 5 (by decide)).trans (q_hit arg6.view 5 _ _))
  | 6 => exact (q_skip arg6.view 7 _ _ 6 (by decide)).trans (q_hit arg6.view 6 _ _)
  | 7 => exact q_hit arg6.view 7 _ _

theorem evenmask (r : Fin 256) (l : Fin 128) (w : Vec Ideal S1x256x128 .bf16) :
    k0_pay85 w (ix2 r l) = if l.val < 64 then w (ix3 0 r l) else 0 := by
  pointwise [k0_pay85, k0_pay83]
  have hl := l.isLt
  rw [WordCmp.cmpi_slt_ofNat (b := 64) (by omega) (by omega), select_if]
  simp only [WordCmp.ofBool_decide_eq_one_iff]

theorem oddmask (r : Fin 256) (l : Fin 128) (w : Vec Ideal S1x256x128 .bf16) :
    k0_pay86 w (ix2 r l) = if 64 ≤ l.val then w (ix3 0 r l) else 0 := by
  pointwise [k0_pay86, k0_pay84]
  have hl := l.isLt
  rw [WordCmp.cmpi_sge_ofNat (b := 64) (by omega) (by omega), select_if]
  simp only [WordCmp.ofBool_decide_eq_one_iff]

theorem q_at (h : Fin 8) (r : Fin 256) (l : Fin 128) :
    View.readAt (Elt Ideal) arg6.view (qR h).toLoadRect (X6' (F := Ideal) c arg2 harg2 arg6 x0) (ix2 r l)
      = if l.val / 64 = h.val % 2 then x0 (ix3 0 r ⟨128 * (h.val / 2) + l.val, lane_lt h l⟩) else 0 := by
  have hl := l.isLt
  rw [q_read]
  by_cases e : h.val % 2 = 0
  · rw [if_pos e, evenmask, qB_at]
    by_cases g : l.val < 64
    · rw [if_pos g, if_pos (by omega)]
    · rw [if_neg g, if_neg (by omega)]
  · rw [if_neg e, oddmask, qB_at]
    by_cases g : 64 ≤ l.val
    · rw [if_pos g, if_pos (by omega)]
    · rw [if_neg g, if_neg (by omega)]

/-! ## The point -/

/-- The values of a head's lane, by the column's number. -/
def vcol (h : Fin 8) (l : Fin 128) (s : ℕ) : EReal :=
  if hs : s < 4096 then x2 (ix3 0 ⟨s, hs⟩ ⟨128 * (h.val / 2) + l.val, lane_lt h l⟩) else 0

/-- `f` holds the logits. -/
def Logits (x0 : Vec Ideal S1x256x512 .bf16) (x1 : Vec Ideal S512x4096 .bf16) (f : Fin 8 → Fin 256 → ℕ → EReal) : Prop :=
  ∀ (h : Fin 8) (r : Fin 256) (s : ℕ) (hs : s < 4096),
    ∑ l : Fin 128, (if l.val / 64 = h.val % 2 then x0 (ix3 0 r ⟨128 * (h.val / 2) + l.val, lane_lt h l⟩) else 0)
      * x1 (ix2 ⟨128 * (h.val / 2) + l.val, lane_lt h l⟩ ⟨s, hs⟩) = f h r s

variable (f : Fin 8 → Fin 256 → ℕ → EReal)

theorem z_at (hf : Logits x0 x1 f) (off : Fin 2 → ℕ) (inb : ∀ a, off a + S128x256.size a ≤ S512x4096.size a) (h : Fin 8) (j : ℕ) (hj : j < 16)
    (h0 : off 0 = 128 * (h.val / 2)) (h1 : off 1 = 256 * j) (r s : Fin 256) :
    zOf (View.readAt (Elt Ideal) arg6.view (qR h).toLoadRect (X6' (F := Ideal) c arg2 harg2 arg6 x0))
      (View.readAt (Elt Ideal) arg3.view (Rect.unit (s := S512x4096) off S128x256.size inb).toLoadRect (harg3.unread x1)) (ix2 r s)
      = f h r (256 * j + s.val) := by
  have hs := s.isLt
  rw [zOf_at, ← hf h r (256 * j + s.val) (by omega)]
  refine Finset.sum_congr rfl fun l _ => ?_
  rw [q_at c arg2 harg2 arg6 x0 h r l, key_at arg3 harg3 x1 off inb _ _ h0 h1 l s (lane_lt h l) (by omega)]

theorem vT_at (off : Fin 3 → ℕ) (inb : ∀ a, off a + S1x256x128.size a ≤ S1x4096x512.size a) (h : Fin 8) (j : ℕ) (hj : j < 16)
    (h0 : off 0 = 0) (h1 : off 1 = 256 * j) (h2 : off 2 = 128 * (h.val / 2)) (s : Fin 256) (l : Fin 128) :
    View.readAt (Elt Ideal) arg4.view (Rect.unit (s := S1x4096x512) off S1x256x128.size inb).toLoadRect (harg4.unread x2) (ix3 0 s l)
      = vcol x2 h l (256 * j + s.val) := by
  have hs := s.isLt
  rw [val_at arg4 harg4 x2 off inb _ _ h0 h1 h2 s l (lane_lt h l) (by omega)]
  unfold vcol
  rw [dif_pos (by omega)]

/-- What holds of a head's carry and part after `n` trips. -/
def Holds (I : ℕ) (n : ℕ) (h : Fin 8) (a : FVec Ideal S256x1 .f32) (w : Vec Ideal S1x256x128 .f32) : Prop :=
  ∀ r : Fin 256, a (ix2 r 0) = nps (f h r) (256 * (I - n)) (256 * I + r.val)
    ∧ ∀ l : Fin 128, w (ix3 0 r l) = acc (f h r) (vcol x2 h l) (256 * (I - n)) (256 * I + r.val)

theorem holds_diag (hf : Logits x0 x1 f) (h : Fin 8) :
    Holds x2 f (i 1).val 0 h (carD c i arg2 harg2 arg3 harg3 arg6 arg7 x0 x1 h)
      (partD c i arg2 harg2 arg3 harg3 arg4 harg4 arg6 arg7 arg8 x0 x1 x2 h) := by
  have hi : (i 1).val < 16 := (i 1).isLt
  intro r
  have hz : ∀ s : Fin 256, zD c i arg2 harg2 arg3 harg3 arg6 x0 x1 h (ix2 r s) = f h r (256 * (i 1).val + s.val) :=
    fun s => z_at c arg2 harg2 arg3 harg3 arg6 x0 x1 f hf _ _ h _ hi (kOffD_0 i h) (kOffD_1 i h) r s
  have hcar : (carZ (F := Ideal)) (ix2 r 0) = 0 := zero_eq
  refine ⟨?_, fun l => ?_⟩
  · exact car_diag (f h r) _ _ _ _ r hz (later_read arg7) hcar
  · refine acc_diag_at (f h r) (vcol x2 h l) _ _ _ _ _ _ r l hz (later_read arg7) hcar ?_ ?_
    · rw [oldD_eq]; exact zero_eq
    · exact fun s => vT_at arg4 harg4 x2 _ _ h _ hi (vOffD_0 i h) (vOffD_1 i h) (vOffD_2 i h) s l

theorem holds_step (hf : Logits x0 x1 f) (k : Fin (k0_t1_loop i).trips) (h : Fin 8) (a : FVec Ideal S256x1 .f32) (w : Vec Ideal S1x256x128 .f32)
    (hP : Holds x2 f (i 1).val k.val h a w) :
    Holds x2 f (i 1).val (k.val + 1) h
      (carOf a (inT i arg3 arg6 arg7 (harg3.unread x1) (X6' c arg2 harg2 arg6 x0) (X7' arg7) k h))
      (accOf (aOf (zT i arg3 arg6 (harg3.unread x1) (X6' c arg2 harg2 arg6 x0) k h)
        (inT i arg3 arg6 arg7 (harg3.unread x1) (X6' c arg2 harg2 arg6 x0) (X7' arg7) k h) a) w (vT i arg4 (harg4.unread x2) k h)) := by
  have hi : (i 1).val < 16 := (i 1).isLt
  have hk := k.isLt
  have ht := trips1 i
  intro r
  obtain ⟨h1, h2⟩ := hP r
  have e : 256 * ((i 1).val - k.val) = 256 * ((i 1).val - (k.val + 1)) + 256 := by omega
  have ej : (i 1).val - (k.val + 1) = (i 1).val - 1 - k.val := by omega
  rw [e] at h1 h2
  have hz : ∀ s : Fin 256, zT i arg3 arg6 (harg3.unread x1) (X6' c arg2 harg2 arg6 x0) k h (ix2 r s)
      = f h r (256 * ((i 1).val - (k.val + 1)) + s.val) :=
    fun s => z_at c arg2 harg2 arg3 harg3 arg6 x0 x1 f hf _ _ h _ (by omega) (kOff_0 i k h) (by rw [ej]; exact kOff_1 i k h) r s
  refine ⟨?_, fun l => ?_⟩
  · exact car_step (f h r) _ _ _ _ r (256 * (i 1).val + r.val) (by omega) hz (later_read arg7) h1
  · exact acc_step_at (f h r) (vcol x2 h l) _ _ _ _ _ _ r l (256 * (i 1).val + r.val) (by omega) hz (later_read arg7) h1 (h2 l)
      (fun s => vT_at arg4 harg4 x2 _ _ h _ (by omega) (vOff_0 i k h) (by rw [ej]; exact vOff_1 i k h) (vOff_2 i k h) s l)

/-- Every head's part at the end. -/
theorem fin_at (hf : Logits x0 x1 f) (h : Fin 8) (r : Fin 256) (l : Fin 128) :
    finP (F := Ideal) c i arg2 harg2 arg3 harg3 arg4 harg4 arg5 harg5 arg6 harg6 arg7 harg7 arg8 harg8 x0 x1 x2 h (ix3 0 r l)
      = acc (f h r) (vcol x2 h l) 0 (256 * (i 1).val + r.val) := by
  have ht := trips1 i
  obtain ⟨a, -, hP⟩ := loop_inv Variants.none c none i arg2 harg2 arg3 harg3 arg4 harg4 arg5 harg5 arg6 harg6 arg7 harg7 arg8 harg8
    (BitVec.ofNat 32 (i 1).val) (carD c i arg2 harg2 arg3 harg3 arg6 arg7 x0 x1 0) (carD c i arg2 harg2 arg3 harg3 arg6 arg7 x0 x1 1)
    (carD c i arg2 harg2 arg3 harg3 arg6 arg7 x0 x1 2) (carD c i arg2 harg2 arg3 harg3 arg6 arg7 x0 x1 3)
    (carD c i arg2 harg2 arg3 harg3 arg6 arg7 x0 x1 4) (carD c i arg2 harg2 arg3 harg3 arg6 arg7 x0 x1 5)
    (carD c i arg2 harg2 arg3 harg3 arg6 arg7 x0 x1 6) (carD c i arg2 harg2 arg3 harg3 arg6 arg7 x0 x1 7)
    0#32 (kernelRun0_A.sl.v407 i) 1#32 (harg3.unread x1) (harg4.unread x2) (X6' c arg2 harg2 arg6 x0) (X7' arg7)
    (carD c i arg2 harg2 arg3 harg3 arg6 arg7 x0 x1)
    (hp (partD c i arg2 harg2 arg3 harg3 arg4 harg4 arg6 arg7 arg8 x0 x1 x2) ++ kernelRun0_A.sl.HS2_1)
    (Holds x2 f (i 1).val)
    (fun h => by rw [read_hp]; exact holds_diag c i arg2 harg2 arg3 harg3 arg4 harg4 arg6 arg7 arg8 x0 x1 x2 f hf h)
    (holds_step c i arg2 harg2 arg3 harg3 arg4 harg4 arg6 arg7 x0 x1 x2 f hf)
    (k0_t1_loop i).trips le_rfl
  have := (hP h r).2 l
  rw [ht, Nat.sub_self, Nat.mul_zero] at this
  rw [← this]
  unfold finP stE
  rw [ht]

end reads

end Cert.SbIdeal.Hand
-- ==== Proof.SbBlocks.lean ====
/-
  The stick-breaking call: the arrays the host prepares for it, and what each block of them holds at an index.
-/
module

public import proofs.«01_k».proof.Proof.SbPoint
public import proofs.«01_k».proof.Proof.Gen.SbIdeal.Value
public import Idealize.ShloMosaic.Lib.StableHlo.Run
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem

namespace Cert.SbIdeal.Hand

open Cert.SbIdeal Cert.SbIdeal.Gen Cert.SbMath

variable (m : (ℓ : Loc nD τ sig) → Buf (Elt Ideal) ℓ)

/-- The queries, keys and values as launched. -/
abbrev qA (c : Dev nD) : FVec Ideal S8x4096x512 .f32 := m ((c : Thread nD τ).loc main_arg0)
abbrev kA (c : Dev nD) : FVec Ideal S8x4096x512 .f32 := m ((c : Thread nD τ).loc main_arg1)
abbrev vA (c : Dev nD) : FVec Ideal S8x4096x512 .f32 := m ((c : Thread nD τ).loc main_arg2)

/-- The scaled queries beside the values. -/
def qvT (q v : FVec Ideal S8x4096x512 .f32) : FVec Ideal S8x4096x1024 .bf16 :=
  truncf .bf16 (concatenate S8x4096x1024 2
    [⟨S8x4096x512, mulf q (broadcastInDim S8x4096x512 ![] bcast_S_S8x4096x512 (constant S_ .f32 0x3E000000#32))⟩, ⟨S8x4096x512, v⟩]
    concatenates_S8x4096x512_S8x4096x512_S8x4096x1024_d2) bitsLt_bf16_f32

/-- The keys, one column a position. -/
def kbT (k : FVec Ideal S8x4096x512 .f32) : FVec Ideal S512x32768 .bf16 :=
  truncf .bf16 (transpose S512x32768 [1, 0] (shapeCast S32768x512 k shapeCasts_S8x4096x512_S32768x512) transposes_S32768x512_S512x32768_1_0) bitsLt_bf16_f32

theorem V_v3 (c : Dev nD) : V m c main_v3 = qvT (qA m c) (vA m c) := by
  unfold V
  after_reads_simp
  rfl

theorem V_v6 (c : Dev nD) : V m c main_v6 = kbT (kA m c) := by
  unfold V
  after_reads_simp
  rfl

theorem qv_left (q v : FVec Ideal S8x4096x512 .f32) (b : Fin 8) (t : Fin 4096) (l : Fin 512) (hl : l.val < 1024) :
    qvT q v (ix3 b t ⟨l.val, hl⟩) = q (ix3 b t l) * Ideal.ofBits FTy.f32 0x3E000000#32 := by
  have h := l.isLt
  pointwise [qvT]

theorem qv_right (q v : FVec Ideal S8x4096x512 .f32) (b : Fin 8) (t : Fin 4096) (l : Fin 512) (hl : 512 + l.val < 1024) :
    qvT q v (ix3 b t ⟨512 + l.val, hl⟩) = v (ix3 b t l) := by
  have h := l.isLt
  pointwise [qvT]

theorem kb_at (k : FVec Ideal S8x4096x512 .f32) (b : Fin 8) (s : Fin 4096) (l : Fin 512) (hl : b.val * 4096 + s.val < 32768) :
    kbT k (ix2 l ⟨b.val * 4096 + s.val, hl⟩) = k (ix3 b s l) := by
  pointwise [kbT]

/-! ## Where each window's block stands at each grid point -/

theorem pos0 : ∀ t : Fin grid0.N, win0_0.index t (0 : Fin 3) = t.val / 16 ∧ win0_0.index t (1 : Fin 3) = t.val % 16 ∧ win0_0.index t (2 : Fin 3) = 0 := by decide +kernel
theorem pos1 : ∀ t : Fin grid0.N, win0_1.index t (0 : Fin 2) = 0 ∧ win0_1.index t (1 : Fin 2) = t.val / 16 := by decide +kernel
theorem pos2 : ∀ t : Fin grid0.N, win0_2.index t (0 : Fin 3) = t.val / 16 ∧ win0_2.index t (1 : Fin 3) = 0 ∧ win0_2.index t (2 : Fin 3) = 1 := by decide +kernel
theorem pos3 : ∀ t : Fin grid0.N, win0_3.index t (0 : Fin 3) = t.val / 16 ∧ win0_3.index t (1 : Fin 3) = t.val % 16 ∧ win0_3.index t (2 : Fin 3) = 0 := by decide +kernel
theorem posQ : ∀ t : Fin grid0.N, (grid0.coords t 1).val = t.val % 16 := by decide +kernel

theorem batch_lt (t : Fin cfg0.N) : t.val / 16 < 8 := by have := t.isLt; have h : cfg0.N = 128 := N_0; omega
theorem row_lt (t : Fin cfg0.N) (r : Fin 256) : t.val % 16 * 256 + r.val < 4096 := by omega

theorem blk0 (c : Dev nD) (t : Fin cfg0.N) (r : Fin 256) (l : Fin 512) :
    (iblk m c 0 t : FVec Ideal S1x256x512 .bf16) (ix3 0 r l)
      = qA m c (ix3 ⟨t.val / 16, batch_lt t⟩ ⟨t.val % 16 * 256 + r.val, row_lt t r⟩ l) * Ideal.ofBits FTy.f32 0x3E000000#32 := by
  have h := pos0 t
  have hl : l.val < 1024 := by have := l.isLt; omega
  rw [← qv_left (qA m c) (vA m c) _ _ l hl]
  unfold iblk
  rw [View.read_apply]
  show V m c main_v3 _ = _
  rw [V_v3]
  refine congrArg (qvT (qA m c) (vA m c)) (funext fun d => Fin.ext ?_)
  match d with
  | ⟨0, _⟩ => show win0_0.index t (0 : Fin 3) * 1 + 1 * 0 = t.val / 16; omega
  | ⟨1, _⟩ => show win0_0.index t (1 : Fin 3) * 256 + 1 * r.val = t.val % 16 * 256 + r.val; omega
  | ⟨2, _⟩ => show win0_0.index t (2 : Fin 3) * 512 + 1 * l.val = l.val; omega

theorem blk1 (c : Dev nD) (t : Fin cfg0.N) (l : Fin 512) (s : Fin 4096) :
    (iblk m c 1 t : FVec Ideal S512x4096 .bf16) (ix2 l s) = kA m c (ix3 ⟨t.val / 16, batch_lt t⟩ s l) := by
  have h := pos1 t
  have hb := batch_lt t
  have hl : t.val / 16 * 4096 + s.val < 32768 := by have := s.isLt; omega
  rw [← kb_at (kA m c) ⟨t.val / 16, batch_lt t⟩ s l hl]
  unfold iblk
  rw [View.read_apply]
  show V m c main_v6 _ = _
  rw [V_v6]
  refine congrArg (kbT (kA m c)) (funext fun d => Fin.ext ?_)
  match d with
  | ⟨0, _⟩ => show win0_1.index t (0 : Fin 2) * 512 + 1 * l.val = l.val; omega
  | ⟨1, _⟩ => show win0_1.index t (1 : Fin 2) * 4096 + 1 * s.val = t.val / 16 * 4096 + s.val; omega

theorem blk2 (c : Dev nD) (t : Fin cfg0.N) (s : Fin 4096) (l : Fin 512) :
    (iblk m c 2 t : FVec Ideal S1x4096x512 .bf16) (ix3 0 s l) = vA m c (ix3 ⟨t.val / 16, batch_lt t⟩ s l) := by
  have h := pos2 t
  have hl : 512 + l.val < 1024 := by have := l.isLt; omega
  rw [← qv_right (qA m c) (vA m c) _ _ l hl]
  unfold iblk
  rw [View.read_apply]
  show V m c main_v3 _ = _
  rw [V_v3]
  refine congrArg (qvT (qA m c) (vA m c)) (funext fun d => Fin.ext ?_)
  match d with
  | ⟨0, _⟩ => show win0_2.index t (0 : Fin 3) * 1 + 1 * 0 = t.val / 16; omega
  | ⟨1, _⟩ => show win0_2.index t (1 : Fin 3) * 4096 + 1 * s.val = s.val; omega
  | ⟨2, _⟩ => show win0_2.index t (2 : Fin 3) * 512 + 1 * l.val = 512 + l.val; omega

/-! ## The block a point writes -/

theorem pay150_at (x y : Vec Ideal S1x256x128 .f32) (r : Fin 256) (l : Fin 128) :
    (k0_pay150 x y : FVec Ideal S1x256x128 .bf16) (ix3 0 r l) = if l.val < 64 then x (ix3 0 r l) else y (ix3 0 r l) := by
  have hl := l.isLt
  pointwise [k0_pay150]
  rw [select_if, show (64#32 : BitVec 32) = BitVec.ofNat 32 64 from rfl, WordCmp.cmpi_slt_ofNat (by omega) (by omega)]
  by_cases h' : l.val < 64 <;> simp [h']

/-- The block's elements: head `l / 64` at lane `l`. -/
def blockOf (g : Fin 8 → Vec Ideal S1x256x128 .f32) (i : S1x256x512.Idx) : EReal :=
  g ⟨(i (2 : Fin 3)).val / 64, by have h : (i (2 : Fin 3)).val < 512 := (i (2 : Fin 3)).isLt; omega⟩
    (ix3 0 (i (1 : Fin 3)) ⟨(i (2 : Fin 3)).val % 128, Nat.mod_lt _ (by decide)⟩)

theorem piece_at (g : Fin 8 → Vec Ideal S1x256x128 .f32) (p : ℕ) (hp : p < 4) (a b : Fin 8) (ha : a.val = 2 * p) (hb : b.val = 2 * p + 1)
    (off : Fin 3 → ℕ) (inb : ∀ d, off d + S1x256x128.size d ≤ S1x256x512.size d) (h0 : off 0 = 0) (h1 : off 1 = 0) (h2 : off 2 = 128 * p) (x : S1x256x128.Idx) :
    (k0_pay150 (g a) (g b) : FVec Ideal S1x256x128 .bf16) x = blockOf g ((Rect.unit (s := S1x256x512) off S1x256x128.size inb).emb x) := by
  obtain ⟨r, l, rfl⟩ : ∃ (r : Fin 256) (l : Fin 128), x = ix3 0 r l :=
    ⟨x 1, x 2, (eq_ix3 x).trans (congrArg (fun z : Fin 1 => ix3 z (x 1) (x 2)) (Subsingleton.elim _ _))⟩
  have hl := l.isLt
  have e : (Rect.unit (s := S1x256x512) off S1x256x128.size inb).emb (ix3 0 r l) = ix3 0 r ⟨128 * p + l.val, by omega⟩ := by
    refine funext fun d => Fin.ext ?_
    match d with
    | ⟨0, _⟩ => show off 0 + 1 * 0 = 0; omega
    | ⟨1, _⟩ => show off 1 + 1 * r.val = r.val; omega
    | ⟨2, _⟩ => show off 2 + 1 * l.val = 128 * p + l.val; omega
  rw [pay150_at, e]
  have hm : (⟨(128 * p + l.val) % 128, Nat.mod_lt _ (by decide)⟩ : Fin 128) = l := Fin.ext (by show (128 * p + l.val) % 128 = l.val; omega)
  show _ = g ⟨(128 * p + l.val) / 64, _⟩ (ix3 0 r ⟨(128 * p + l.val) % 128, _⟩)
  rw [hm]
  by_cases h' : l.val < 64
  · rw [if_pos h']
    exact congrArg (fun z => g z (ix3 0 r l)) (Fin.ext (by show a.val = (128 * p + l.val) / 64; omega))
  · rw [if_neg h']
    exact congrArg (fun z => g z (ix3 0 r l)) (Fin.ext (by show b.val = (128 * p + l.val) / 64; omega))

theorem outP_at (g : Fin 8 → Vec Ideal S1x256x128 .f32) : ∀ p ∈ outP (F := Ideal) g, ∀ x : p.1.shape.Idx, p.2 x = blockOf g (p.1.emb x) := by
  intro p hp
  simp only [outP, List.mem_cons, List.not_mem_nil, or_false] at hp
  rcases hp with rfl | rfl | rfl | rfl
  · exact piece_at g 3 (by omega) 6 7 rfl rfl _ inb_S1x256x512_S1x256x128_0_0_384 rfl rfl rfl
  · exact piece_at g 2 (by omega) 4 5 rfl rfl _ inb_S1x256x512_S1x256x128_0_0_256 rfl rfl rfl
  · exact piece_at g 1 (by omega) 2 3 rfl rfl _ inb_S1x256x512_S1x256x128_0_0_128 rfl rfl rfl
  · exact piece_at g 0 (by omega) 0 1 rfl rfl _ inb_S1x256x512_S1x256x128_0_0_0 rfl rfl rfl

theorem out_at (c : Dev nD) (i : grid0.Coords) (arg2 : Memref sig .tc .vmem S1x256x512 .bf16) (harg2 : arg2.IsWhole) (arg3 : Memref sig .tc .vmem S512x4096 .bf16) (harg3 : arg3.IsWhole) (arg4 : Memref sig .tc .vmem S1x4096x512 .bf16) (harg4 : arg4.IsWhole) (arg5 : Memref sig .tc .vmem S1x256x512 .bf16) (harg5 : arg5.IsWhole) (arg6 : Memref sig .tc .vmem S2048x128 .bf16) (harg6 : arg6.IsWhole) (arg7 : Memref sig .tc .vmem S256x256 .bf16) (harg7 : arg7.IsWhole) (arg8 : Memref sig .tc .vmem S8x256x128 .f32) (harg8 : arg8.IsWhole)
    (x0 : Vec Ideal S1x256x512 .bf16) (x1 : Vec Ideal S512x4096 .bf16) (x2 : Vec Ideal S1x4096x512 .bf16) (y : S1x256x512.Idx) :
    (out0_A_3 (F := Ideal) c i arg2 harg2 arg3 harg3 arg4 harg4 arg5 harg5 arg6 harg6 arg7 harg7 arg8 harg8 x0 x1 x2 : FVec Ideal S1x256x512 .bf16) y = blockOf (finP (F := Ideal) c i arg2 harg2 arg3 harg3 arg4 harg4 arg5 harg5 arg6 harg6 arg7 harg7 arg8 harg8 x0 x1 x2) y := by
  have hc := cover0_A_3 (F := Ideal) c i arg2 harg2 arg3 harg3 arg4 harg4 arg5 harg5 arg6 harg6 arg7 harg7 arg8 harg8 x0 x1 x2 y
  unfold out0_A_3
  rw [out_eq] at hc ⊢
  exact View.read_writes_apply_of_pieces _ _ _ _ (outP_at _) y hc

end Cert.SbIdeal.Hand
-- ==== Proof.SbRef.lean ====
/-
  The stick-breaking reference at the extended reals: an element of its result is the accumulated value of its head's
  logits and its column of the values.
-/
module

public import proofs.«01_k».proof.Proof.SbMath
public import proofs.«01_k».proof.Proof.Gen.SbRefIdeal.Run

@[expose] public section

set_option maxRecDepth 16384

noncomputable section

open Idealize.ShloMosaic Idealize.ShloMosaic.TcCoe Idealize.SL.Sem

namespace Cert.SbMath

theorem sp_neg (x : ℝ) : sp (-x) = sp x - x := by
  unfold sp
  rw [abs_neg]
  have : max (-x) 0 = max x 0 - x := by
    rcases le_total x 0 with h | h
    · rw [max_eq_left (by linarith), max_eq_right h]; ring
    · rw [max_eq_right (by linarith), max_eq_left h]; ring
  rw [this]; ring

theorem exp_bot : Ideal.exp ⊥ = 0 := rfl

theorem softplus_ereal (x : EReal) : max x 0 + Ideal.log (1 + Ideal.exp (-(max x (-x)))) = spE x := by
  induction x with
  | bot => rw [EReal.neg_bot, max_eq_right bot_le, max_eq_right bot_le, EReal.neg_top, exp_bot, add_zero, log_one, add_zero, spE_bot]
  | top => rw [EReal.neg_top, max_eq_left le_top, max_eq_left le_top, EReal.neg_top, exp_bot, add_zero, log_one, add_zero, spE_top]
  | coe x =>
    have hp : ¬ (1 + Real.exp (-|x|) ≤ 0) := not_le.mpr (by positivity)
    rw [absmax, ← EReal.coe_neg, Ideal.exp_coe, ← EReal.coe_one, ← EReal.coe_add, Ideal.log_coe, if_neg hp, ← EReal.coe_zero]
    rw [show max (x : EReal) ((0 : ℝ) : EReal) = ((max x 0 : ℝ) : EReal) from (EReal.coe_strictMono.monotone.map_max (a := x) (b := 0)).symm, ← EReal.coe_add]
    rfl

/-- A log-sigmoid and the sum over the strictly later columns make the logit and the sum over the later columns; the
    infinite logits and an infinite sum go by cases. -/
theorem log_weight (z r : EReal) (hr : r ≤ 0) :
    -(spE (-z)) + ((-(spE z) + r) - -(spE z)) = z + (-(spE z) + r) := by
  induction z with
  | bot => rw [EReal.neg_bot, spE_top, EReal.neg_top, EReal.bot_add, EReal.bot_add]
  | top =>
    rw [EReal.neg_top, spE_top, spE_bot, EReal.neg_top, EReal.bot_add, EReal.bot_sub, EReal.add_bot, EReal.add_bot]
  | coe z =>
    rw [← EReal.coe_neg, spE_coe, spE_coe, sp_neg]
    induction r with
    | bot => rw [EReal.add_bot, EReal.bot_sub, EReal.add_bot, EReal.add_bot]
    | top => exact absurd hr (by simp)
    | coe r =>
      simp only [← EReal.coe_neg, ← EReal.coe_add, ← EReal.coe_sub]
      exact congrArg (fun x : ℝ => (x : EReal)) (by ring)

theorem nps_nonpos (f : ℕ → EReal) (a b : ℕ) : nps f a b ≤ 0 :=
  Finset.sum_nonpos fun s _ => EReal.neg_le_zero.mpr (spE_nonneg _)

theorem nps_first (f : ℕ → EReal) (s t : ℕ) (h : s < t) : nps f s t = -(spE (f s)) + nps f (s + 1) t :=
  Finset.sum_eq_sum_Ico_succ_bot h _

theorem foldl_sum {ι : Type} (l : List ι) (g : ι → EReal) (v : EReal) :
    l.foldl (fun r n => r + g n) v = v + (l.map g).sum := by
  induction l generalizing v with
  | nil => simp
  | cons a l ih => rw [List.foldl_cons, ih, List.map_cons, List.sum_cons, add_assoc]

/-- A sum over a window of one row. -/
theorem sum_window (g : (⟨4, ![1, 1, 1, 4096]⟩ : Shape).Idx → EReal) :
    ∑ i, g i = ∑ n : Fin 4096, g (ix4 0 0 0 n) := by
  refine (Fintype.sum_bijective (fun n : Fin 4096 => (ix4 0 0 0 n : (⟨4, ![1, 1, 1, 4096]⟩ : Shape).Idx)) ⟨fun a b h => ?_, fun i => ?_⟩ _ _ (fun _ => rfl)).symm
  · exact congrFun h (3 : Fin 4)
  · refine ⟨i 3, ?_⟩
    show ix4 0 0 0 (i 3) = i
    rw [eq_ix4 i]
    congr 1 <;> exact Subsingleton.elim (α := Fin 1) _ _

theorem sum_positions (g : (⟨4, ![1, 1, 1, 4096]⟩ : Shape).Idx → EReal) :
    ∑ n : Fin (⟨4, ![1, 1, 1, 4096]⟩ : Shape).numel, g ((⟨4, ![1, 1, 1, 4096]⟩ : Shape).rowMajor.symm n) = ∑ n : Fin 4096, g (ix4 0 0 0 n) :=
  (Equiv.sum_comp (⟨4, ![1, 1, 1, 4096]⟩ : Shape).rowMajor.symm g).trans (sum_window g)

/-- The masked sum over later columns, at a strictly earlier column. -/
theorem later_sum (f : ℕ → EReal) (s t : ℕ) (hs : s < t) (ht : t < 4096) :
    ∑ n : Fin 4096, (if s + n.val < 4096 then (if s + n.val < t then -(spE (f (s + n.val))) else 0) else 0) = nps f s t := by
  rw [Fin.sum_univ_eq_sum_range (fun n => if s + n < 4096 then (if s + n < t then -(spE (f (s + n))) else 0) else 0) 4096]
  unfold nps
  rw [Finset.sum_Ico_eq_sum_range, ← Finset.sum_subset (Finset.range_subset_range.mpr (show t - s ≤ 4096 by omega))]
  · refine Finset.sum_congr rfl fun n hn => ?_
    have := Finset.mem_range.mp hn
    rw [if_pos (by omega), if_pos (by omega)]
  · intro n _ hn
    have : ¬ n < t - s := fun h => hn (Finset.mem_range.mpr h)
    rw [if_neg (show ¬ s + n < t by omega), ite_self]

theorem acc_ref (f : ℕ → EReal) (v : ℕ → EReal) (t : ℕ) (ht : t < 4096) :
    ∑ s : Fin 4096, v s.val * (if s.val < t then Ideal.exp (f s.val + nps f s.val t) else 0) = acc f v 0 t := by
  rw [Fin.sum_univ_eq_sum_range (fun s => v s * (if s < t then Ideal.exp (f s + nps f s t) else 0)) 4096]
  unfold acc
  rw [← Nat.Ico_zero_eq_range, ← Finset.sum_Ico_consecutive _ (Nat.zero_le t) ht.le]
  rw [Finset.sum_eq_zero (s := Finset.Ico t 4096)
    (fun s hs => by rw [if_neg (show ¬ s < t by have := (Finset.mem_Ico.mp hs).1; omega), mul_zero]), add_zero]
  exact Finset.sum_congr rfl fun s hs => by rw [if_pos (Finset.mem_Ico.mp hs).2, mul_comm]

end Cert.SbMath

namespace Cert.SbRefIdeal.Hand

open Cert.SbRefIdeal Cert.SbRefIdeal.Gen Cert.SbRefIdeal.Value Cert.SbMath

abbrev T4 := FVec Ideal S8x8x4096x4096 .f32
abbrev T3 := FVec Ideal S8x4096x512 .f32

def zeroR : T4 := (broadcastInDim S8x8x4096x4096 ![] bcast_S_S8x8x4096x4096 (constant S_ .f32 0x00000000#32))
def strictR : IVec S8x8x4096x4096 1 := (broadcastInDim S8x8x4096x4096 ![0, 1, 2, 3] bcast_S1x1x4096x4096_S8x8x4096x4096_0_1_2_3 (broadcastInDim S1x1x4096x4096 ![2, 3] bcast_S4096x4096_S1x1x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))))
def softR (y : T4) : T4 := (select (cmpf .une (subf y zeroR) (subf y zeroR)) (addf y zeroR) (addf (maximumf y zeroR) (Host.log1p (Host.exp (Host.negf (Host.absf (subf y zeroR)))))))
def zR (q k : T3) : T4 := (mulf (Host.dotGeneral dot_S8x4096x8x64_S8x4096x8x64_S8x8x4096x4096_3_3_1_1_02_02 none (shapeCast _ q shapeCasts_S8x4096x512_S8x4096x8x64) (shapeCast _ k shapeCasts_S8x4096x512_S8x4096x8x64)) (broadcastInDim S8x8x4096x4096 ![] bcast_S_S8x8x4096x4096 (constant S_ .f32 0x3E000000#32)))
def lnR (z : T4) : T4 := (select strictR (Host.negf (softR (Host.negf (Host.negf z)))) (broadcastInDim S8x8x4096x4096 ![] bcast_S_S8x8x4096x4096 (id (constant S_ .f32 0x00000000#32))))
def cumR (x : T4) : T4 := (Host.reduceWindowAdd ![1, 1, 1, 4096] ![1, 1, 1, 1] ![0, 0, 0, 0] ![0, 0, 0, 4095] x (broadcastInDim S_ ![] bcast_S_S_ (constant S_ .f32 0x00000000#32)) reduceWindows_S8x8x4096x4096_S8x8x4096x4096_w1s1p0_0_w1s1p0_0_w1s1p0_0_w4096s1p0_4095 h_S_)
def expR (z C L : T4) : T4 := (select strictR (Host.exp (addf (Host.negf (softR (Host.negf z))) (subf C L))) (broadcastInDim S8x8x4096x4096 ![] bcast_S_S8x8x4096x4096 (id (constant S_ .f32 0x00000000#32))))
def aR (z : T4) : T4 := expR z (cumR (lnR z)) (lnR z)
def outR (q k v : T3) : FVec Ideal S8x4096x512 .bf16 := truncf .bf16 (shapeCast _ (transpose S8x4096x8x64 [0, 3, 1, 2] (Host.dotGeneral dot_S8x4096x8x64_S8x8x4096x4096_S8x8x64x4096_1_3_3_2_02_01 none (shapeCast _ v shapeCasts_S8x4096x512_S8x4096x8x64) (aR (zR q k))) transposes_S8x8x64x4096_S8x4096x8x64_0_3_1_2) shapeCasts_S8x4096x8x64_S8x4096x512) bitsLt_bf16_f32

theorem out_eq (m : (ℓ : Loc nD τ sig) → Buf (Elt Ideal) ℓ) (c : Dev nD) :
    res_main_v25 m c = outR (m ((c.tc : Thread nD τ).loc main_arg0)) (m ((c.tc : Thread nD τ).loc main_arg1)) (m ((c.tc : Thread nD τ).loc main_arg2)) := by
  unfold res_main_v25; rfl

theorem cumR_at (x : T4) (b h : Fin 8) (t s : Fin 4096) :
    cumR x (ix4 b h t s) = ∑ n : Fin 4096, if hn : s.val + n.val < 4096 then x (ix4 b h t ⟨s.val + n.val, hn⟩) else 0 := by
  unfold cumR Host.reduceWindowAdd
  rw [Ideal.hostReduceWindowAdd_def]
  unfold Ideal.hostReduceWindowAdd Host.reduceWindow
  have hz : ∀ i, (broadcastInDim S_ ![] bcast_S_S_ (constant S_ .f32 0x00000000#32) : FVec Ideal S_ .f32) i = 0 := fun i => Cert.SbIdeal.Hand.zero_eq
  dsimp only
  rw [hz, foldl_sum, zero_add, ← Fin.sum_univ_def]
  refine Eq.trans (Finset.sum_congr rfl fun n _ => ?_)
    (sum_positions (fun i => if hn : s.val + (i (3 : Fin 4)).val < 4096 then x (ix4 b h t ⟨s.val + (i (3 : Fin 4)).val, hn⟩) else 0))
  have hb : b.val < 8 := b.isLt
  have hh : h.val < 8 := h.isLt
  have ht : t.val < 4096 := t.isLt
  have i0 : ((⟨4, ![1, 1, 1, 4096]⟩ : Shape).rowMajor.symm n (0 : Fin 4)).val < 1 := ((⟨4, ![1, 1, 1, 4096]⟩ : Shape).rowMajor.symm n (0 : Fin 4)).isLt
  have i1 : ((⟨4, ![1, 1, 1, 4096]⟩ : Shape).rowMajor.symm n (1 : Fin 4)).val < 1 := ((⟨4, ![1, 1, 1, 4096]⟩ : Shape).rowMajor.symm n (1 : Fin 4)).isLt
  have i2 : ((⟨4, ![1, 1, 1, 4096]⟩ : Shape).rowMajor.symm n (2 : Fin 4)).val < 1 := ((⟨4, ![1, 1, 1, 4096]⟩ : Shape).rowMajor.symm n (2 : Fin 4)).isLt
  by_cases hn : s.val + ((⟨4, ![1, 1, 1, 4096]⟩ : Shape).rowMajor.symm n (3 : Fin 4)).val < 4096
  · rw [dif_pos hn]
    refine (dif_pos fun a => ?_).trans (congrArg x (funext fun a => Fin.ext ?_))
    · match a with
      | ⟨0, _⟩ => show 0 ≤ b.val * 1 + ((⟨4, ![1, 1, 1, 4096]⟩ : Shape).rowMajor.symm n (0 : Fin 4)).val ∧ b.val * 1 + ((⟨4, ![1, 1, 1, 4096]⟩ : Shape).rowMajor.symm n (0 : Fin 4)).val - 0 < 8; omega
      | ⟨1, _⟩ => show 0 ≤ h.val * 1 + ((⟨4, ![1, 1, 1, 4096]⟩ : Shape).rowMajor.symm n (1 : Fin 4)).val ∧ h.val * 1 + ((⟨4, ![1, 1, 1, 4096]⟩ : Shape).rowMajor.symm n (1 : Fin 4)).val - 0 < 8; omega
      | ⟨2, _⟩ => show 0 ≤ t.val * 1 + ((⟨4, ![1, 1, 1, 4096]⟩ : Shape).rowMajor.symm n (2 : Fin 4)).val ∧ t.val * 1 + ((⟨4, ![1, 1, 1, 4096]⟩ : Shape).rowMajor.symm n (2 : Fin 4)).val - 0 < 4096; omega
      | ⟨3, _⟩ => show 0 ≤ s.val * 1 + ((⟨4, ![1, 1, 1, 4096]⟩ : Shape).rowMajor.symm n (3 : Fin 4)).val ∧ s.val * 1 + ((⟨4, ![1, 1, 1, 4096]⟩ : Shape).rowMajor.symm n (3 : Fin 4)).val - 0 < 4096; omega
    · match a with
      | ⟨0, _⟩ => show b.val * 1 + ((⟨4, ![1, 1, 1, 4096]⟩ : Shape).rowMajor.symm n (0 : Fin 4)).val - 0 = b.val; omega
      | ⟨1, _⟩ => show h.val * 1 + ((⟨4, ![1, 1, 1, 4096]⟩ : Shape).rowMajor.symm n (1 : Fin 4)).val - 0 = h.val; omega
      | ⟨2, _⟩ => show t.val * 1 + ((⟨4, ![1, 1, 1, 4096]⟩ : Shape).rowMajor.symm n (2 : Fin 4)).val - 0 = t.val; omega
      | ⟨3, _⟩ => show s.val * 1 + ((⟨4, ![1, 1, 1, 4096]⟩ : Shape).rowMajor.symm n (3 : Fin 4)).val - 0 = s.val + ((⟨4, ![1, 1, 1, 4096]⟩ : Shape).rowMajor.symm n (3 : Fin 4)).val; omega
  · rw [dif_neg hn]
    refine dif_neg fun hin => hn ?_
    have h3 := (hin (3 : Fin 4)).2
    change s.val * 1 + ((⟨4, ![1, 1, 1, 4096]⟩ : Shape).rowMajor.symm n (3 : Fin 4)).val - 0 < 4096 at h3
    omega

theorem strictR_at (b h : Fin 8) (t s : Fin 4096) (x y : EReal) :
    Scalar.select (strictR (ix4 b h t s)) x y = if s.val < t.val then x else y := by
  have e : strictR (ix4 b h t s) = IntOp.cmpi .slt (BitVec.ofNat 32 s.val) (BitVec.ofNat 32 t.val) := rfl
  rw [e, Cert.SbIdeal.Hand.select_if]
  have hs := s.isLt
  have ht := t.isLt
  rw [WordCmp.cmpi_slt_ofNat (by omega) (by omega)]
  by_cases h' : s.val < t.val <;> simp [h']

theorem softR_at (y : T4) (i : S8x8x4096x4096.Idx) : softR y i = spE (y i) := by
  have hz : zeroR i = 0 := Cert.SbIdeal.Hand.zero_eq
  have e : softR y i = Scalar.select (FloatOps.cmpf .une (y i - zeroR i) (y i - zeroR i)) (y i + zeroR i)
      (max (y i) (zeroR i) + Ideal.log (1 + Ideal.exp (-(max (y i - zeroR i) (-(y i - zeroR i)))))) := rfl
  rw [e, hz, sub_zero, softplus_ereal, Cert.SbIdeal.Hand.select_if, if_neg]
  show ¬ Ideal.cmp .une _ _ = 1#1
  simp [Ideal.cmp]

theorem lnR_at (z : T4) (b h : Fin 8) (t s : Fin 4096) :
    lnR z (ix4 b h t s) = if s.val < t.val then -(spE (z (ix4 b h t s))) else 0 := by
  have e : lnR z (ix4 b h t s) = Scalar.select (strictR (ix4 b h t s)) (-(softR (Host.negf (Host.negf z)) (ix4 b h t s))) (Ideal.ofBits FTy.f32 0#32) := rfl
  have hy : (Host.negf (Host.negf z) : T4) (ix4 b h t s) = z (ix4 b h t s) := by
    show -(-(z (ix4 b h t s))) = _
    rw [neg_neg]
  rw [e, strictR_at, softR_at, hy, Cert.SbIdeal.Hand.zero_eq]

theorem expR_at (z C L : T4) (i : S8x8x4096x4096.Idx) :
    expR z C L i = Scalar.select (strictR i) (Ideal.exp (-(softR (Host.negf z) i) + (C i - L i))) (Ideal.ofBits FTy.f32 0#32) := rfl

theorem aR_at (z : T4) (b h : Fin 8) (t : Fin 4096) (f : ℕ → EReal) (hz : ∀ s : Fin 4096, z (ix4 b h t s) = f s.val) (s : Fin 4096) :
    aR z (ix4 b h t s) = if s.val < t.val then Ideal.exp (f s.val + nps f s.val t.val) else 0 := by
  unfold aR
  rw [expR_at, strictR_at, Cert.SbIdeal.Hand.zero_eq]
  by_cases hs : s.val < t.val
  · rw [if_pos hs, if_pos hs]
    have hy : (Host.negf z : T4) (ix4 b h t s) = -(f s.val) := by
      show -(z (ix4 b h t s)) = _
      rw [hz s]
    have hc : cumR (lnR z) (ix4 b h t s) = nps f s.val t.val := by
      rw [cumR_at, ← later_sum f s.val t.val hs t.isLt]
      refine Finset.sum_congr rfl fun n _ => ?_
      by_cases hn : s.val + n.val < 4096
      · rw [dif_pos hn, if_pos hn, lnR_at, hz ⟨s.val + n.val, hn⟩]
      · rw [dif_neg hn, if_neg hn]
    rw [softR_at, hy, hc, lnR_at, hz s, if_pos hs, nps_first f _ _ hs]
    exact congrArg Ideal.exp (log_weight _ _ (nps_nonpos f _ _))
  · rw [if_neg hs, if_neg hs]

/-- A lane of a head. -/
theorem lane_lt (h : Fin 8) (d : Fin 64) : h.val * 64 + d.val < 512 := by have := h.isLt; have := d.isLt; omega

theorem zR_at (q k : T3) (b h : Fin 8) (t s : Fin 4096) :
    zR q k (ix4 b h t s) = (∑ d : Fin 64, q (ix3 b t ⟨h.val * 64 + d.val, lane_lt h d⟩) * k (ix3 b s ⟨h.val * 64 + d.val, lane_lt h d⟩))
      * Ideal.ofBits FTy.f32 0x3E000000#32 := by
  unfold zR
  pointwise

theorem outR_at (q k v : T3) (b h : Fin 8) (t : Fin 4096) (d : Fin 64) :
    outR q k v (ix3 b t ⟨h.val * 64 + d.val, lane_lt h d⟩)
      = ∑ s : Fin 4096, v (ix3 b s ⟨h.val * 64 + d.val, lane_lt h d⟩) * aR (zR q k) (ix4 b h t s) := by
  unfold outR
  pointwise

end Cert.SbRefIdeal.Hand
-- ==== Proof.SbAlg.lean ====
/-
  The stick-breaking call at the extended reals: the kernel's blocks hold the accumulated values of the heads'
  logits, and these are the reference's elements.
-/
module

public import proofs.«01_k».proof.Defs
public import proofs.«01_k».proof.Proof.SbBlocks
public import proofs.«01_k».proof.Proof.SbRef
public import proofs.«01_k».proof.Proof.FfnAlg

@[expose] public section

set_option maxRecDepth 16384

noncomputable section

open Idealize.ShloMosaic Idealize.ShloMosaic.TcCoe Idealize.SL.Sem

namespace Cert.SbMath

theorem eighth_eq : Ideal.ofBits FTy.f32 0x3E000000#32 = ((1 / 8 : ℝ) : EReal) := by
  simp [Ideal.ofBits, Ideal.ieee]
  rw [← EReal.coe_mul]
  norm_num

/-- The lanes of one half of a register. -/
theorem half_sum (g : ℕ → EReal) (a p : ℕ) (hp : p < 2) :
    ∑ l : Fin 128, (if l.val / 64 = p then g (128 * a + l.val) else 0) = ∑ d : Fin 64, g ((2 * a + p) * 64 + d.val) := by
  rw [Fin.sum_univ_eq_sum_range (fun l => if l / 64 = p then g (128 * a + l) else 0) 128,
    Fin.sum_univ_eq_sum_range (fun d => g ((2 * a + p) * 64 + d)) 64, ← Nat.Ico_zero_eq_range,
    ← Finset.sum_Ico_consecutive _ (show 0 ≤ 64 by omega) (show 64 ≤ 128 by omega)]
  obtain rfl | rfl : p = 0 ∨ p = 1 := by omega
  · rw [Finset.sum_eq_zero (s := Finset.Ico 64 128)
      (fun s hs => by rw [if_neg]; have := Finset.mem_Ico.mp hs; omega), add_zero, Nat.Ico_zero_eq_range]
    refine Finset.sum_congr rfl fun d hd => ?_
    have := Finset.mem_range.mp hd
    rw [if_pos (by omega)]
    congr 1; omega
  · rw [Finset.sum_eq_zero (s := Finset.Ico 0 64)
      (fun s hs => by rw [if_neg]; have := Finset.mem_Ico.mp hs; omega), zero_add, Finset.sum_Ico_eq_sum_range]
    refine Finset.sum_congr rfl fun d hd => ?_
    have := Finset.mem_range.mp hd
    rw [if_pos (by omega)]
    congr 1; omega

theorem eighth_nonneg : 0 ≤ Ideal.ofBits FTy.f32 0x3E000000#32 := by
  rw [eighth_eq]; exact_mod_cast (by norm_num : (0 : ℝ) ≤ 1 / 8)

theorem eighth_ne_top : Ideal.ofBits FTy.f32 0x3E000000#32 ≠ ⊤ := by
  rw [eighth_eq]; exact EReal.coe_ne_top _

end Cert.SbMath

namespace Cert.SbIdeal.Hand

open Cert.SbIdeal Cert.SbIdeal.Gen Cert.SbMath

abbrev A3 := FVec Ideal S8x4096x512 .f32

/-- A head's logit. -/
def logit (q k : A3) (b h : Fin 8) (t : Fin 4096) (s : ℕ) : EReal :=
  if hs : s < 4096 then
    (∑ d : Fin 64, q (ix3 b t ⟨h.val * 64 + d.val, Cert.SbRefIdeal.Hand.lane_lt h d⟩)
      * k (ix3 b ⟨s, hs⟩ ⟨h.val * 64 + d.val, Cert.SbRefIdeal.Hand.lane_lt h d⟩)) * Ideal.ofBits FTy.f32 0x3E000000#32
  else 0

/-- A column of the values. -/
def col (v : A3) (b : Fin 8) (l : Fin 512) (s : ℕ) : EReal := if hs : s < 4096 then v (ix3 b ⟨s, hs⟩ l) else 0

/-- The reference's logits. -/
theorem ref_logit (q k : A3) (b h : Fin 8) (t s : Fin 4096) :
    Cert.SbRefIdeal.Hand.zR q k (ix4 b h t s) = logit q k b h t s.val := by
  rw [Cert.SbRefIdeal.Hand.zR_at]
  unfold logit
  rw [dif_pos s.isLt]

/-- The reference's elements. -/
theorem ref_at (q k v : A3) (b h : Fin 8) (t : Fin 4096) (l : Fin 512) (hl : l.val / 64 = h.val) :
    Cert.SbRefIdeal.Hand.outR q k v (ix3 b t l) = acc (logit q k b h t) (col v b l) 0 t.val := by
  have el : l = ⟨h.val * 64 + (⟨l.val % 64, Nat.mod_lt _ (by decide)⟩ : Fin 64).val, Cert.SbRefIdeal.Hand.lane_lt h _⟩ :=
    Fin.ext (by show l.val = h.val * 64 + l.val % 64; omega)
  have e := Cert.SbRefIdeal.Hand.outR_at q k v b h t ⟨l.val % 64, Nat.mod_lt _ (by decide)⟩
  rw [← el] at e
  refine e.trans ?_
  rw [← acc_ref _ _ _ t.isLt]
  refine Finset.sum_congr rfl fun s _ => ?_
  rw [Cert.SbRefIdeal.Hand.aR_at _ b h t (logit q k b h t) (fun s => ref_logit q k b h t s) s]
  unfold col
  rw [dif_pos s.isLt]

variable (m : (ℓ : Loc nD τ sig) → Buf (Elt Ideal) ℓ)

/-- The kernel's logits. -/
theorem logits_of (q k : A3) (x0 : Vec Ideal S1x256x512 .bf16) (x1 : Vec Ideal S512x4096 .bf16) (b : Fin 8)
    (p : Fin 256 → Fin 4096) (h0 : ∀ (r : Fin 256) (l : Fin 512), x0 (ix3 0 r l) = q (ix3 b (p r) l) * Ideal.ofBits FTy.f32 0x3E000000#32)
    (h1 : ∀ (l : Fin 512) (s : Fin 4096), x1 (ix2 l s) = k (ix3 b s l)) :
    Logits x0 x1 (fun h r => logit q k b h (p r)) := by
  intro h r s hs
  have hh := h.isLt
  have hp : h.val % 2 < 2 := Nat.mod_lt _ (by decide)
  let g : ℕ → EReal := fun n => if hn : n < 512 then
    (q (ix3 b (p r) ⟨n, hn⟩) * Ideal.ofBits FTy.f32 0x3E000000#32)
      * k (ix3 b ⟨s, hs⟩ ⟨n, hn⟩) else 0
  have e : ∀ l : Fin 128, (if l.val / 64 = h.val % 2 then x0 (ix3 0 r ⟨128 * (h.val / 2) + l.val, lane_lt h l⟩) else (0 : EReal))
      * x1 (ix2 ⟨128 * (h.val / 2) + l.val, lane_lt h l⟩ ⟨s, hs⟩)
      = if l.val / 64 = h.val % 2 then g (128 * (h.val / 2) + l.val) else 0 := fun l => by
    by_cases h' : l.val / 64 = h.val % 2
    · rw [if_pos h', if_pos h', h0, h1]
      show _ = dite _ _ _
      rw [dif_pos (lane_lt h l)]
    · rw [if_neg h', if_neg h', zero_mul]
  refine (Finset.sum_congr rfl fun l _ => e l).trans ?_
  rw [half_sum g _ _ hp]
  show _ = logit q k b h (p r) s
  unfold logit
  rw [dif_pos hs, show 2 * (h.val / 2) + h.val % 2 = h.val by omega]
  refine Eq.trans ?_ (mul_comm _ _)
  rw [Cert.FfnMath.mul_sum_of_nonneg _ _ eighth_nonneg eighth_ne_top]
  refine Finset.sum_congr rfl fun d _ => ?_
  show dite _ _ _ = _
  rw [dif_pos (Cert.SbRefIdeal.Hand.lane_lt h d), mul_comm (q _) (Ideal.ofBits _ _), mul_assoc]

theorem logits (c : Dev nD) (t : Fin cfg0.N) :
    Logits (iblk m c 0 t) (iblk m c 1 t)
      (fun h r => logit (qA m c) (kA m c) ⟨t.val / 16, batch_lt t⟩ h ⟨t.val % 16 * 256 + r.val, row_lt t r⟩) :=
  logits_of _ _ _ _ _ _ (fun r l => blk0 m c t r l) (fun l s => blk1 m c t l s)

/-- What a point writes back is the reference's block. -/
theorem flushed_eq (c : Dev nD) (t : Fin cfg0.N) (r : Fin 256) (l : Fin 512) :
    (outsAt0 m c t : FVec Ideal S1x256x512 .bf16) (ix3 0 r l)
      = Cert.SbRefIdeal.Hand.outR (qA m c) (kA m c) (vA m c) (ix3 ⟨t.val / 16, batch_lt t⟩ ⟨t.val % 16 * 256 + r.val, row_lt t r⟩ l) := by
  have hl := l.isLt
  have hh : l.val / 64 < 8 := by omega
  rw [ref_at _ _ _ _ ⟨l.val / 64, hh⟩ _ l rfl]
  unfold outsAt0
  rw [out_at]
  show finP _ _ _ _ _ _ _ _ _ _ _ _ _ _ _ _ _ _ _ ⟨l.val / 64, hh⟩ (ix3 0 r ⟨l.val % 128, _⟩) = _
  rw [fin_at _ _ _ _ _ _ _ _ _ _ _ _ _ _ _ _ _ _ _ _ (logits m c t), posQ]
  have ev : vcol (iblk m c 2 t) ⟨l.val / 64, hh⟩ ⟨l.val % 128, Nat.mod_lt _ (by decide)⟩ = col (vA m c) ⟨t.val / 16, batch_lt t⟩ l := by
    funext s
    unfold vcol col
    by_cases hs : s < 4096
    · rw [dif_pos hs, dif_pos hs, blk2]
      refine congrArg (fun z => vA m c (ix3 _ _ z)) (Fin.ext ?_)
      show 128 * (l.val / 64 / 2) + l.val % 128 = l.val
      omega
    · rw [dif_neg hs, dif_neg hs]
  rw [ev]
  show acc _ _ 0 (256 * (t.val % 16) + r.val) = acc _ _ 0 (t.val % 16 * 256 + r.val)
  rw [mul_comm 256]

/-- The result array is the reference's. -/
theorem result_eq (c : Dev nD) :
    (dats m 0 c).arrAt 3 cfg0.N = Cert.SbRefIdeal.Hand.outR (qA m c) (kA m c) (vA m c) :=
  (dats m 0 c).arrAt_eq_of_cover 3 (Cert.SbRefIdeal.Hand.outR (qA m c) (kA m c) (vA m c))
    (fun t hf => by
      rw [Value.flushed3]
      refine funext fun (y : S1x256x512.Idx) => ?_
      obtain ⟨r, k, rfl⟩ : ∃ (r : Fin 256) (k : Fin 512), y = ix3 0 r k :=
        ⟨y 1, y 2, (eq_ix3 y).trans (congrArg (fun z : Fin 1 => ix3 z (y 1) (y 2)) (Subsingleton.elim _ _))⟩
      rw [View.read_apply]
      refine (flushed_eq m c t r k).trans ?_
      refine congrArg (Cert.SbRefIdeal.Hand.outR (qA m c) (kA m c) (vA m c)) (funext fun d => Fin.ext ?_)
      have h := pos3 t
      match d with
      | ⟨0, _⟩ => show t.val / 16 = win0_3.index t (0 : Fin 3) * 1 + 1 * 0; omega
      | ⟨1, _⟩ => show t.val % 16 * 256 + r.val = win0_3.index t (1 : Fin 3) * 256 + 1 * r.val; omega
      | ⟨2, _⟩ => show k.val = win0_3.index t (2 : Fin 3) * 512 + 1 * k.val; omega)
    fun i => by
      have hN : cfg0.N = 128 := N_0
      have h0 : (i 0 : Nat) < 8 := (i 0).isLt
      have h1 : (i 1 : Nat) < 4096 := (i 1).isLt
      have h2 : (i 2 : Nat) < 512 := (i 2).isLt
      have ht : (i 0 : Nat) * 16 + (i 1 : Nat) / 256 < cfg0.N := by omega
      have h := pos3 ⟨(i 0 : Nat) * 16 + (i 1 : Nat) / 256, ht⟩
      refine ⟨⟨(i 0 : Nat) * 16 + (i 1 : Nat) / 256, ht⟩, (by decide +kernel : ∀ t : Fin grid0.N, win0_3.flush t = true) _, ?_⟩
      show i ∈ ((View.whole main_v7).slice (win0_3.rect ⟨(i 0 : Nat) * 16 + (i 1 : Nat) / 256, ht⟩)).set
      rw [View.set_slice_whole, Rect.mem_set_unit]
      dsimp only at h
      intro a
      match a with
      | ⟨0, _⟩ => show win0_3.index _ (0 : Fin 3) * 1 ≤ (i 0 : Nat) ∧ (i 0 : Nat) < win0_3.index _ (0 : Fin 3) * 1 + 1; omega
      | ⟨1, _⟩ => show win0_3.index _ (1 : Fin 3) * 256 ≤ (i 1 : Nat) ∧ (i 1 : Nat) < win0_3.index _ (1 : Fin 3) * 256 + 256; omega
      | ⟨2, _⟩ => show win0_3.index _ (2 : Fin 3) * 512 ≤ (i 2 : Nat) ∧ (i 2 : Nat) < win0_3.index _ (2 : Fin 3) * 512 + 512; omega

end Cert.SbIdeal.Hand

/-! ## The claim -/

namespace Cert.SbProof

open Cert.SbIdeal.Hand Cert.SbMath

theorem algebraic : Cert.algebraic_SbIdeal_SbRefIdeal (hSbIdeal := Cert.SbIdeal.Gen.facts) (hSbRefIdeal := Cert.SbRefIdeal.Gen.facts) :=
  fun m ρ m' ρ' _ hag => ⟨fun c => (Cert.SbIdeal.Gen.dats m 0 c).arrAt 3 Cert.SbIdeal.cfg0.N, Cert.SbIdeal.Value.run_blocks m ρ,
    (θ_run _ _ _).mono (fun _ h c => by
      obtain ⟨a0, a1, a2⟩ := hag c
      refine ⟨(h c).1.trans ?_, (h c).2⟩
      rw [Cert.SbRefIdeal.Hand.out_eq, a0, a1, a2]
      exact (result_eq m c).symm) (Cert.SbRefIdeal.Value.run m' ρ')⟩

end Cert.SbProof
-- ==== Proof.ProjRun.lean ====
/-
  The projection call: what its last two output blocks hold after a grid point, as terms over the blocks the point
  reads. The scaled queries fill the first 512 columns of the one, the values its other 512; the keys, turned on their
  side, fill the other.
-/
module

public import proofs.«01_k».proof.Proof.Gen.ProjIdeal.Value
public import Idealize.ShloMosaic.Lib.Pointwise
public import Idealize.ShloMosaic.Lib.Pipeline.ValueKit
public import Idealize.ShloMosaic.Lib.StableHlo.Run
public import Idealize.ShloMosaic.Lib.StableHlo.RunRead
public import Idealize.ShloMosaic.Lib.Tactic

@[expose] public section

set_option maxRecDepth 16384

noncomputable section

open Idealize.ShloMosaic Idealize.ShloMosaic.TcCoe Idealize.SL.Sem

namespace Cert.ProjIdeal.Hand

open Cert.ProjIdeal Cert.ProjIdeal.Gen

variable {F : FTy → Type} [FloatOps F]

theorem hz : (![0, 0] : Fin 2 → Nat) = fun _ => 0 := funext fun a => by fin_cases a <;> rfl

/-- The two stores into the block of queries and values, the later first. -/
def qvP (x0 : Vec F S1024x1024 .f32) (x2 : Vec F S1x1024 .f32) (x5 : Vec F S1024x1536 .bf16) :
    List (View.Piece (Elt F) S1024x1024 .bf16) :=
  [⟨Rect.unit (s := S1024x1024) ![0, 512] S1024x512.size inb_S1024x1024_S1024x512_0_512, k0_pay5 x0 x2 x5⟩,
    ⟨Rect.unit (s := S1024x1024) ![0, 0] S1024x512.size inb_S1024x1024_S1024x512_0_0, k0_pay4 x0 x2 x5⟩]

section Cases

variable (c : Dev nD) (i : grid0.Coords)
  (arg1 : Memref sig .tc .vmem S1024x1024 .f32) (harg1 : arg1.IsWhole) (arg2 : Memref sig .tc .vmem S1024x1 .i32) (harg2 : arg2.IsWhole)
  (arg3 : Memref sig .tc .vmem S1x1024 .f32) (harg3 : arg3.IsWhole) (arg4 : Memref sig .tc .vmem S1024x512 .bf16) (harg4 : arg4.IsWhole)
  (arg5 : Memref sig .tc .vmem S1024x128 .bf16) (harg5 : arg5.IsWhole) (arg6 : Memref sig .tc .vmem S1024x1536 .bf16) (harg6 : arg6.IsWhole)
  (arg7 : Memref sig .tc .vmem S1x256 .f32) (harg7 : arg7.IsWhole) (arg8 : Memref sig .tc .vmem S256x512 .bf16) (harg8 : arg8.IsWhole)
  (arg9 : Memref sig .tc .vmem S256x512 .bf16) (harg9 : arg9.IsWhole) (arg10 : Memref sig .tc .vmem S1x512 .f32) (harg10 : arg10.IsWhole)
  (arg11 : Memref sig .tc .vmem S1x128 .f32) (harg11 : arg11.IsWhole) (arg12 : Memref sig .tc .vmem S1x128 .f32) (harg12 : arg12.IsWhole)
  (arg13 : Memref sig .tc .vmem S512x512 .bf16) (harg13 : arg13.IsWhole) (arg14 : Memref sig .tc .vmem S512x1024 .bf16) (harg14 : arg14.IsWhole)
  (arg15 : Memref sig .tc .vmem S512x1024 .bf16) (harg15 : arg15.IsWhole) (arg16 : Memref sig .tc .vmem S1024x128 .bf16) (harg16 : arg16.IsWhole)
  (arg17 : Memref sig .tc .vmem S1024x128 .bf16) (harg17 : arg17.IsWhole) (arg18 : Memref sig .tc .vmem S144x1024 .bf16) (harg18 : arg18.IsWhole)
  (arg19 : Memref sig .tc .vmem S128x1024 .f32) (harg19 : arg19.IsWhole) (arg20 : Memref sig .tc .vmem S1024x1024 .bf16) (harg20 : arg20.IsWhole)
  (arg21 : Memref sig .tc .vmem S512x1024 .bf16) (harg21 : arg21.IsWhole)
  (x0 : Vec F S1024x1024 .f32) (x1 : Vec F S1024x1 .i32) (x2 : Vec F S1x1024 .f32) (x3 : Vec F S1024x512 .bf16) (x4 : Vec F S1024x128 .bf16)
  (x5 : Vec F S1024x1536 .bf16) (x6 : Vec F S1x256 .f32) (x7 : Vec F S256x512 .bf16) (x8 : Vec F S256x512 .bf16) (x9 : Vec F S1x512 .f32)
  (x10 : Vec F S1x128 .f32) (x11 : Vec F S1x128 .f32) (x12 : Vec F S512x512 .bf16)

theorem run_qv :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).2.2.2.2.2.2.1
      = qvP x0 x2 x5 := by
  unfold kernelRun0_A qvP
  dsimp only
  simp only [View.readAt_eq_ld, harg1.read_unread, harg3.read_unread, harg6.read_unread,
    View.ld_unit_zero (S := S1024x1024) hz, View.ld_unit_zero (S := S1x1024) hz, View.ld_unit_zero (S := S1024x1536) hz]

/-- The block of keys is one store. -/
theorem out_kb :
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12
      = k0_pay6 x0 x2 x5 := by
  unfold out0_A_20
  rw [View.read_writes_eq_canon _ _ _ (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12)]
  unfold kernelRun0_A
  dsimp only
  rw [View.canon_unit_zero hz]
  simp only [View.readAt_eq_ld, harg1.read_unread, harg3.read_unread, harg6.read_unread,
    View.ld_unit_zero (S := S1024x1024) hz, View.ld_unit_zero (S := S1x1024) hz, View.ld_unit_zero (S := S1024x1536) hz]

end Cases

end Cert.ProjIdeal.Hand
-- ==== Proof.ProjAlg.lean ====
/-
  The projection call: every grid point projects 1024 whole rows. Its queries, values and keys are, element by element,
  the reference's. The queries' scale stands in the weights here and after the projection there; one eighth moves
  through the sum over any rows, the infinite ones as well.
-/
module

public import proofs.«01_k».proof.Defs
public import proofs.«01_k».proof.Proof.ProjRun
public import proofs.«01_k».proof.Proof.SbAlg
public import proofs.«01_k».proof.Proof.Gen.ProjRefIdeal.Run

@[expose] public section

set_option maxRecDepth 16384

noncomputable section

open Idealize.ShloMosaic Idealize.ShloMosaic.TcCoe Idealize.SL.Sem
open Cert.FfnMath (nrm)

/-! ## The reference -/

namespace Cert.ProjRefIdeal.Hand

open Cert.ProjRefIdeal Cert.ProjRefIdeal.Gen

section Any
variable {F : FTy → Type} [FloatOps F]

/-- The reference's normalised rows. -/
def refH (x : Vec F S32768x1024 .f32) (g : Vec F S1024 .f32) : Vec F S32768x1024 .f32 :=
  mulf
    (mulf x
      (broadcastInDim S32768x1024 ![0, 1] bcast_S32768x1_S32768x1024_0_1
        (Host.rsqrt
          (addf
            (Host.divf
              (broadcastInDim S32768x1 ![0] bcast_S32768_S32768x1_0
                (Host.reduceAdd (mulf x x) (constant S_ FTy.f32 0#32) reducesTo_S32768x1024_S32768_d1 h_S_))
              (broadcastInDim S32768x1 ![] bcast_S_S32768x1 (constant S_ FTy.f32 1149239296#32)))
            (broadcastInDim S32768x1 ![] bcast_S_S32768x1 (constant S_ FTy.f32 897988541#32))))))
    (broadcastInDim S32768x1024 ![0, 1] bcast_S1x1024_S32768x1024_0_1
      (broadcastInDim S1x1024 ![1] bcast_S1024_S1x1024_1 g))

/-- The projected rows. -/
def refProj (h : Vec F S32768x1024 .f32) (w : Vec F S1024x4104 .f32) : Vec F S32768x4104 .f32 :=
  Host.dotGeneral (φ₁ := .f32) (φ₂ := .f32) dot_S32768x1024_S1024x4104_S32768x4104_1_0_0_1_n_n none h w

/-- The scaled queries beside the values, from the projected rows. -/
def refQv (p : Vec F S32768x4104 .f32) : Vec F S32768x1024 .bf16 :=
  truncf .bf16 (concatenate S32768x1024 1
    [⟨S32768x512, mulf (extractStridedSlice S32768x512 ![0, 520] p slices_S32768x4104_S32768x512_0_520)
        (broadcastInDim S32768x512 ![] bcast_S_S32768x512 (constant S_ .f32 0x3E000000#32))⟩,
      ⟨S32768x512, extractStridedSlice S32768x512 ![0, 1544] p slices_S32768x4104_S32768x512_0_1544⟩]
    concatenates_S32768x512_S32768x512_S32768x1024_d1) bitsLt_bf16_f32

/-- The keys, one column a row, from the projected rows. -/
def refKb (p : Vec F S32768x4104 .f32) : Vec F S512x32768 .bf16 :=
  truncf .bf16 (transpose S512x32768 [1, 0] (extractStridedSlice S32768x512 ![0, 1032] p slices_S32768x4104_S32768x512_0_1032)
    transposes_S32768x512_S512x32768_1_0) bitsLt_bf16_f32
end Any

theorem refH_at (x : Vec Ideal S32768x1024 .f32) (g : Vec Ideal S1024 .f32) (r : Fin 32768) (k : Fin 1024) :
    refH x g (ix2 r k) = nrm (fun k => x (ix2 r k)) (fun k => g (ix1 k)) k := by
  pointwise [refH]
  rfl

theorem refProj_at (h : Vec Ideal S32768x1024 .f32) (w : Vec Ideal S1024x4104 .f32) (r : Fin 32768) (j : Fin 4104) :
    refProj h w (ix2 r j) = ∑ k : Fin 1024, h (ix2 r k) * w (ix2 k j) := by
  pointwise [refProj]

/-- One projected element over the rows. -/
def prj (x : Vec Ideal S32768x1024 .f32) (g : Vec Ideal S1024 .f32) (w : Vec Ideal S1024x4104 .f32) (r : Fin 32768) (j : Fin 4104) : EReal :=
  ∑ k : Fin 1024, nrm (fun k => x (ix2 r k)) (fun k => g (ix1 k)) k * w (ix2 k j)

theorem proj_at (x : Vec Ideal S32768x1024 .f32) (g : Vec Ideal S1024 .f32) (w : Vec Ideal S1024x4104 .f32) (r : Fin 32768) (j : Fin 4104) :
    refProj (refH x g) w (ix2 r j) = prj x g w r j := by
  rw [refProj_at]
  exact Finset.sum_congr rfl fun k _ => by rw [refH_at]

theorem refQv_left (p : Vec Ideal S32768x4104 .f32) (r : Fin 32768) (l : Fin 512) (hl : l.val < 1024) :
    refQv p (ix2 r ⟨l.val, hl⟩) = p (ix2 r ⟨520 + l.val, by omega⟩) * Ideal.ofBits FTy.f32 0x3E000000#32 := by
  have h := l.isLt
  pointwise [refQv]

theorem refQv_right (p : Vec Ideal S32768x4104 .f32) (r : Fin 32768) (l : Fin 512) (hl : 512 + l.val < 1024) :
    refQv p (ix2 r ⟨512 + l.val, hl⟩) = p (ix2 r ⟨1544 + l.val, by omega⟩) := by
  have h := l.isLt
  pointwise [refQv]

theorem refKb_at (p : Vec Ideal S32768x4104 .f32) (r : Fin 32768) (l : Fin 512) :
    refKb p (ix2 l r) = p (ix2 r ⟨1032 + l.val, by omega⟩) := by
  pointwise [refKb]

end Cert.ProjRefIdeal.Hand

/-! ## The kernel -/

namespace Cert.ProjIdeal.Hand

open Cert.ProjIdeal Cert.ProjIdeal.Gen Cert.ProjRefIdeal.Hand

/-- A projected element of a point's rows. -/
def bprj (x0 : Vec Ideal S1024x1024 .f32) (x2 : Vec Ideal S1x1024 .f32) (x5 : Vec Ideal S1024x1536 .bf16) (r : Fin 1024) (j : Fin 1536) : EReal :=
  ∑ k : Fin 1024, nrm (fun k => x0 (ix2 r k)) (fun k => x2 (ix2 0 k)) k * x5 (ix2 k j)

theorem pay3_at (x0 : Vec Ideal S1024x1024 .f32) (x2 : Vec Ideal S1x1024 .f32) (x5 : Vec Ideal S1024x1536 .bf16) (r : Fin 1024) (j : Fin 1536) :
    (k0_pay3 x0 x2 x5 : Vec Ideal S1024x1536 .f32) (ix2 r j) = bprj x0 x2 x5 r j := by
  pointwise [k0_pay3, k0_pay2]
  rfl

theorem pay4_at (x0 : Vec Ideal S1024x1024 .f32) (x2 : Vec Ideal S1x1024 .f32) (x5 : Vec Ideal S1024x1536 .bf16) (r : Fin 1024) (l : Fin 512) :
    (k0_pay4 x0 x2 x5 : Vec Ideal S1024x512 .bf16) (ix2 r l) = bprj x0 x2 x5 r ⟨l.val, by omega⟩ := by
  rw [← pay3_at]
  unfold k0_pay4
  generalize k0_pay3 x0 x2 x5 = z
  pointwise

theorem pay5_at (x0 : Vec Ideal S1024x1024 .f32) (x2 : Vec Ideal S1x1024 .f32) (x5 : Vec Ideal S1024x1536 .bf16) (r : Fin 1024) (l : Fin 512) :
    (k0_pay5 x0 x2 x5 : Vec Ideal S1024x512 .bf16) (ix2 r l) = bprj x0 x2 x5 r ⟨1024 + l.val, by omega⟩ := by
  rw [← pay3_at]
  unfold k0_pay5
  generalize k0_pay3 x0 x2 x5 = z
  pointwise

theorem pay6_at (x0 : Vec Ideal S1024x1024 .f32) (x2 : Vec Ideal S1x1024 .f32) (x5 : Vec Ideal S1024x1536 .bf16) (r : Fin 1024) (l : Fin 512) :
    (k0_pay6 x0 x2 x5 : Vec Ideal S512x1024 .bf16) (ix2 l r) = bprj x0 x2 x5 r ⟨512 + l.val, by omega⟩ := by
  rw [← pay3_at]
  unfold k0_pay6
  generalize k0_pay3 x0 x2 x5 = z
  pointwise

variable (m : (ℓ : Loc nD τ sig) → Buf (Elt Ideal) ℓ)

abbrev xT (c : Dev nD) : Vec Ideal S32768x1024 .f32 := m ((c : Thread nD τ).loc main_arg0)
abbrev gT (c : Dev nD) : Vec Ideal S1024 .f32 :=
  shapeCast S1024 (m ((c : Thread nD τ).loc main_arg2) : Vec Ideal S1x1024 .f32) shapeCasts_S1x1024_S1024
abbrev wT (c : Dev nD) : Vec Ideal S1024x4104 .f32 :=
  shapeCast S1024x4104 (m ((c : Thread nD τ).loc main_arg3) : Vec Ideal S1x1024x4104 .f32) shapeCasts_S1x1024x4104_S1024x4104

/-- The weights the host prepares: the queries' columns times one eighth, then the keys' and the values'. -/
def wqkv (w : Vec Ideal S1024x4104 .f32) : Vec Ideal S1024x1536 .bf16 :=
  truncf (F := Ideal) .bf16 (concatenate S1024x1536 1
    [⟨S1024x512, mulf (extractStridedSlice S1024x512 ![0, 520] w slices_S1024x4104_S1024x512_0_520)
        (broadcastInDim S1024x512 ![] bcast_S_S1024x512 (constant S_ .f32 0x3E000000#32))⟩,
      ⟨S1024x1024, extractStridedSlice S1024x1024 ![0, 1032] w slices_S1024x4104_S1024x1024_0_1032⟩]
    concatenates_S1024x512_S1024x1024_S1024x1536_d1) bitsLt_bf16_f32

theorem wqkv_q (w : Vec Ideal S1024x4104 .f32) (k : Fin 1024) (l : Fin 512) (hl : l.val < 1536) :
    wqkv w (ix2 k ⟨l.val, hl⟩) = w (ix2 k ⟨520 + l.val, by omega⟩) * Ideal.ofBits FTy.f32 0x3E000000#32 := by
  have h := l.isLt
  pointwise [wqkv]

theorem wqkv_kv (w : Vec Ideal S1024x4104 .f32) (k l : Fin 1024) (hl : 512 + l.val < 1536) :
    wqkv w (ix2 k ⟨512 + l.val, hl⟩) = w (ix2 k ⟨1032 + l.val, by omega⟩) := by
  have h := l.isLt
  pointwise [wqkv]

theorem V_v45 (c : Dev nD) : V m c main_v45 = shapeCast S1x1024 (gT m c) shapeCasts_S1024_S1x1024 := by
  unfold V; after_reads_simp; rfl

theorem V_v15 (c : Dev nD) : V m c main_v15 = wqkv (wT m c) := by
  unfold V; after_reads_simp; rfl

theorem pos0 : ∀ t : Fin grid0.N, win0_0.index t (0 : Fin 2) = t.val ∧ win0_0.index t (1 : Fin 2) = 0 := by decide +kernel
theorem pos2 : ∀ t : Fin grid0.N, win0_2.index t (0 : Fin 2) = 0 ∧ win0_2.index t (1 : Fin 2) = 0 := by decide +kernel
theorem pos5 : ∀ t : Fin grid0.N, win0_5.index t (0 : Fin 2) = 0 ∧ win0_5.index t (1 : Fin 2) = 0 := by decide +kernel
theorem pos19 : ∀ t : Fin grid0.N, win0_19.index t (0 : Fin 2) = t.val ∧ win0_19.index t (1 : Fin 2) = 0 := by decide +kernel
theorem pos20 : ∀ t : Fin grid0.N, win0_20.index t (0 : Fin 2) = 0 ∧ win0_20.index t (1 : Fin 2) = t.val := by decide +kernel

theorem lt_rows (t : Fin cfg0.N) (a : Fin 1024) : t.val * 1024 + a.val < 32768 := by
  have := t.isLt; have h : cfg0.N = 32 := N_0; omega

theorem blk0 (c : Dev nD) (t : Fin cfg0.N) (a b : Fin 1024) :
    (iblk m c 0 t : Vec Ideal S1024x1024 .f32) (ix2 a b) = xT m c (ix2 ⟨t.val * 1024 + a.val, lt_rows t a⟩ b) := by
  have h := pos0 t
  unfold iblk
  rw [View.read_apply]
  show V m c main_arg0 _ = _
  rw [V_main_arg0]
  refine congrArg (xT m c) (funext fun d => Fin.ext ?_)
  match d with
  | ⟨0, _⟩ => show win0_0.index t (0 : Fin 2) * 1024 + 1 * a.val = t.val * 1024 + a.val; omega
  | ⟨1, _⟩ => show win0_0.index t (1 : Fin 2) * 1024 + 1 * b.val = b.val; omega

theorem blk2 (c : Dev nD) (t : Fin cfg0.N) (b : Fin 1024) :
    (iblk m c 2 t : Vec Ideal S1x1024 .f32) (ix2 0 b) = gT m c (ix1 b) := by
  have h := pos2 t
  have e : (shapeCast S1x1024 (gT m c) shapeCasts_S1024_S1x1024 : Vec Ideal S1x1024 .f32) (ix2 0 b) = gT m c (ix1 b) := by
    generalize gT m c = g
    pointwise
  rw [← e]
  unfold iblk
  rw [View.read_apply]
  show V m c main_v45 _ = _
  rw [V_v45]
  refine congrArg (shapeCast S1x1024 (gT m c) shapeCasts_S1024_S1x1024 : Vec Ideal S1x1024 .f32) (funext fun d => Fin.ext ?_)
  match d with
  | ⟨0, _⟩ => show win0_2.index t (0 : Fin 2) * 1 + 1 * 0 = 0; omega
  | ⟨1, _⟩ => show win0_2.index t (1 : Fin 2) * 1024 + 1 * b.val = b.val; omega

theorem blk5 (c : Dev nD) (t : Fin cfg0.N) (a : Fin 1024) (b : Fin 1536) :
    (iblk m c 5 t : Vec Ideal S1024x1536 .bf16) (ix2 a b) = wqkv (wT m c) (ix2 a b) := by
  have h := pos5 t
  unfold iblk
  rw [View.read_apply]
  show V m c main_v15 _ = _
  rw [V_v15]
  refine congrArg (wqkv (wT m c)) (funext fun d => Fin.ext ?_)
  match d with
  | ⟨0, _⟩ => show win0_5.index t (0 : Fin 2) * 1024 + 1 * a.val = a.val; omega
  | ⟨1, _⟩ => show win0_5.index t (1 : Fin 2) * 1536 + 1 * b.val = b.val; omega

/-! ## The projected elements -/

/-- A projected element over this call's arrays. -/
abbrev P (c : Dev nD) (r : Fin 32768) (j : Fin 4104) : EReal := prj (xT m c) (gT m c) (wT m c) r j

/-- A projected element of a point's rows over its blocks. -/
abbrev B (c : Dev nD) (t : Fin cfg0.N) (r : Fin 1024) (j : Fin 1536) : EReal :=
  bprj (iblk m c 0 t) (iblk m c 2 t) (iblk m c 5 t) r j

theorem B_eq (c : Dev nD) (t : Fin cfg0.N) (r : Fin 1024) (j : Fin 1536) :
    B m c t r j = ∑ k : Fin 1024, nrm (fun k => xT m c (ix2 ⟨t.val * 1024 + r.val, lt_rows t r⟩ k)) (fun k => gT m c (ix1 k)) k * wqkv (wT m c) (ix2 k j) := by
  unfold B bprj
  simp only [blk0, blk2, blk5]

/-- A query: the scale leaves the sum. -/
theorem B_q (c : Dev nD) (t : Fin cfg0.N) (r : Fin 1024) (l : Fin 512) (hl : l.val < 1536) :
    B m c t r ⟨l.val, hl⟩ = P m c ⟨t.val * 1024 + r.val, lt_rows t r⟩ ⟨520 + l.val, by omega⟩ * Ideal.ofBits FTy.f32 0x3E000000#32 := by
  rw [B_eq]
  refine Eq.trans ?_ (mul_comm _ _)
  unfold P prj
  rw [Cert.FfnMath.mul_sum_of_nonneg _ _ Cert.SbMath.eighth_nonneg Cert.SbMath.eighth_ne_top]
  refine Finset.sum_congr rfl fun k _ => ?_
  rw [wqkv_q, ← mul_assoc]
  exact mul_comm _ _

theorem B_kv (c : Dev nD) (t : Fin cfg0.N) (r l : Fin 1024) (hl : 512 + l.val < 1536) :
    B m c t r ⟨512 + l.val, hl⟩ = P m c ⟨t.val * 1024 + r.val, lt_rows t r⟩ ⟨1032 + l.val, by omega⟩ := by
  rw [B_eq]
  unfold P prj
  refine Finset.sum_congr rfl fun k _ => ?_
  rw [wqkv_kv]

/-! ## The result arrays -/

/-- The reference's queries and values over this call's arrays. -/
abbrev qvR (c : Dev nD) : Vec Ideal S32768x1024 .bf16 := refQv (refProj (refH (F := Ideal) (xT m c) (gT m c)) (wT m c))

/-- The reference's keys over this call's arrays. -/
abbrev kbR (c : Dev nD) : Vec Ideal S512x32768 .bf16 := refKb (refProj (refH (F := Ideal) (xT m c) (gT m c)) (wT m c))

/-- What a point leaves in its block of queries and values: the reference's rows. -/
def qvBlk (c : Dev nD) (t : Fin cfg0.N) (y : S1024x1024.Idx) : EReal :=
  qvR m c (ix2 ⟨t.val * 1024 + (y (0 : Fin 2)).val, lt_rows t (y (0 : Fin 2))⟩ (y (1 : Fin 2)))

theorem qvP_at (c : Dev nD) (t : Fin cfg0.N) :
    ∀ p ∈ qvP (F := Ideal) (iblk m c 0 t) (iblk m c 2 t) (iblk m c 5 t), ∀ x : p.1.shape.Idx, p.2 x = qvBlk m c t (p.1.emb x) := by
  intro p hp
  simp only [qvP, List.mem_cons, List.not_mem_nil, or_false] at hp
  rcases hp with rfl | rfl
  · intro (x : S1024x512.Idx)
    obtain ⟨r, l, rfl⟩ : ∃ (r : Fin 1024) (l : Fin 512), x = ix2 r l := ⟨x 0, x 1, eq_ix2 x⟩
    have hl := l.isLt
    have e : (Rect.unit (s := S1024x1024) ![0, 512] S1024x512.size inb_S1024x1024_S1024x512_0_512).emb (ix2 r l) = ix2 r ⟨512 + l.val, by omega⟩ := by
      refine funext fun d => Fin.ext ?_
      match d with
      | ⟨0, _⟩ => show 0 + 1 * r.val = r.val; omega
      | ⟨1, _⟩ => show 512 + 1 * l.val = 512 + l.val; omega
    refine (pay5_at _ _ _ r l).trans ?_
    refine Eq.trans ?_ (congrArg (qvBlk m c t) e).symm
    show _ = qvR m c (ix2 ⟨t.val * 1024 + r.val, lt_rows t r⟩ ⟨512 + l.val, by omega⟩)
    unfold qvR
    rw [refQv_right, proj_at]
    have e1 : (⟨1024 + l.val, by omega⟩ : Fin 1536) = ⟨512 + (⟨512 + l.val, by omega⟩ : Fin 1024).val, by show 512 + (512 + l.val) < 1536; omega⟩ :=
      Fin.ext (by show 1024 + l.val = 512 + (512 + l.val); omega)
    rw [e1]
    refine (B_kv m c t r ⟨512 + l.val, by omega⟩ _).trans ?_
    exact congrArg (P m c _) (Fin.ext (by show 1032 + (512 + l.val) = 1544 + l.val; omega))
  · intro (x : S1024x512.Idx)
    obtain ⟨r, l, rfl⟩ : ∃ (r : Fin 1024) (l : Fin 512), x = ix2 r l := ⟨x 0, x 1, eq_ix2 x⟩
    have hl := l.isLt
    have e : (Rect.unit (s := S1024x1024) ![0, 0] S1024x512.size inb_S1024x1024_S1024x512_0_0).emb (ix2 r l) = ix2 r ⟨l.val, by omega⟩ := by
      refine funext fun d => Fin.ext ?_
      match d with
      | ⟨0, _⟩ => show 0 + 1 * r.val = r.val; omega
      | ⟨1, _⟩ => show 0 + 1 * l.val = l.val; omega
    refine (pay4_at _ _ _ r l).trans ?_
    refine Eq.trans ?_ (congrArg (qvBlk m c t) e).symm
    show _ = qvR m c (ix2 ⟨t.val * 1024 + r.val, lt_rows t r⟩ ⟨l.val, by omega⟩)
    unfold qvR
    rw [refQv_left, proj_at]
    exact B_q m c t r l _

/-- The block of queries and values a point leaves. -/
theorem qv_at (c : Dev nD) (t : Fin cfg0.N) (y : S1024x1024.Idx) :
    ((outsAt0 m c t).2.2.2.2.2.2.1 : Vec Ideal S1024x1024 .bf16) y = qvBlk m c t y := by
  unfold outsAt0
  dsimp only
  unfold out0_A_19
  refine View.read_writes_apply_of_pieces _ _ _ _ ?_ y (cover0_A_19 (F := Ideal) c (grid0.coords t) _ _ _ _ _ _ _ _ _ _ _ _ _ _ _ _ _ _ _ _ _ _ _ _ _ _ _ _ _ _ _ _ _ _ _ _ _ _ _ _ _ _ _ _ _ _ _ _ _ _ _ _ _ _ _ y)
  rw [run_qv]
  exact qvP_at m c t

/-- The block of keys a point leaves. -/
theorem kb_at (c : Dev nD) (t : Fin cfg0.N) (l : Fin 512) (r : Fin 1024) :
    ((outsAt0 m c t).2.2.2.2.2.2.2 : Vec Ideal S512x1024 .bf16) (ix2 l r) = kbR m c (ix2 l ⟨t.val * 1024 + r.val, lt_rows t r⟩) := by
  unfold outsAt0
  dsimp only
  unfold kbR
  rw [out_kb, refKb_at, proj_at]
  have hl := l.isLt
  refine (pay6_at _ _ _ r l).trans ?_
  exact B_kv m c t r ⟨l.val, by omega⟩ _

/-- The array of queries and values is the reference's. -/
theorem qv_eq (c : Dev nD) : (dats m 0 c).arrAt 19 cfg0.N = qvR m c :=
  (dats m 0 c).arrAt_eq_of_cover 19 (qvR m c)
    (fun t hf => by
      rw [Value.flushed19]
      refine funext fun (y : S1024x1024.Idx) => ?_
      rw [View.read_apply]
      refine (qv_at m c t y).trans ?_
      unfold qvBlk
      refine congrArg (qvR m c) (funext fun d => Fin.ext ?_)
      have h := pos19 t
      match d with
      | ⟨0, _⟩ => show t.val * 1024 + (y (0 : Fin 2)).val = win0_19.index t (0 : Fin 2) * 1024 + 1 * (y (0 : Fin 2)).val; omega
      | ⟨1, _⟩ => show (y (1 : Fin 2)).val = win0_19.index t (1 : Fin 2) * 1024 + 1 * (y (1 : Fin 2)).val; omega)
    fun i => by
      have hN : cfg0.N = 32 := N_0
      have h0 : (i 0 : Nat) < 32768 := (i 0).isLt
      have h1 : (i 1 : Nat) < 1024 := (i 1).isLt
      have ht : (i 0 : Nat) / 1024 < cfg0.N := by omega
      have h := pos19 ⟨(i 0 : Nat) / 1024, ht⟩
      refine ⟨⟨(i 0 : Nat) / 1024, ht⟩, (by decide +kernel : ∀ t : Fin grid0.N, win0_19.flush t = true) _, ?_⟩
      show i ∈ ((View.whole main_v47_6).slice (win0_19.rect ⟨(i 0 : Nat) / 1024, ht⟩)).set
      rw [View.set_slice_whole, Rect.mem_set_unit]
      dsimp only at h
      intro a
      match a with
      | ⟨0, _⟩ => show win0_19.index _ (0 : Fin 2) * 1024 ≤ (i 0 : Nat) ∧ (i 0 : Nat) < win0_19.index _ (0 : Fin 2) * 1024 + 1024; omega
      | ⟨1, _⟩ => show win0_19.index _ (1 : Fin 2) * 1024 ≤ (i 1 : Nat) ∧ (i 1 : Nat) < win0_19.index _ (1 : Fin 2) * 1024 + 1024; omega

/-- The array of keys is the reference's. -/
theorem kb_eq (c : Dev nD) : (dats m 0 c).arrAt 20 cfg0.N = kbR m c :=
  (dats m 0 c).arrAt_eq_of_cover 20 (kbR m c)
    (fun t hf => by
      rw [Value.flushed20]
      refine funext fun (y : S512x1024.Idx) => ?_
      obtain ⟨l, r, rfl⟩ : ∃ (l : Fin 512) (r : Fin 1024), y = ix2 l r := ⟨y 0, y 1, eq_ix2 y⟩
      rw [View.read_apply]
      refine (kb_at m c t l r).trans ?_
      refine congrArg (kbR m c) (funext fun d => Fin.ext ?_)
      have h := pos20 t
      match d with
      | ⟨0, _⟩ => show l.val = win0_20.index t (0 : Fin 2) * 512 + 1 * l.val; omega
      | ⟨1, _⟩ => show t.val * 1024 + r.val = win0_20.index t (1 : Fin 2) * 1024 + 1 * r.val; omega)
    fun i => by
      have hN : cfg0.N = 32 := N_0
      have h0 : (i 0 : Nat) < 512 := (i 0).isLt
      have h1 : (i 1 : Nat) < 32768 := (i 1).isLt
      have ht : (i 1 : Nat) / 1024 < cfg0.N := by omega
      have h := pos20 ⟨(i 1 : Nat) / 1024, ht⟩
      refine ⟨⟨(i 1 : Nat) / 1024, ht⟩, (by decide +kernel : ∀ t : Fin grid0.N, win0_20.flush t = true) _, ?_⟩
      show i ∈ ((View.whole main_v47_7).slice (win0_20.rect ⟨(i 1 : Nat) / 1024, ht⟩)).set
      rw [View.set_slice_whole, Rect.mem_set_unit]
      dsimp only at h
      intro a
      match a with
      | ⟨0, _⟩ => show win0_20.index _ (0 : Fin 2) * 512 ≤ (i 0 : Nat) ∧ (i 0 : Nat) < win0_20.index _ (0 : Fin 2) * 512 + 512; omega
      | ⟨1, _⟩ => show win0_20.index _ (1 : Fin 2) * 1024 ≤ (i 1 : Nat) ∧ (i 1 : Nat) < win0_20.index _ (1 : Fin 2) * 1024 + 1024; omega

end Cert.ProjIdeal.Hand

/-! ## The claim -/

namespace Cert.ProjProof

open Cert.ProjIdeal.Hand Cert.ProjRefIdeal.Hand

theorem algebraic : Cert.algebraic_ProjIdeal_ProjRefIdeal (hProjIdeal := Cert.ProjIdeal.Gen.facts) (hProjRefIdeal := Cert.ProjRefIdeal.Gen.facts) :=
  fun m ρ m' ρ' _ hag => ⟨fun c => (Cert.ProjIdeal.Gen.dats m 0 c).arrAt 19 Cert.ProjIdeal.cfg0.N,
    fun c => (Cert.ProjIdeal.Gen.dats m 0 c).arrAt 20 Cert.ProjIdeal.cfg0.N,
    (θ_run _ _ _).mono (fun _ h c => (h c).2.2.2.2.2.2) (Cert.ProjIdeal.Value.run_blocks m ρ),
    (θ_run _ _ _).mono (fun _ h c => by
      obtain ⟨a0, a1, a2, a3, a4, a5, a6, a7, a8⟩ := hag c
      refine ⟨(h c).1.trans ?_, (h c).2.1.trans ?_, (h c).2.2⟩
      · rw [a0, a2, a3]
        refine Eq.trans ?_ (qv_eq m c).symm
        unfold qvR refQv refProj refH
        rfl
      · rw [a0, a2, a3]
        refine Eq.trans ?_ (kb_eq m c).symm
        unfold kbR refKb refProj refH
        rfl) (Cert.ProjRefIdeal.Value.run m' ρ')⟩

end Cert.ProjProof
-- ==== Proof.lean ====
/-
  The claim of this certificate, put together: the frame of the top-k attention call (Proof/DsaFrame.lean), the frames of
  the feed-forward, merge, stick-breaking and projection calls and of their references, and the four value claims
  (Proof/FfnAlg.lean, Proof/MergeAlg.lean, Proof/SbAlg.lean, Proof/ProjAlg.lean).
-/
module

public import proofs.«01_k».proof.Defs
public import proofs.«01_k».proof.Proof.DsaFrame
public import proofs.«01_k».proof.Proof.FfnAlg
public import proofs.«01_k».proof.Proof.MergeAlg
public import proofs.«01_k».proof.Proof.SbAlg
public import proofs.«01_k».proof.Proof.ProjAlg
public import proofs.«01_k».proof.Proof.Gen.Ffn.Frame
public import proofs.«01_k».proof.Proof.Gen.FfnIdeal.Frame
public import proofs.«01_k».proof.Proof.Gen.Merge.Frame
public import proofs.«01_k».proof.Proof.Gen.MergeIdeal.Frame
public import proofs.«01_k».proof.Proof.Gen.FfnRefIdeal.Run
public import proofs.«01_k».proof.Proof.Gen.MergeRefIdeal.Run
public import proofs.«01_k».proof.Proof.Gen.Sb.Frame
public import proofs.«01_k».proof.Proof.Gen.SbIdeal.Value
public import proofs.«01_k».proof.Proof.Gen.SbRefIdeal.Run
public import proofs.«01_k».proof.Proof.Gen.Proj.Frame
public import proofs.«01_k».proof.Proof.Gen.ProjIdeal.Value
public import proofs.«01_k».proof.Proof.Gen.ProjRefIdeal.Run

@[expose] public section

noncomputable section

open Idealize.ShloMosaic Idealize.ShloMosaic.TcCoe Idealize.SL.Sem

namespace Cert.Proof

/-- The feed-forward reference is host operations alone: its run keeps the arguments, and it declares no semaphore. -/
theorem frame_ffnRef : Cert.quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The merge reference is host operations alone: its run keeps the arguments, and it declares no semaphore. -/
theorem frame_mergeRef : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The stick-breaking reference likewise. -/
theorem frame_sbRef : Cert.quiescent_SbRefIdeal (hSbRefIdeal := Cert.SbRefIdeal.Gen.facts) := fun m ρ _ =>
  (θ_run Cert.SbRefIdeal.defs _ _).mono (fun r h => ⟨fun c => (h c).2, sem_eq_zero_of_no_sems (by decide) r.2⟩)
    (Cert.SbRefIdeal.Value.run (F := Ideal) m ρ)

/-- The projection reference likewise. -/
theorem frame_projRef : Cert.quiescent_ProjRefIdeal (hProjRefIdeal := Cert.ProjRefIdeal.Gen.facts) := fun m ρ _ =>
  (θ_run Cert.ProjRefIdeal.defs _ _).mono (fun r h => ⟨fun c => (h c).2.2, sem_eq_zero_of_no_sems (by decide) r.2⟩)
    (Cert.ProjRefIdeal.Value.run (F := Ideal) m ρ)

/-- The two named constants of the stick-breaking call have the values they are named for. -/
theorem preserves_sb : Cert.preserves_Sb_SbIdeal :=
  ⟨IdealRules.named_const.statement Cert.SbIdeal.κ "neg_log2e" .f32 0xBFB8AA3B#32 ((-((Real.log 2)⁻¹) : ℝ) : EReal) rfl,
    IdealRules.named_const.statement Cert.SbIdeal.κ "log2e" .f32 0x3FB8AA3B#32 (((Real.log 2)⁻¹ : ℝ) : EReal) rfl⟩

/-- Everything that is claimed. -/
theorem claim : Cert.Claim :=
  ⟨Cert.Dsa.Gen.facts, Cert.Ffn.Gen.facts, Cert.FfnIdeal.Gen.facts, Cert.FfnRefIdeal.Gen.facts, Cert.Merge.Gen.facts,
    Cert.MergeIdeal.Gen.facts, Cert.MergeRefIdeal.Gen.facts,
    Cert.Sb.Gen.facts, Cert.SbIdeal.Gen.facts, Cert.SbRefIdeal.Gen.facts,
    Cert.Proj.Gen.facts, Cert.ProjIdeal.Gen.facts, Cert.ProjRefIdeal.Gen.facts,
    fun m ρ _ => Cert.Proof.Dsa.frame_dsa m ρ,
    fun m ρ _ => Cert.Ffn.Gen.frame m ρ, fun m ρ _ => Cert.FfnIdeal.Gen.frame m ρ, frame_ffnRef,
    fun m ρ _ => Cert.Merge.Gen.frame m ρ, fun m ρ _ => Cert.MergeIdeal.Gen.frame m ρ, frame_mergeRef,
    fun m ρ _ => Cert.Sb.Gen.frame m ρ, fun m ρ _ => Cert.SbIdeal.Gen.frame m ρ, frame_sbRef,
    fun m ρ _ => Cert.Proj.Gen.frame m ρ, fun m ρ _ => Cert.ProjIdeal.Gen.frame m ρ, frame_projRef,
    trivial, Cert.FfnProof.algebraic, trivial, Cert.MergeProof.algebraic, preserves_sb, Cert.SbProof.algebraic,
    trivial, Cert.ProjProof.algebraic⟩

end Cert.Proof

end
